-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_v244) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1x14x14 : Shape := ⟨4, ![4096, 1, 14, 14]⟩
abbrev S4096x196 : Shape := ⟨2, ![4096, 196]⟩
abbrev S_ : Shape := ⟨0, ![]⟩
abbrev S4096x256 : Shape := ⟨2, ![4096, 256]⟩
abbrev S32x128x256 : Shape := ⟨3, ![32, 128, 256]⟩
abbrev S128x256 : Shape := ⟨2, ![128, 256]⟩
abbrev S25232 : Shape := ⟨1, ![25232]⟩
abbrev S1x128x256 : Shape := ⟨3, ![1, 128, 256]⟩
abbrev S16 : Shape := ⟨1, ![16]⟩
abbrev S1x16 : Shape := ⟨2, ![1, 16]⟩

abbrev nBuf : Table → Nat
  | .hbm => 14
  | .local .scVector .vmem => 3
  | _ => 0

abbrev bufTy : (tb : Table) → Fin (nBuf tb) → BufTy
  | .hbm, ⟨0, _⟩ => ⟨S4096x1x14x14, .f32⟩
  | .hbm, ⟨1, _⟩ => ⟨S4096x196, .f32⟩
  | .hbm, ⟨2, _⟩ => ⟨S_, .i32⟩
  | .hbm, ⟨3, _⟩ => ⟨S_, .f32⟩
  | .hbm, ⟨4, _⟩ => ⟨S4096x256, .f32⟩
  | .hbm, ⟨5, _⟩ => ⟨S32x128x256, .f32⟩
  | .hbm, ⟨6, _⟩ => ⟨S32x128x256, .f32⟩
  | .hbm, ⟨7, _⟩ => ⟨S32x128x256, .f32⟩
  | .hbm, ⟨8, _⟩ => ⟨S4096x256, .f32⟩
  | .hbm, ⟨9, _⟩ => ⟨S4096x196, .f32⟩
  | .hbm, ⟨10, _⟩ => ⟨S4096x1x14x14, .f32⟩
  | .hbm, ⟨11, _⟩ => ⟨S4096x256, .f32⟩
  | .hbm, ⟨12, _⟩ => ⟨S4096x196, .f32⟩
  | .hbm, ⟨13, _⟩ => ⟨S4096x1x14x14, .f32⟩
  | .local .scVector .vmem, ⟨0, _⟩ => ⟨S128x256, .f32⟩
  | .local .scVector .vmem, ⟨1, _⟩ => ⟨S128x256, .f32⟩
  | .local .scVector .vmem, ⟨2, _⟩ => ⟨S25232, .f32⟩
  | _, _ => ⟨S4096x1x14x14, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r0 : BitVec 32 := 0#32
  let c0_i32_15_r0 : BitVec 32 := 0#32
  ![v1.toNat, 0, 0]
@[reducible] def k0_t1_loop : Scf.Loop 32 :=
  let c0_i32_0 : BitVec 32 := 0#32
  let c128_i32 : BitVec 32 := 128#32
  let v3 : BitVec 32 := Scalar.addi c0_i32_0 c128_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v37 : Index := Scalar.indexCast arg8
  let c0 : Index := 0#32
  ![v37.toNat, 0]

def k0_chk1 (v41 : IVec S16 32) : Prop :=
  (∀ a x, ((![v41] : Fin 1 → IVec S16 32) a x).toNat < S25232.size a)
theorem k0_idx1_inb : ∀ (v41 : IVec S16 32) (k0_hw1 : k0_chk1 v41), ∀ a x, ((![v41] : Fin 1 → IVec S16 32) a x).toNat < S25232.size a := fun v41 k0_hw1 => k0_hw1
def k0_off3 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v42 : Index := Scalar.indexCast arg8
  let c16 : Index := 16#32
  ![v42.toNat, 16]

def k0_chk2 (v46 : IVec S16 32) : Prop :=
  (∀ a x, ((![v46] : Fin 1 → IVec S16 32) a x).toNat < S25232.size a)
theorem k0_idx2_inb : ∀ (v46 : IVec S16 32) (k0_hw2 : k0_chk2 v46), ∀ a x, ((![v46] : Fin 1 → IVec S16 32) a x).toNat < S25232.size a := fun v46 k0_hw2 => k0_hw2
def k0_off4 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v47 : Index := Scalar.indexCast arg8
  let c32 : Index := 32#32
  ![v47.toNat, 32]

def k0_chk3 (v51 : IVec S16 32) : Prop :=
  (∀ a x, ((![v51] : Fin 1 → IVec S16 32) a x).toNat < S25232.size a)
theorem k0_idx3_inb : ∀ (v51 : IVec S16 32) (k0_hw3 : k0_chk3 v51), ∀ a x, ((![v51] : Fin 1 → IVec S16 32) a x).toNat < S25232.size a := fun v51 k0_hw3 => k0_hw3
def k0_off5 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v52 : Index := Scalar.indexCast arg8
  let c48 : Index := 48#32
  ![v52.toNat, 48]

def k0_chk4 (v56 : IVec S16 32) : Prop :=
  (∀ a x, ((![v56] : Fin 1 → IVec S16 32) a x).toNat < S25232.size a)
theorem k0_idx4_inb : ∀ (v56 : IVec S16 32) (k0_hw4 : k0_chk4 v56), ∀ a x, ((![v56] : Fin 1 → IVec S16 32) a x).toNat < S25232.size a := fun v56 k0_hw4 => k0_hw4
def k0_off6 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v57 : Index := Scalar.indexCast arg8
  let c64 : Index := 64#32
  ![v57.toNat, 64]

def k0_chk5 (v61 : IVec S16 32) : Prop :=
  (∀ a x, ((![v61] : Fin 1 → IVec S16 32) a x).toNat < S25232.size a)
theorem k0_idx5_inb : ∀ (v61 : IVec S16 32) (k0_hw5 : k0_chk5 v61), ∀ a x, ((![v61] : Fin 1 → IVec S16 32) a x).toNat < S25232.size a := fun v61 k0_hw5 => k0_hw5
def k0_off7 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v62 : Index := Scalar.indexCast arg8
  let c80 : Index := 80#32
  ![v62.toNat, 80]

def k0_chk6 (v66 : IVec S16 32) : Prop :=
  (∀ a x, ((![v66] : Fin 1 → IVec S16 32) a x).toNat < S25232.size a)
theorem k0_idx6_inb : ∀ (v66 : IVec S16 32) (k0_hw6 : k0_chk6 v66), ∀ a x, ((![v66] : Fin 1 → IVec S16 32) a x).toNat < S25232.size a := fun v66 k0_hw6 => k0_hw6
def k0_off8 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v67 : Index := Scalar.indexCast arg8
  let c96 : Index := 96#32
  ![v67.toNat, 96]

def k0_chk7 (v71 : IVec S16 32) : Prop :=
  (∀ a x, ((![v71] : Fin 1 → IVec S16 32) a x).toNat < S25232.size a)
theorem k0_idx7_inb : ∀ (v71 : IVec S16 32) (k0_hw7 : k0_chk7 v71), ∀ a x, ((![v71] : Fin 1 → IVec S16 32) a x).toNat < S25232.size a := fun v71 k0_hw7 => k0_hw7
def k0_off9 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v72 : Index := Scalar.indexCast arg8
  let c112 : Index := 112#32
  ![v72.toNat, 112]

def k0_chk8 (v76 : IVec S16 32) : Prop :=
  (∀ a x, ((![v76] : Fin 1 → IVec S16 32) a x).toNat < S25232.size a)
theorem k0_idx8_inb : ∀ (v76 : IVec S16 32) (k0_hw8 : k0_chk8 v76), ∀ a x, ((![v76] : Fin 1 → IVec S16 32) a x).toNat < S25232.size a := fun v76 k0_hw8 => k0_hw8
def k0_off10 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v77 : Index := Scalar.indexCast arg8
  let c128 : Index := 128#32
  ![v77.toNat, 128]

def k0_chk9 (v81 : IVec S16 32) : Prop :=
  (∀ a x, ((![v81] : Fin 1 → IVec S16 32) a x).toNat < S25232.size a)
theorem k0_idx9_inb : ∀ (v81 : IVec S16 32) (k0_hw9 : k0_chk9 v81), ∀ a x, ((![v81] : Fin 1 → IVec S16 32) a x).toNat < S25232.size a := fun v81 k0_hw9 => k0_hw9
def k0_off11 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v82 : Index := Scalar.indexCast arg8
  let c144 : Index := 144#32
  ![v82.toNat, 144]

def k0_chk10 (v86 : IVec S16 32) : Prop :=
  (∀ a x, ((![v86] : Fin 1 → IVec S16 32) a x).toNat < S25232.size a)
theorem k0_idx10_inb : ∀ (v86 : IVec S16 32) (k0_hw10 : k0_chk10 v86), ∀ a x, ((![v86] : Fin 1 → IVec S16 32) a x).toNat < S25232.size a := fun v86 k0_hw10 => k0_hw10
def k0_off12 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v87 : Index := Scalar.indexCast arg8
  let c160 : Index := 160#32
  ![v87.toNat, 160]

def k0_chk11 (v91 : IVec S16 32) : Prop :=
  (∀ a x, ((![v91] : Fin 1 → IVec S16 32) a x).toNat < S25232.size a)
theorem k0_idx11_inb : ∀ (v91 : IVec S16 32) (k0_hw11 : k0_chk11 v91), ∀ a x, ((![v91] : Fin 1 → IVec S16 32) a x).toNat < S25232.size a := fun v91 k0_hw11 => k0_hw11
def k0_off13 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v92 : Index := Scalar.indexCast arg8
  let c176 : Index := 176#32
  ![v92.toNat, 176]

def k0_chk12 (v96 : IVec S16 32) : Prop :=
  (∀ a x, ((![v96] : Fin 1 → IVec S16 32) a x).toNat < S25232.size a)
theorem k0_idx12_inb : ∀ (v96 : IVec S16 32) (k0_hw12 : k0_chk12 v96), ∀ a x, ((![v96] : Fin 1 → IVec S16 32) a x).toNat < S25232.size a := fun v96 k0_hw12 => k0_hw12
def k0_off14 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let v97 : Index := Scalar.indexCast arg8
  let c192 : Index := 192#32
  ![v97.toNat, 192]

def k0_chk13 (v101 : IVec S16 32) : Prop :=
  (∀ a x, ((![v101] : Fin 1 → IVec S16 32) a x).toNat < S25232.size a)
theorem k0_idx13_inb : ∀ (v101 : IVec S16 32) (k0_hw13 : k0_chk13 v101), ∀ a x, ((![v101] : Fin 1 → IVec S16 32) a x).toNat < S25232.size a := fun v101 k0_hw13 => k0_hw13
@[reducible] def k0_t2_loop : Scf.Loop 32 :=
  let c0_i32_11 : BitVec 32 := 0#32
  let c8_i32 : BitVec 32 := 8#32
  let v35 : BitVec 32 := Scalar.addi c0_i32_11 c8_i32
  let c1_i32_12 : BitVec 32 := 1#32
  ⟨c0_i32_11, v35, c1_i32_12⟩
@[reducible] def k0_t3_loop : Scf.Loop 32 :=
  let c0_i32_28 : BitVec 32 := 0#32
  let c14_i32_29 : BitVec 32 := 14#32
  let v55 : BitVec 32 := Scalar.addi c0_i32_28 c14_i32_29
  let c1_i32_30 : BitVec 32 := 1#32
  ⟨c0_i32_28, v55, c1_i32_30⟩

def k0_chk14 (v1057 : IVec S16 32) : Prop :=
  (∀ a x, ((![v1057] : Fin 1 → IVec S16 32) a x).toNat < S25232.size a)
theorem k0_idx14_inb : ∀ (v1057 : IVec S16 32) (k0_hw14 : k0_chk14 v1057), ∀ a x, ((![v1057] : Fin 1 → IVec S16 32) a x).toNat < S25232.size a := fun v1057 k0_hw14 => k0_hw14

def k0_chk15 (v1063 : IVec S16 32) : Prop :=
  (∀ a x, ((![v1063] : Fin 1 → IVec S16 32) a x).toNat < S25232.size a)
theorem k0_idx15_inb : ∀ (v1063 : IVec S16 32) (k0_hw15 : k0_chk15 v1063), ∀ a x, ((![v1063] : Fin 1 → IVec S16 32) a x).toNat < S25232.size a := fun v1063 k0_hw15 => k0_hw15

def k0_chk16 (v1069 : IVec S16 32) : Prop :=
  (∀ a x, ((![v1069] : Fin 1 → IVec S16 32) a x).toNat < S25232.size a)
theorem k0_idx16_inb : ∀ (v1069 : IVec S16 32) (k0_hw16 : k0_chk16 v1069), ∀ a x, ((![v1069] : Fin 1 → IVec S16 32) a x).toNat < S25232.size a := fun v1069 k0_hw16 => k0_hw16

def k0_chk17 (v1075 : IVec S16 32) : Prop :=
  (∀ a x, ((![v1075] : Fin 1 → IVec S16 32) a x).toNat < S25232.size a)
theorem k0_idx17_inb : ∀ (v1075 : IVec S16 32) (k0_hw17 : k0_chk17 v1075), ∀ a x, ((![v1075] : Fin 1 → IVec S16 32) a x).toNat < S25232.size a := fun v1075 k0_hw17 => k0_hw17

def k0_chk18 (v1081 : IVec S16 32) : Prop :=
  (∀ a x, ((![v1081] : Fin 1 → IVec S16 32) a x).toNat < S25232.size a)
theorem k0_idx18_inb : ∀ (v1081 : IVec S16 32) (k0_hw18 : k0_chk18 v1081), ∀ a x, ((![v1081] : Fin 1 → IVec S16 32) a x).toNat < S25232.size a := fun v1081 k0_hw18 => k0_hw18

def k0_chk19 (v1087 : IVec S16 32) : Prop :=
  (∀ a x, ((![v1087] : Fin 1 → IVec S16 32) a x).toNat < S25232.size a)
theorem k0_idx19_inb : ∀ (v1087 : IVec S16 32) (k0_hw19 : k0_chk19 v1087), ∀ a x, ((![v1087] : Fin 1 → IVec S16 32) a x).toNat < S25232.size a := fun v1087 k0_hw19 => k0_hw19

def k0_chk20 (v1093 : IVec S16 32) : Prop :=
  (∀ a x, ((![v1093] : Fin 1 → IVec S16 32) a x).toNat < S25232.size a)
theorem k0_idx20_inb : ∀ (v1093 : IVec S16 32) (k0_hw20 : k0_chk20 v1093), ∀ a x, ((![v1093] : Fin 1 → IVec S16 32) a x).toNat < S25232.size a := fun v1093 k0_hw20 => k0_hw20

def k0_chk21 (v1099 : IVec S16 32) : Prop :=
  (∀ a x, ((![v1099] : Fin 1 → IVec S16 32) a x).toNat < S25232.size a)
theorem k0_idx21_inb : ∀ (v1099 : IVec S16 32) (k0_hw21 : k0_chk21 v1099), ∀ a x, ((![v1099] : Fin 1 → IVec S16 32) a x).toNat < S25232.size a := fun v1099 k0_hw21 => k0_hw21

def k0_chk22 (v1105 : IVec S16 32) : Prop :=
  (∀ a x, ((![v1105] : Fin 1 → IVec S16 32) a x).toNat < S25232.size a)
theorem k0_idx22_inb : ∀ (v1105 : IVec S16 32) (k0_hw22 : k0_chk22 v1105), ∀ a x, ((![v1105] : Fin 1 → IVec S16 32) a x).toNat < S25232.size a := fun v1105 k0_hw22 => k0_hw22

def k0_chk23 (v1111 : IVec S16 32) : Prop :=
  (∀ a x, ((![v1111] : Fin 1 → IVec S16 32) a x).toNat < S25232.size a)
theorem k0_idx23_inb : ∀ (v1111 : IVec S16 32) (k0_hw23 : k0_chk23 v1111), ∀ a x, ((![v1111] : Fin 1 → IVec S16 32) a x).toNat < S25232.size a := fun v1111 k0_hw23 => k0_hw23

def k0_chk24 (v1117 : IVec S16 32) : Prop :=
  (∀ a x, ((![v1117] : Fin 1 → IVec S16 32) a x).toNat < S25232.size a)
theorem k0_idx24_inb : ∀ (v1117 : IVec S16 32) (k0_hw24 : k0_chk24 v1117), ∀ a x, ((![v1117] : Fin 1 → IVec S16 32) a x).toNat < S25232.size a := fun v1117 k0_hw24 => k0_hw24

def k0_chk25 (v1123 : IVec S16 32) : Prop :=
  (∀ a x, ((![v1123] : Fin 1 → IVec S16 32) a x).toNat < S25232.size a)
theorem k0_idx25_inb : ∀ (v1123 : IVec S16 32) (k0_hw25 : k0_chk25 v1123), ∀ a x, ((![v1123] : Fin 1 → IVec S16 32) a x).toNat < S25232.size a := fun v1123 k0_hw25 => k0_hw25

def k0_chk26 (v1129 : IVec S16 32) : Prop :=
  (∀ a x, ((![v1129] : Fin 1 → IVec S16 32) a x).toNat < S25232.size a)
theorem k0_idx26_inb : ∀ (v1129 : IVec S16 32) (k0_hw26 : k0_chk26 v1129), ∀ a x, ((![v1129] : Fin 1 → IVec S16 32) a x).toNat < S25232.size a := fun v1129 k0_hw26 => k0_hw26

def k0_chk27 (v1135 : IVec S16 32) : Prop :=
  (∀ a x, ((![v1135] : Fin 1 → IVec S16 32) a x).toNat < S25232.size a)
theorem k0_idx27_inb : ∀ (v1135 : IVec S16 32) (k0_hw27 : k0_chk27 v1135), ∀ a x, ((![v1135] : Fin 1 → IVec S16 32) a x).toNat < S25232.size a := fun v1135 k0_hw27 => k0_hw27
@[reducible] def k0_t4_loop : Scf.Loop 32 :=
  let c0_i32_63 : BitVec 32 := 0#32
  let c10_i32 : BitVec 32 := 10#32
  let v246 : BitVec 32 := Scalar.addi c0_i32_63 c10_i32
  let c1_i32_64 : BitVec 32 := 1#32
  ⟨c0_i32_63, v246, c1_i32_64⟩

def k0_chk28 (v1067 : IVec S16 32) : Prop :=
  (∀ a x, ((![v1067] : Fin 1 → IVec S16 32) a x).toNat < S25232.size a)
theorem k0_idx28_inb : ∀ (v1067 : IVec S16 32) (k0_hw28 : k0_chk28 v1067), ∀ a x, ((![v1067] : Fin 1 → IVec S16 32) a x).toNat < S25232.size a := fun v1067 k0_hw28 => k0_hw28

def k0_chk29 (v1071 : IVec S16 32) : Prop :=
  (∀ a x, ((![v1071] : Fin 1 → IVec S16 32) a x).toNat < S25232.size a)
theorem k0_idx29_inb : ∀ (v1071 : IVec S16 32) (k0_hw29 : k0_chk29 v1071), ∀ a x, ((![v1071] : Fin 1 → IVec S16 32) a x).toNat < S25232.size a := fun v1071 k0_hw29 => k0_hw29

def k0_chk30 (v1075 : IVec S16 32) : Prop :=
  (∀ a x, ((![v1075] : Fin 1 → IVec S16 32) a x).toNat < S25232.size a)
theorem k0_idx30_inb : ∀ (v1075 : IVec S16 32) (k0_hw30 : k0_chk30 v1075), ∀ a x, ((![v1075] : Fin 1 → IVec S16 32) a x).toNat < S25232.size a := fun v1075 k0_hw30 => k0_hw30

def k0_chk31 (v1079 : IVec S16 32) : Prop :=
  (∀ a x, ((![v1079] : Fin 1 → IVec S16 32) a x).toNat < S25232.size a)
theorem k0_idx31_inb : ∀ (v1079 : IVec S16 32) (k0_hw31 : k0_chk31 v1079), ∀ a x, ((![v1079] : Fin 1 → IVec S16 32) a x).toNat < S25232.size a := fun v1079 k0_hw31 => k0_hw31

def k0_chk32 (v1083 : IVec S16 32) : Prop :=
  (∀ a x, ((![v1083] : Fin 1 → IVec S16 32) a x).toNat < S25232.size a)
theorem k0_idx32_inb : ∀ (v1083 : IVec S16 32) (k0_hw32 : k0_chk32 v1083), ∀ a x, ((![v1083] : Fin 1 → IVec S16 32) a x).toNat < S25232.size a := fun v1083 k0_hw32 => k0_hw32

def k0_chk33 (v1087 : IVec S16 32) : Prop :=
  (∀ a x, ((![v1087] : Fin 1 → IVec S16 32) a x).toNat < S25232.size a)
theorem k0_idx33_inb : ∀ (v1087 : IVec S16 32) (k0_hw33 : k0_chk33 v1087), ∀ a x, ((![v1087] : Fin 1 → IVec S16 32) a x).toNat < S25232.size a := fun v1087 k0_hw33 => k0_hw33

def k0_chk34 (v1091 : IVec S16 32) : Prop :=
  (∀ a x, ((![v1091] : Fin 1 → IVec S16 32) a x).toNat < S25232.size a)
theorem k0_idx34_inb : ∀ (v1091 : IVec S16 32) (k0_hw34 : k0_chk34 v1091), ∀ a x, ((![v1091] : Fin 1 → IVec S16 32) a x).toNat < S25232.size a := fun v1091 k0_hw34 => k0_hw34

def k0_chk35 (v1095 : IVec S16 32) : Prop :=
  (∀ a x, ((![v1095] : Fin 1 → IVec S16 32) a x).toNat < S25232.size a)
theorem k0_idx35_inb : ∀ (v1095 : IVec S16 32) (k0_hw35 : k0_chk35 v1095), ∀ a x, ((![v1095] : Fin 1 → IVec S16 32) a x).toNat < S25232.size a := fun v1095 k0_hw35 => k0_hw35

def k0_chk36 (v1099 : IVec S16 32) : Prop :=
  (∀ a x, ((![v1099] : Fin 1 → IVec S16 32) a x).toNat < S25232.size a)
theorem k0_idx36_inb : ∀ (v1099 : IVec S16 32) (k0_hw36 : k0_chk36 v1099), ∀ a x, ((![v1099] : Fin 1 → IVec S16 32) a x).toNat < S25232.size a := fun v1099 k0_hw36 => k0_hw36

def k0_chk37 (v1103 : IVec S16 32) : Prop :=
  (∀ a x, ((![v1103] : Fin 1 → IVec S16 32) a x).toNat < S25232.size a)
theorem k0_idx37_inb : ∀ (v1103 : IVec S16 32) (k0_hw37 : k0_chk37 v1103), ∀ a x, ((![v1103] : Fin 1 → IVec S16 32) a x).toNat < S25232.size a := fun v1103 k0_hw37 => k0_hw37
@[reducible] def k0_t5_loop : Scf.Loop 32 :=
  let c0_i32_80 : BitVec 32 := 0#32
  let c14_i32_81 : BitVec 32 := 14#32
  let v261 : BitVec 32 := Scalar.addi c0_i32_80 c14_i32_81
  let c1_i32_82 : BitVec 32 := 1#32
  ⟨c0_i32_80, v261, c1_i32_82⟩

def k0_chk38 (v1057 : IVec S16 32) : Prop :=
  (∀ a x, ((![v1057] : Fin 1 → IVec S16 32) a x).toNat < S25232.size a)
theorem k0_idx38_inb : ∀ (v1057 : IVec S16 32) (k0_hw38 : k0_chk38 v1057), ∀ a x, ((![v1057] : Fin 1 → IVec S16 32) a x).toNat < S25232.size a := fun v1057 k0_hw38 => k0_hw38

def k0_chk39 (v1063 : IVec S16 32) : Prop :=
  (∀ a x, ((![v1063] : Fin 1 → IVec S16 32) a x).toNat < S25232.size a)
theorem k0_idx39_inb : ∀ (v1063 : IVec S16 32) (k0_hw39 : k0_chk39 v1063), ∀ a x, ((![v1063] : Fin 1 → IVec S16 32) a x).toNat < S25232.size a := fun v1063 k0_hw39 => k0_hw39

def k0_chk40 (v1069 : IVec S16 32) : Prop :=
  (∀ a x, ((![v1069] : Fin 1 → IVec S16 32) a x).toNat < S25232.size a)
theorem k0_idx40_inb : ∀ (v1069 : IVec S16 32) (k0_hw40 : k0_chk40 v1069), ∀ a x, ((![v1069] : Fin 1 → IVec S16 32) a x).toNat < S25232.size a := fun v1069 k0_hw40 => k0_hw40

def k0_chk41 (v1075 : IVec S16 32) : Prop :=
  (∀ a x, ((![v1075] : Fin 1 → IVec S16 32) a x).toNat < S25232.size a)
theorem k0_idx41_inb : ∀ (v1075 : IVec S16 32) (k0_hw41 : k0_chk41 v1075), ∀ a x, ((![v1075] : Fin 1 → IVec S16 32) a x).toNat < S25232.size a := fun v1075 k0_hw41 => k0_hw41

def k0_chk42 (v1081 : IVec S16 32) : Prop :=
  (∀ a x, ((![v1081] : Fin 1 → IVec S16 32) a x).toNat < S25232.size a)
theorem k0_idx42_inb : ∀ (v1081 : IVec S16 32) (k0_hw42 : k0_chk42 v1081), ∀ a x, ((![v1081] : Fin 1 → IVec S16 32) a x).toNat < S25232.size a := fun v1081 k0_hw42 => k0_hw42

def k0_chk43 (v1087 : IVec S16 32) : Prop :=
  (∀ a x, ((![v1087] : Fin 1 → IVec S16 32) a x).toNat < S25232.size a)
theorem k0_idx43_inb : ∀ (v1087 : IVec S16 32) (k0_hw43 : k0_chk43 v1087), ∀ a x, ((![v1087] : Fin 1 → IVec S16 32) a x).toNat < S25232.size a := fun v1087 k0_hw43 => k0_hw43

def k0_chk44 (v1093 : IVec S16 32) : Prop :=
  (∀ a x, ((![v1093] : Fin 1 → IVec S16 32) a x).toNat < S25232.size a)
theorem k0_idx44_inb : ∀ (v1093 : IVec S16 32) (k0_hw44 : k0_chk44 v1093), ∀ a x, ((![v1093] : Fin 1 → IVec S16 32) a x).toNat < S25232.size a := fun v1093 k0_hw44 => k0_hw44

def k0_chk45 (v1099 : IVec S16 32) : Prop :=
  (∀ a x, ((![v1099] : Fin 1 → IVec S16 32) a x).toNat < S25232.size a)
theorem k0_idx45_inb : ∀ (v1099 : IVec S16 32) (k0_hw45 : k0_chk45 v1099), ∀ a x, ((![v1099] : Fin 1 → IVec S16 32) a x).toNat < S25232.size a := fun v1099 k0_hw45 => k0_hw45

def k0_chk46 (v1105 : IVec S16 32) : Prop :=
  (∀ a x, ((![v1105] : Fin 1 → IVec S16 32) a x).toNat < S25232.size a)
theorem k0_idx46_inb : ∀ (v1105 : IVec S16 32) (k0_hw46 : k0_chk46 v1105), ∀ a x, ((![v1105] : Fin 1 → IVec S16 32) a x).toNat < S25232.size a := fun v1105 k0_hw46 => k0_hw46

def k0_chk47 (v1111 : IVec S16 32) : Prop :=
  (∀ a x, ((![v1111] : Fin 1 → IVec S16 32) a x).toNat < S25232.size a)
theorem k0_idx47_inb : ∀ (v1111 : IVec S16 32) (k0_hw47 : k0_chk47 v1111), ∀ a x, ((![v1111] : Fin 1 → IVec S16 32) a x).toNat < S25232.size a := fun v1111 k0_hw47 => k0_hw47

def k0_chk48 (v1117 : IVec S16 32) : Prop :=
  (∀ a x, ((![v1117] : Fin 1 → IVec S16 32) a x).toNat < S25232.size a)
theorem k0_idx48_inb : ∀ (v1117 : IVec S16 32) (k0_hw48 : k0_chk48 v1117), ∀ a x, ((![v1117] : Fin 1 → IVec S16 32) a x).toNat < S25232.size a := fun v1117 k0_hw48 => k0_hw48

def k0_chk49 (v1123 : IVec S16 32) : Prop :=
  (∀ a x, ((![v1123] : Fin 1 → IVec S16 32) a x).toNat < S25232.size a)
theorem k0_idx49_inb : ∀ (v1123 : IVec S16 32) (k0_hw49 : k0_chk49 v1123), ∀ a x, ((![v1123] : Fin 1 → IVec S16 32) a x).toNat < S25232.size a := fun v1123 k0_hw49 => k0_hw49

def k0_chk50 (v1129 : IVec S16 32) : Prop :=
  (∀ a x, ((![v1129] : Fin 1 → IVec S16 32) a x).toNat < S25232.size a)
theorem k0_idx50_inb : ∀ (v1129 : IVec S16 32) (k0_hw50 : k0_chk50 v1129), ∀ a x, ((![v1129] : Fin 1 → IVec S16 32) a x).toNat < S25232.size a := fun v1129 k0_hw50 => k0_hw50

def k0_chk51 (v1135 : IVec S16 32) : Prop :=
  (∀ a x, ((![v1135] : Fin 1 → IVec S16 32) a x).toNat < S25232.size a)
theorem k0_idx51_inb : ∀ (v1135 : IVec S16 32) (k0_hw51 : k0_chk51 v1135), ∀ a x, ((![v1135] : Fin 1 → IVec S16 32) a x).toNat < S25232.size a := fun v1135 k0_hw51 => k0_hw51
@[reducible] def k0_t6_loop : Scf.Loop 32 :=
  let c0_i32_122 : BitVec 32 := 0#32
  let c10_i32_123 : BitVec 32 := 10#32
  let v452 : BitVec 32 := Scalar.addi c0_i32_122 c10_i32_123
  let c1_i32_124 : BitVec 32 := 1#32
  ⟨c0_i32_122, v452, c1_i32_124⟩

def k0_chk52 (v1067 : IVec S16 32) : Prop :=
  (∀ a x, ((![v1067] : Fin 1 → IVec S16 32) a x).toNat < S25232.size a)
theorem k0_idx52_inb : ∀ (v1067 : IVec S16 32) (k0_hw52 : k0_chk52 v1067), ∀ a x, ((![v1067] : Fin 1 → IVec S16 32) a x).toNat < S25232.size a := fun v1067 k0_hw52 => k0_hw52

def k0_chk53 (v1071 : IVec S16 32) : Prop :=
  (∀ a x, ((![v1071] : Fin 1 → IVec S16 32) a x).toNat < S25232.size a)
theorem k0_idx53_inb : ∀ (v1071 : IVec S16 32) (k0_hw53 : k0_chk53 v1071), ∀ a x, ((![v1071] : Fin 1 → IVec S16 32) a x).toNat < S25232.size a := fun v1071 k0_hw53 => k0_hw53

def k0_chk54 (v1075 : IVec S16 32) : Prop :=
  (∀ a x, ((![v1075] : Fin 1 → IVec S16 32) a x).toNat < S25232.size a)
theorem k0_idx54_inb : ∀ (v1075 : IVec S16 32) (k0_hw54 : k0_chk54 v1075), ∀ a x, ((![v1075] : Fin 1 → IVec S16 32) a x).toNat < S25232.size a := fun v1075 k0_hw54 => k0_hw54

def k0_chk55 (v1079 : IVec S16 32) : Prop :=
  (∀ a x, ((![v1079] : Fin 1 → IVec S16 32) a x).toNat < S25232.size a)
theorem k0_idx55_inb : ∀ (v1079 : IVec S16 32) (k0_hw55 : k0_chk55 v1079), ∀ a x, ((![v1079] : Fin 1 → IVec S16 32) a x).toNat < S25232.size a := fun v1079 k0_hw55 => k0_hw55

def k0_chk56 (v1083 : IVec S16 32) : Prop :=
  (∀ a x, ((![v1083] : Fin 1 → IVec S16 32) a x).toNat < S25232.size a)
theorem k0_idx56_inb : ∀ (v1083 : IVec S16 32) (k0_hw56 : k0_chk56 v1083), ∀ a x, ((![v1083] : Fin 1 → IVec S16 32) a x).toNat < S25232.size a := fun v1083 k0_hw56 => k0_hw56

def k0_chk57 (v1087 : IVec S16 32) : Prop :=
  (∀ a x, ((![v1087] : Fin 1 → IVec S16 32) a x).toNat < S25232.size a)
theorem k0_idx57_inb : ∀ (v1087 : IVec S16 32) (k0_hw57 : k0_chk57 v1087), ∀ a x, ((![v1087] : Fin 1 → IVec S16 32) a x).toNat < S25232.size a := fun v1087 k0_hw57 => k0_hw57

def k0_chk58 (v1091 : IVec S16 32) : Prop :=
  (∀ a x, ((![v1091] : Fin 1 → IVec S16 32) a x).toNat < S25232.size a)
theorem k0_idx58_inb : ∀ (v1091 : IVec S16 32) (k0_hw58 : k0_chk58 v1091), ∀ a x, ((![v1091] : Fin 1 → IVec S16 32) a x).toNat < S25232.size a := fun v1091 k0_hw58 => k0_hw58

def k0_chk59 (v1095 : IVec S16 32) : Prop :=
  (∀ a x, ((![v1095] : Fin 1 → IVec S16 32) a x).toNat < S25232.size a)
theorem k0_idx59_inb : ∀ (v1095 : IVec S16 32) (k0_hw59 : k0_chk59 v1095), ∀ a x, ((![v1095] : Fin 1 → IVec S16 32) a x).toNat < S25232.size a := fun v1095 k0_hw59 => k0_hw59

def k0_chk60 (v1099 : IVec S16 32) : Prop :=
  (∀ a x, ((![v1099] : Fin 1 → IVec S16 32) a x).toNat < S25232.size a)
theorem k0_idx60_inb : ∀ (v1099 : IVec S16 32) (k0_hw60 : k0_chk60 v1099), ∀ a x, ((![v1099] : Fin 1 → IVec S16 32) a x).toNat < S25232.size a := fun v1099 k0_hw60 => k0_hw60

def k0_chk61 (v1103 : IVec S16 32) : Prop :=
  (∀ a x, ((![v1103] : Fin 1 → IVec S16 32) a x).toNat < S25232.size a)
theorem k0_idx61_inb : ∀ (v1103 : IVec S16 32) (k0_hw61 : k0_chk61 v1103), ∀ a x, ((![v1103] : Fin 1 → IVec S16 32) a x).toNat < S25232.size a := fun v1103 k0_hw61 => k0_hw61
@[reducible] def k0_t7_loop : Scf.Loop 32 :=
  let c0_i32_140 : BitVec 32 := 0#32
  let c14_i32_141 : BitVec 32 := 14#32
  let v467 : BitVec 32 := Scalar.addi c0_i32_140 c14_i32_141
  let c1_i32_142 : BitVec 32 := 1#32
  ⟨c0_i32_140, v467, c1_i32_142⟩

def k0_chk62 (v1057 : IVec S16 32) : Prop :=
  (∀ a x, ((![v1057] : Fin 1 → IVec S16 32) a x).toNat < S25232.size a)
theorem k0_idx62_inb : ∀ (v1057 : IVec S16 32) (k0_hw62 : k0_chk62 v1057), ∀ a x, ((![v1057] : Fin 1 → IVec S16 32) a x).toNat < S25232.size a := fun v1057 k0_hw62 => k0_hw62

def k0_chk63 (v1063 : IVec S16 32) : Prop :=
  (∀ a x, ((![v1063] : Fin 1 → IVec S16 32) a x).toNat < S25232.size a)
theorem k0_idx63_inb : ∀ (v1063 : IVec S16 32) (k0_hw63 : k0_chk63 v1063), ∀ a x, ((![v1063] : Fin 1 → IVec S16 32) a x).toNat < S25232.size a := fun v1063 k0_hw63 => k0_hw63

def k0_chk64 (v1069 : IVec S16 32) : Prop :=
  (∀ a x, ((![v1069] : Fin 1 → IVec S16 32) a x).toNat < S25232.size a)
theorem k0_idx64_inb : ∀ (v1069 : IVec S16 32) (k0_hw64 : k0_chk64 v1069), ∀ a x, ((![v1069] : Fin 1 → IVec S16 32) a x).toNat < S25232.size a := fun v1069 k0_hw64 => k0_hw64

def k0_chk65 (v1075 : IVec S16 32) : Prop :=
  (∀ a x, ((![v1075] : Fin 1 → IVec S16 32) a x).toNat < S25232.size a)
theorem k0_idx65_inb : ∀ (v1075 : IVec S16 32) (k0_hw65 : k0_chk65 v1075), ∀ a x, ((![v1075] : Fin 1 → IVec S16 32) a x).toNat < S25232.size a := fun v1075 k0_hw65 => k0_hw65

def k0_chk66 (v1081 : IVec S16 32) : Prop :=
  (∀ a x, ((![v1081] : Fin 1 → IVec S16 32) a x).toNat < S25232.size a)
theorem k0_idx66_inb : ∀ (v1081 : IVec S16 32) (k0_hw66 : k0_chk66 v1081), ∀ a x, ((![v1081] : Fin 1 → IVec S16 32) a x).toNat < S25232.size a := fun v1081 k0_hw66 => k0_hw66

def k0_chk67 (v1087 : IVec S16 32) : Prop :=
  (∀ a x, ((![v1087] : Fin 1 → IVec S16 32) a x).toNat < S25232.size a)
theorem k0_idx67_inb : ∀ (v1087 : IVec S16 32) (k0_hw67 : k0_chk67 v1087), ∀ a x, ((![v1087] : Fin 1 → IVec S16 32) a x).toNat < S25232.size a := fun v1087 k0_hw67 => k0_hw67

def k0_chk68 (v1093 : IVec S16 32) : Prop :=
  (∀ a x, ((![v1093] : Fin 1 → IVec S16 32) a x).toNat < S25232.size a)
theorem k0_idx68_inb : ∀ (v1093 : IVec S16 32) (k0_hw68 : k0_chk68 v1093), ∀ a x, ((![v1093] : Fin 1 → IVec S16 32) a x).toNat < S25232.size a := fun v1093 k0_hw68 => k0_hw68

def k0_chk69 (v1099 : IVec S16 32) : Prop :=
  (∀ a x, ((![v1099] : Fin 1 → IVec S16 32) a x).toNat < S25232.size a)
theorem k0_idx69_inb : ∀ (v1099 : IVec S16 32) (k0_hw69 : k0_chk69 v1099), ∀ a x, ((![v1099] : Fin 1 → IVec S16 32) a x).toNat < S25232.size a := fun v1099 k0_hw69 => k0_hw69

def k0_chk70 (v1105 : IVec S16 32) : Prop :=
  (∀ a x, ((![v1105] : Fin 1 → IVec S16 32) a x).toNat < S25232.size a)
theorem k0_idx70_inb : ∀ (v1105 : IVec S16 32) (k0_hw70 : k0_chk70 v1105), ∀ a x, ((![v1105] : Fin 1 → IVec S16 32) a x).toNat < S25232.size a := fun v1105 k0_hw70 => k0_hw70

def k0_chk71 (v1111 : IVec S16 32) : Prop :=
  (∀ a x, ((![v1111] : Fin 1 → IVec S16 32) a x).toNat < S25232.size a)
theorem k0_idx71_inb : ∀ (v1111 : IVec S16 32) (k0_hw71 : k0_chk71 v1111), ∀ a x, ((![v1111] : Fin 1 → IVec S16 32) a x).toNat < S25232.size a := fun v1111 k0_hw71 => k0_hw71

def k0_chk72 (v1117 : IVec S16 32) : Prop :=
  (∀ a x, ((![v1117] : Fin 1 → IVec S16 32) a x).toNat < S25232.size a)
theorem k0_idx72_inb : ∀ (v1117 : IVec S16 32) (k0_hw72 : k0_chk72 v1117), ∀ a x, ((![v1117] : Fin 1 → IVec S16 32) a x).toNat < S25232.size a := fun v1117 k0_hw72 => k0_hw72

def k0_chk73 (v1123 : IVec S16 32) : Prop :=
  (∀ a x, ((![v1123] : Fin 1 → IVec S16 32) a x).toNat < S25232.size a)
theorem k0_idx73_inb : ∀ (v1123 : IVec S16 32) (k0_hw73 : k0_chk73 v1123), ∀ a x, ((![v1123] : Fin 1 → IVec S16 32) a x).toNat < S25232.size a := fun v1123 k0_hw73 => k0_hw73

def k0_chk74 (v1129 : IVec S16 32) : Prop :=
  (∀ a x, ((![v1129] : Fin 1 → IVec S16 32) a x).toNat < S25232.size a)
theorem k0_idx74_inb : ∀ (v1129 : IVec S16 32) (k0_hw74 : k0_chk74 v1129), ∀ a x, ((![v1129] : Fin 1 → IVec S16 32) a x).toNat < S25232.size a := fun v1129 k0_hw74 => k0_hw74

def k0_chk75 (v1135 : IVec S16 32) : Prop :=
  (∀ a x, ((![v1135] : Fin 1 → IVec S16 32) a x).toNat < S25232.size a)
theorem k0_idx75_inb : ∀ (v1135 : IVec S16 32) (k0_hw75 : k0_chk75 v1135), ∀ a x, ((![v1135] : Fin 1 → IVec S16 32) a x).toNat < S25232.size a := fun v1135 k0_hw75 => k0_hw75
@[reducible] def k0_t8_loop : Scf.Loop 32 :=
  let c0_i32_182 : BitVec 32 := 0#32
  let c10_i32_183 : BitVec 32 := 10#32
  let v658 : BitVec 32 := Scalar.addi c0_i32_182 c10_i32_183
  let c1_i32_184 : BitVec 32 := 1#32
  ⟨c0_i32_182, v658, c1_i32_184⟩

def k0_chk76 (v1067 : IVec S16 32) : Prop :=
  (∀ a x, ((![v1067] : Fin 1 → IVec S16 32) a x).toNat < S25232.size a)
theorem k0_idx76_inb : ∀ (v1067 : IVec S16 32) (k0_hw76 : k0_chk76 v1067), ∀ a x, ((![v1067] : Fin 1 → IVec S16 32) a x).toNat < S25232.size a := fun v1067 k0_hw76 => k0_hw76

def k0_chk77 (v1071 : IVec S16 32) : Prop :=
  (∀ a x, ((![v1071] : Fin 1 → IVec S16 32) a x).toNat < S25232.size a)
theorem k0_idx77_inb : ∀ (v1071 : IVec S16 32) (k0_hw77 : k0_chk77 v1071), ∀ a x, ((![v1071] : Fin 1 → IVec S16 32) a x).toNat < S25232.size a := fun v1071 k0_hw77 => k0_hw77

def k0_chk78 (v1075 : IVec S16 32) : Prop :=
  (∀ a x, ((![v1075] : Fin 1 → IVec S16 32) a x).toNat < S25232.size a)
theorem k0_idx78_inb : ∀ (v1075 : IVec S16 32) (k0_hw78 : k0_chk78 v1075), ∀ a x, ((![v1075] : Fin 1 → IVec S16 32) a x).toNat < S25232.size a := fun v1075 k0_hw78 => k0_hw78

def k0_chk79 (v1079 : IVec S16 32) : Prop :=
  (∀ a x, ((![v1079] : Fin 1 → IVec S16 32) a x).toNat < S25232.size a)
theorem k0_idx79_inb : ∀ (v1079 : IVec S16 32) (k0_hw79 : k0_chk79 v1079), ∀ a x, ((![v1079] : Fin 1 → IVec S16 32) a x).toNat < S25232.size a := fun v1079 k0_hw79 => k0_hw79

def k0_chk80 (v1083 : IVec S16 32) : Prop :=
  (∀ a x, ((![v1083] : Fin 1 → IVec S16 32) a x).toNat < S25232.size a)
theorem k0_idx80_inb : ∀ (v1083 : IVec S16 32) (k0_hw80 : k0_chk80 v1083), ∀ a x, ((![v1083] : Fin 1 → IVec S16 32) a x).toNat < S25232.size a := fun v1083 k0_hw80 => k0_hw80

def k0_chk81 (v1087 : IVec S16 32) : Prop :=
  (∀ a x, ((![v1087] : Fin 1 → IVec S16 32) a x).toNat < S25232.size a)
theorem k0_idx81_inb : ∀ (v1087 : IVec S16 32) (k0_hw81 : k0_chk81 v1087), ∀ a x, ((![v1087] : Fin 1 → IVec S16 32) a x).toNat < S25232.size a := fun v1087 k0_hw81 => k0_hw81

def k0_chk82 (v1091 : IVec S16 32) : Prop :=
  (∀ a x, ((![v1091] : Fin 1 → IVec S16 32) a x).toNat < S25232.size a)
theorem k0_idx82_inb : ∀ (v1091 : IVec S16 32) (k0_hw82 : k0_chk82 v1091), ∀ a x, ((![v1091] : Fin 1 → IVec S16 32) a x).toNat < S25232.size a := fun v1091 k0_hw82 => k0_hw82

def k0_chk83 (v1095 : IVec S16 32) : Prop :=
  (∀ a x, ((![v1095] : Fin 1 → IVec S16 32) a x).toNat < S25232.size a)
theorem k0_idx83_inb : ∀ (v1095 : IVec S16 32) (k0_hw83 : k0_chk83 v1095), ∀ a x, ((![v1095] : Fin 1 → IVec S16 32) a x).toNat < S25232.size a := fun v1095 k0_hw83 => k0_hw83

def k0_chk84 (v1099 : IVec S16 32) : Prop :=
  (∀ a x, ((![v1099] : Fin 1 → IVec S16 32) a x).toNat < S25232.size a)
theorem k0_idx84_inb : ∀ (v1099 : IVec S16 32) (k0_hw84 : k0_chk84 v1099), ∀ a x, ((![v1099] : Fin 1 → IVec S16 32) a x).toNat < S25232.size a := fun v1099 k0_hw84 => k0_hw84

def k0_chk85 (v1103 : IVec S16 32) : Prop :=
  (∀ a x, ((![v1103] : Fin 1 → IVec S16 32) a x).toNat < S25232.size a)
theorem k0_idx85_inb : ∀ (v1103 : IVec S16 32) (k0_hw85 : k0_chk85 v1103), ∀ a x, ((![v1103] : Fin 1 → IVec S16 32) a x).toNat < S25232.size a := fun v1103 k0_hw85 => k0_hw85
@[reducible] def k0_t9_loop : Scf.Loop 32 :=
  let c0_i32_200 : BitVec 32 := 0#32
  let c14_i32_201 : BitVec 32 := 14#32
  let v673 : BitVec 32 := Scalar.addi c0_i32_200 c14_i32_201
  let c1_i32_202 : BitVec 32 := 1#32
  ⟨c0_i32_200, v673, c1_i32_202⟩

def k0_chk86 (v1057 : IVec S16 32) : Prop :=
  (∀ a x, ((![v1057] : Fin 1 → IVec S16 32) a x).toNat < S25232.size a)
theorem k0_idx86_inb : ∀ (v1057 : IVec S16 32) (k0_hw86 : k0_chk86 v1057), ∀ a x, ((![v1057] : Fin 1 → IVec S16 32) a x).toNat < S25232.size a := fun v1057 k0_hw86 => k0_hw86

def k0_chk87 (v1063 : IVec S16 32) : Prop :=
  (∀ a x, ((![v1063] : Fin 1 → IVec S16 32) a x).toNat < S25232.size a)
theorem k0_idx87_inb : ∀ (v1063 : IVec S16 32) (k0_hw87 : k0_chk87 v1063), ∀ a x, ((![v1063] : Fin 1 → IVec S16 32) a x).toNat < S25232.size a := fun v1063 k0_hw87 => k0_hw87

def k0_chk88 (v1069 : IVec S16 32) : Prop :=
  (∀ a x, ((![v1069] : Fin 1 → IVec S16 32) a x).toNat < S25232.size a)
theorem k0_idx88_inb : ∀ (v1069 : IVec S16 32) (k0_hw88 : k0_chk88 v1069), ∀ a x, ((![v1069] : Fin 1 → IVec S16 32) a x).toNat < S25232.size a := fun v1069 k0_hw88 => k0_hw88

def k0_chk89 (v1075 : IVec S16 32) : Prop :=
  (∀ a x, ((![v1075] : Fin 1 → IVec S16 32) a x).toNat < S25232.size a)
theorem k0_idx89_inb : ∀ (v1075 : IVec S16 32) (k0_hw89 : k0_chk89 v1075), ∀ a x, ((![v1075] : Fin 1 → IVec S16 32) a x).toNat < S25232.size a := fun v1075 k0_hw89 => k0_hw89

def k0_chk90 (v1081 : IVec S16 32) : Prop :=
  (∀ a x, ((![v1081] : Fin 1 → IVec S16 32) a x).toNat < S25232.size a)
theorem k0_idx90_inb : ∀ (v1081 : IVec S16 32) (k0_hw90 : k0_chk90 v1081), ∀ a x, ((![v1081] : Fin 1 → IVec S16 32) a x).toNat < S25232.size a := fun v1081 k0_hw90 => k0_hw90

def k0_chk91 (v1087 : IVec S16 32) : Prop :=
  (∀ a x, ((![v1087] : Fin 1 → IVec S16 32) a x).toNat < S25232.size a)
theorem k0_idx91_inb : ∀ (v1087 : IVec S16 32) (k0_hw91 : k0_chk91 v1087), ∀ a x, ((![v1087] : Fin 1 → IVec S16 32) a x).toNat < S25232.size a := fun v1087 k0_hw91 => k0_hw91

def k0_chk92 (v1093 : IVec S16 32) : Prop :=
  (∀ a x, ((![v1093] : Fin 1 → IVec S16 32) a x).toNat < S25232.size a)
theorem k0_idx92_inb : ∀ (v1093 : IVec S16 32) (k0_hw92 : k0_chk92 v1093), ∀ a x, ((![v1093] : Fin 1 → IVec S16 32) a x).toNat < S25232.size a := fun v1093 k0_hw92 => k0_hw92

def k0_chk93 (v1099 : IVec S16 32) : Prop :=
  (∀ a x, ((![v1099] : Fin 1 → IVec S16 32) a x).toNat < S25232.size a)
theorem k0_idx93_inb : ∀ (v1099 : IVec S16 32) (k0_hw93 : k0_chk93 v1099), ∀ a x, ((![v1099] : Fin 1 → IVec S16 32) a x).toNat < S25232.size a := fun v1099 k0_hw93 => k0_hw93

def k0_chk94 (v1105 : IVec S16 32) : Prop :=
  (∀ a x, ((![v1105] : Fin 1 → IVec S16 32) a x).toNat < S25232.size a)
theorem k0_idx94_inb : ∀ (v1105 : IVec S16 32) (k0_hw94 : k0_chk94 v1105), ∀ a x, ((![v1105] : Fin 1 → IVec S16 32) a x).toNat < S25232.size a := fun v1105 k0_hw94 => k0_hw94

def k0_chk95 (v1111 : IVec S16 32) : Prop :=
  (∀ a x, ((![v1111] : Fin 1 → IVec S16 32) a x).toNat < S25232.size a)
theorem k0_idx95_inb : ∀ (v1111 : IVec S16 32) (k0_hw95 : k0_chk95 v1111), ∀ a x, ((![v1111] : Fin 1 → IVec S16 32) a x).toNat < S25232.size a := fun v1111 k0_hw95 => k0_hw95

def k0_chk96 (v1117 : IVec S16 32) : Prop :=
  (∀ a x, ((![v1117] : Fin 1 → IVec S16 32) a x).toNat < S25232.size a)
theorem k0_idx96_inb : ∀ (v1117 : IVec S16 32) (k0_hw96 : k0_chk96 v1117), ∀ a x, ((![v1117] : Fin 1 → IVec S16 32) a x).toNat < S25232.size a := fun v1117 k0_hw96 => k0_hw96

def k0_chk97 (v1123 : IVec S16 32) : Prop :=
  (∀ a x, ((![v1123] : Fin 1 → IVec S16 32) a x).toNat < S25232.size a)
theorem k0_idx97_inb : ∀ (v1123 : IVec S16 32) (k0_hw97 : k0_chk97 v1123), ∀ a x, ((![v1123] : Fin 1 → IVec S16 32) a x).toNat < S25232.size a := fun v1123 k0_hw97 => k0_hw97

def k0_chk98 (v1129 : IVec S16 32) : Prop :=
  (∀ a x, ((![v1129] : Fin 1 → IVec S16 32) a x).toNat < S25232.size a)
theorem k0_idx98_inb : ∀ (v1129 : IVec S16 32) (k0_hw98 : k0_chk98 v1129), ∀ a x, ((![v1129] : Fin 1 → IVec S16 32) a x).toNat < S25232.size a := fun v1129 k0_hw98 => k0_hw98

def k0_chk99 (v1135 : IVec S16 32) : Prop :=
  (∀ a x, ((![v1135] : Fin 1 → IVec S16 32) a x).toNat < S25232.size a)
theorem k0_idx99_inb : ∀ (v1135 : IVec S16 32) (k0_hw99 : k0_chk99 v1135), ∀ a x, ((![v1135] : Fin 1 → IVec S16 32) a x).toNat < S25232.size a := fun v1135 k0_hw99 => k0_hw99
@[reducible] def k0_t10_loop : Scf.Loop 32 :=
  let c0_i32_267 : BitVec 32 := 0#32
  let c14_i32_268 : BitVec 32 := 14#32
  let v1051 : BitVec 32 := Scalar.addi c0_i32_267 c14_i32_268
  let c1_i32_269 : BitVec 32 := 1#32
  ⟨c0_i32_267, v1051, c1_i32_269⟩

def k0_chk100 (v38 : IVec S16 32) (v1063 : IVec S16 32) : Prop :=
  (∀ a x, ((![v38, v1063] : Fin 2 → IVec S16 32) a x).toNat < S128x256.size a) ∧
  (∀ a x, ((![v38, v1063] : Fin 2 → IVec S16 32) a x).toNat < S128x256.size a)
theorem k0_idx100_inb : ∀ (v38 : IVec S16 32) (v1063 : IVec S16 32) (k0_hw100 : k0_chk100 v38 v1063), ∀ a x, ((![v38, v1063] : Fin 2 → IVec S16 32) a x).toNat < S128x256.size a := fun v38 v1063 k0_hw100 => k0_hw100.1
theorem k0_idx101_inb : ∀ (v38 : IVec S16 32) (v1063 : IVec S16 32) (k0_hw100 : k0_chk100 v38 v1063), ∀ a x, ((![v38, v1063] : Fin 2 → IVec S16 32) a x).toNat < S128x256.size a := fun v38 v1063 k0_hw100 => k0_hw100.2

def k0_chk101 (v38 : IVec S16 32) (v1088 : IVec S16 32) : Prop :=
  (∀ a x, ((![v38, v1088] : Fin 2 → IVec S16 32) a x).toNat < S128x256.size a) ∧
  (∀ a x, ((![v38, v1088] : Fin 2 → IVec S16 32) a x).toNat < S128x256.size a)
theorem k0_idx102_inb : ∀ (v38 : IVec S16 32) (v1088 : IVec S16 32) (k0_hw101 : k0_chk101 v38 v1088), ∀ a x, ((![v38, v1088] : Fin 2 → IVec S16 32) a x).toNat < S128x256.size a := fun v38 v1088 k0_hw101 => k0_hw101.1
theorem k0_idx103_inb : ∀ (v38 : IVec S16 32) (v1088 : IVec S16 32) (k0_hw101 : k0_chk101 v38 v1088), ∀ a x, ((![v38, v1088] : Fin 2 → IVec S16 32) a x).toNat < S128x256.size a := fun v38 v1088 k0_hw101 => k0_hw101.2

def k0_chk102 (v38 : IVec S16 32) (v1113 : IVec S16 32) : Prop :=
  (∀ a x, ((![v38, v1113] : Fin 2 → IVec S16 32) a x).toNat < S128x256.size a) ∧
  (∀ a x, ((![v38, v1113] : Fin 2 → IVec S16 32) a x).toNat < S128x256.size a)
theorem k0_idx104_inb : ∀ (v38 : IVec S16 32) (v1113 : IVec S16 32) (k0_hw102 : k0_chk102 v38 v1113), ∀ a x, ((![v38, v1113] : Fin 2 → IVec S16 32) a x).toNat < S128x256.size a := fun v38 v1113 k0_hw102 => k0_hw102.1
theorem k0_idx105_inb : ∀ (v38 : IVec S16 32) (v1113 : IVec S16 32) (k0_hw102 : k0_chk102 v38 v1113), ∀ a x, ((![v38, v1113] : Fin 2 → IVec S16 32) a x).toNat < S128x256.size a := fun v38 v1113 k0_hw102 => k0_hw102.2

def k0_chk103 (v38 : IVec S16 32) (v1138 : IVec S16 32) : Prop :=
  (∀ a x, ((![v38, v1138] : Fin 2 → IVec S16 32) a x).toNat < S128x256.size a) ∧
  (∀ a x, ((![v38, v1138] : Fin 2 → IVec S16 32) a x).toNat < S128x256.size a)
theorem k0_idx106_inb : ∀ (v38 : IVec S16 32) (v1138 : IVec S16 32) (k0_hw103 : k0_chk103 v38 v1138), ∀ a x, ((![v38, v1138] : Fin 2 → IVec S16 32) a x).toNat < S128x256.size a := fun v38 v1138 k0_hw103 => k0_hw103.1
theorem k0_idx107_inb : ∀ (v38 : IVec S16 32) (v1138 : IVec S16 32) (k0_hw103 : k0_chk103 v38 v1138), ∀ a x, ((![v38, v1138] : Fin 2 → IVec S16 32) a x).toNat < S128x256.size a := fun v38 v1138 k0_hw103 => k0_hw103.2

def k0_chk104 (v38 : IVec S16 32) (v1163 : IVec S16 32) : Prop :=
  (∀ a x, ((![v38, v1163] : Fin 2 → IVec S16 32) a x).toNat < S128x256.size a) ∧
  (∀ a x, ((![v38, v1163] : Fin 2 → IVec S16 32) a x).toNat < S128x256.size a)
theorem k0_idx108_inb : ∀ (v38 : IVec S16 32) (v1163 : IVec S16 32) (k0_hw104 : k0_chk104 v38 v1163), ∀ a x, ((![v38, v1163] : Fin 2 → IVec S16 32) a x).toNat < S128x256.size a := fun v38 v1163 k0_hw104 => k0_hw104.1
theorem k0_idx109_inb : ∀ (v38 : IVec S16 32) (v1163 : IVec S16 32) (k0_hw104 : k0_chk104 v38 v1163), ∀ a x, ((![v38, v1163] : Fin 2 → IVec S16 32) a x).toNat < S128x256.size a := fun v38 v1163 k0_hw104 => k0_hw104.2

def k0_chk105 (v38 : IVec S16 32) (v1188 : IVec S16 32) : Prop :=
  (∀ a x, ((![v38, v1188] : Fin 2 → IVec S16 32) a x).toNat < S128x256.size a) ∧
  (∀ a x, ((![v38, v1188] : Fin 2 → IVec S16 32) a x).toNat < S128x256.size a)
theorem k0_idx110_inb : ∀ (v38 : IVec S16 32) (v1188 : IVec S16 32) (k0_hw105 : k0_chk105 v38 v1188), ∀ a x, ((![v38, v1188] : Fin 2 → IVec S16 32) a x).toNat < S128x256.size a := fun v38 v1188 k0_hw105 => k0_hw105.1
theorem k0_idx111_inb : ∀ (v38 : IVec S16 32) (v1188 : IVec S16 32) (k0_hw105 : k0_chk105 v38 v1188), ∀ a x, ((![v38, v1188] : Fin 2 → IVec S16 32) a x).toNat < S128x256.size a := fun v38 v1188 k0_hw105 => k0_hw105.2

def k0_chk106 (v38 : IVec S16 32) (v1213 : IVec S16 32) : Prop :=
  (∀ a x, ((![v38, v1213] : Fin 2 → IVec S16 32) a x).toNat < S128x256.size a) ∧
  (∀ a x, ((![v38, v1213] : Fin 2 → IVec S16 32) a x).toNat < S128x256.size a)
theorem k0_idx112_inb : ∀ (v38 : IVec S16 32) (v1213 : IVec S16 32) (k0_hw106 : k0_chk106 v38 v1213), ∀ a x, ((![v38, v1213] : Fin 2 → IVec S16 32) a x).toNat < S128x256.size a := fun v38 v1213 k0_hw106 => k0_hw106.1
theorem k0_idx113_inb : ∀ (v38 : IVec S16 32) (v1213 : IVec S16 32) (k0_hw106 : k0_chk106 v38 v1213), ∀ a x, ((![v38, v1213] : Fin 2 → IVec S16 32) a x).toNat < S128x256.size a := fun v38 v1213 k0_hw106 => k0_hw106.2

def k0_chk107 (v38 : IVec S16 32) (v1238 : IVec S16 32) : Prop :=
  (∀ a x, ((![v38, v1238] : Fin 2 → IVec S16 32) a x).toNat < S128x256.size a) ∧
  (∀ a x, ((![v38, v1238] : Fin 2 → IVec S16 32) a x).toNat < S128x256.size a)
theorem k0_idx114_inb : ∀ (v38 : IVec S16 32) (v1238 : IVec S16 32) (k0_hw107 : k0_chk107 v38 v1238), ∀ a x, ((![v38, v1238] : Fin 2 → IVec S16 32) a x).toNat < S128x256.size a := fun v38 v1238 k0_hw107 => k0_hw107.1
theorem k0_idx115_inb : ∀ (v38 : IVec S16 32) (v1238 : IVec S16 32) (k0_hw107 : k0_chk107 v38 v1238), ∀ a x, ((![v38, v1238] : Fin 2 → IVec S16 32) a x).toNat < S128x256.size a := fun v38 v1238 k0_hw107 => k0_hw107.2

def k0_chk108 (v38 : IVec S16 32) (v1263 : IVec S16 32) : Prop :=
  (∀ a x, ((![v38, v1263] : Fin 2 → IVec S16 32) a x).toNat < S128x256.size a) ∧
  (∀ a x, ((![v38, v1263] : Fin 2 → IVec S16 32) a x).toNat < S128x256.size a)
theorem k0_idx116_inb : ∀ (v38 : IVec S16 32) (v1263 : IVec S16 32) (k0_hw108 : k0_chk108 v38 v1263), ∀ a x, ((![v38, v1263] : Fin 2 → IVec S16 32) a x).toNat < S128x256.size a := fun v38 v1263 k0_hw108 => k0_hw108.1
theorem k0_idx117_inb : ∀ (v38 : IVec S16 32) (v1263 : IVec S16 32) (k0_hw108 : k0_chk108 v38 v1263), ∀ a x, ((![v38, v1263] : Fin 2 → IVec S16 32) a x).toNat < S128x256.size a := fun v38 v1263 k0_hw108 => k0_hw108.2

def k0_chk109 (v38 : IVec S16 32) (v1288 : IVec S16 32) : Prop :=
  (∀ a x, ((![v38, v1288] : Fin 2 → IVec S16 32) a x).toNat < S128x256.size a) ∧
  (∀ a x, ((![v38, v1288] : Fin 2 → IVec S16 32) a x).toNat < S128x256.size a)
theorem k0_idx118_inb : ∀ (v38 : IVec S16 32) (v1288 : IVec S16 32) (k0_hw109 : k0_chk109 v38 v1288), ∀ a x, ((![v38, v1288] : Fin 2 → IVec S16 32) a x).toNat < S128x256.size a := fun v38 v1288 k0_hw109 => k0_hw109.1
theorem k0_idx119_inb : ∀ (v38 : IVec S16 32) (v1288 : IVec S16 32) (k0_hw109 : k0_chk109 v38 v1288), ∀ a x, ((![v38, v1288] : Fin 2 → IVec S16 32) a x).toNat < S128x256.size a := fun v38 v1288 k0_hw109 => k0_hw109.2

def k0_chk110 (v38 : IVec S16 32) (v1313 : IVec S16 32) : Prop :=
  (∀ a x, ((![v38, v1313] : Fin 2 → IVec S16 32) a x).toNat < S128x256.size a) ∧
  (∀ a x, ((![v38, v1313] : Fin 2 → IVec S16 32) a x).toNat < S128x256.size a)
theorem k0_idx120_inb : ∀ (v38 : IVec S16 32) (v1313 : IVec S16 32) (k0_hw110 : k0_chk110 v38 v1313), ∀ a x, ((![v38, v1313] : Fin 2 → IVec S16 32) a x).toNat < S128x256.size a := fun v38 v1313 k0_hw110 => k0_hw110.1
theorem k0_idx121_inb : ∀ (v38 : IVec S16 32) (v1313 : IVec S16 32) (k0_hw110 : k0_chk110 v38 v1313), ∀ a x, ((![v38, v1313] : Fin 2 → IVec S16 32) a x).toNat < S128x256.size a := fun v38 v1313 k0_hw110 => k0_hw110.2

def k0_chk111 (v38 : IVec S16 32) (v1338 : IVec S16 32) : Prop :=
  (∀ a x, ((![v38, v1338] : Fin 2 → IVec S16 32) a x).toNat < S128x256.size a) ∧
  (∀ a x, ((![v38, v1338] : Fin 2 → IVec S16 32) a x).toNat < S128x256.size a)
theorem k0_idx122_inb : ∀ (v38 : IVec S16 32) (v1338 : IVec S16 32) (k0_hw111 : k0_chk111 v38 v1338), ∀ a x, ((![v38, v1338] : Fin 2 → IVec S16 32) a x).toNat < S128x256.size a := fun v38 v1338 k0_hw111 => k0_hw111.1
theorem k0_idx123_inb : ∀ (v38 : IVec S16 32) (v1338 : IVec S16 32) (k0_hw111 : k0_chk111 v38 v1338), ∀ a x, ((![v38, v1338] : Fin 2 → IVec S16 32) a x).toNat < S128x256.size a := fun v38 v1338 k0_hw111 => k0_hw111.2

def k0_chk112 (v38 : IVec S16 32) (v1363 : IVec S16 32) : Prop :=
  (∀ a x, ((![v38, v1363] : Fin 2 → IVec S16 32) a x).toNat < S128x256.size a) ∧
  (∀ a x, ((![v38, v1363] : Fin 2 → IVec S16 32) a x).toNat < S128x256.size a)
theorem k0_idx124_inb : ∀ (v38 : IVec S16 32) (v1363 : IVec S16 32) (k0_hw112 : k0_chk112 v38 v1363), ∀ a x, ((![v38, v1363] : Fin 2 → IVec S16 32) a x).toNat < S128x256.size a := fun v38 v1363 k0_hw112 => k0_hw112.1
theorem k0_idx125_inb : ∀ (v38 : IVec S16 32) (v1363 : IVec S16 32) (k0_hw112 : k0_chk112 v38 v1363), ∀ a x, ((![v38, v1363] : Fin 2 → IVec S16 32) a x).toNat < S128x256.size a := fun v38 v1363 k0_hw112 => k0_hw112.2

def k0_chk113 (v38 : IVec S16 32) (v1388 : IVec S16 32) : Prop :=
  (∀ a x, ((![v38, v1388] : Fin 2 → IVec S16 32) a x).toNat < S128x256.size a) ∧
  (∀ a x, ((![v38, v1388] : Fin 2 → IVec S16 32) a x).toNat < S128x256.size a)
theorem k0_idx126_inb : ∀ (v38 : IVec S16 32) (v1388 : IVec S16 32) (k0_hw113 : k0_chk113 v38 v1388), ∀ a x, ((![v38, v1388] : Fin 2 → IVec S16 32) a x).toNat < S128x256.size a := fun v38 v1388 k0_hw113 => k0_hw113.1
theorem k0_idx127_inb : ∀ (v38 : IVec S16 32) (v1388 : IVec S16 32) (k0_hw113 : k0_chk113 v38 v1388), ∀ a x, ((![v38, v1388] : Fin 2 → IVec S16 32) a x).toNat < S128x256.size a := fun v38 v1388 k0_hw113 => k0_hw113.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x1x14x14 : Shape := ⟨4, ![4096, 1, 14, 14]⟩
abbrev S4096x196 : Shape := ⟨2, ![4096, 196]⟩
abbrev S_ : Shape := ⟨0, ![]⟩
abbrev S196 : Shape := ⟨1, ![196]⟩
abbrev S1x196 : Shape := ⟨2, ![1, 196]⟩
abbrev S4096 : Shape := ⟨1, ![4096]⟩
abbrev S4096x1 : Shape := ⟨2, ![4096, 1]⟩
abbrev S4096x6 : Shape := ⟨2, ![4096, 6]⟩
abbrev S6 : Shape := ⟨1, ![6]⟩
abbrev S1x6 : Shape := ⟨2, ![1, 6]⟩

abbrev nBuf : Space → Nat
  | .hbm => 511
  | .vmem => 0
  | .smem => 0
  | _ => 0

abbrev hbmTy0_0 (i : Nat) : BufTy := match i % 128 with
  | 0 => ⟨S4096x1x14x14, .f32⟩
  | 1 => ⟨S4096x196, .f32⟩
  | 2 => ⟨S_, .f32⟩
  | 3 => ⟨S4096x196, .f32⟩
  | 4 => ⟨S4096x196, .i1⟩
  | 5 => ⟨S4096x196, .f32⟩
  | 6 => ⟨S4096x196, .f32⟩
  | 7 => ⟨S196, .i32⟩
  | 8 => ⟨S_, .i32⟩
  | 9 => ⟨S_, .i32⟩
  | 10 => ⟨S196, .i32⟩
  | 11 => ⟨S196, .i32⟩
  | 12 => ⟨S196, .i32⟩
  | 13 => ⟨S_, .i32⟩
  | 14 => ⟨S196, .i32⟩
  | 15 => ⟨S196, .i1⟩
  | 16 => ⟨S196, .i32⟩
  | 17 => ⟨S196, .i32⟩
  | 18 => ⟨S_, .i32⟩
  | 19 => ⟨S196, .i32⟩
  | 20 => ⟨S196, .i1⟩
  | 21 => ⟨S196, .i1⟩
  | 22 => ⟨S_, .i32⟩
  | 23 => ⟨S196, .i32⟩
  | 24 => ⟨S196, .i32⟩
  | 25 => ⟨S196, .i32⟩
  | 26 => ⟨S1x196, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S196, .i32⟩
  | 34 => ⟨S196, .i32⟩
  | 35 => ⟨S_, .i32⟩
  | 36 => ⟨S196, .i32⟩
  | 37 => ⟨S196, .i1⟩
  | 38 => ⟨S_, .i32⟩
  | 39 => ⟨S196, .i32⟩
  | 40 => ⟨S196, .i1⟩
  | 41 => ⟨S_, .i32⟩
  | 42 => ⟨S_, .i1⟩
  | 43 => ⟨S196, .i1⟩
  | 44 => ⟨S196, .i1⟩
  | 45 => ⟨S196, .i1⟩
  | 46 => ⟨S196, .i32⟩
  | 47 => ⟨S196, .i32⟩
  | 48 => ⟨S196, .i32⟩
  | 49 => ⟨S1x196, .i32⟩
  | 50 => ⟨S_, .f32⟩
  | 51 => ⟨S4096, .f32⟩
  | 52 => ⟨S4096x1, .f32⟩
  | 53 => ⟨S4096x196, .f32⟩
  | 54 => ⟨S4096x196, .i1⟩
  | 55 => ⟨S196, .i32⟩
  | 56 => ⟨S1x196, .i32⟩
  | 57 => ⟨S_, .i32⟩
  | 58 => ⟨S_, .i32⟩
  | 59 => ⟨S4096x196, .i32⟩
  | 60 => ⟨S4096x196, .i32⟩
  | 61 => ⟨S4096x196, .i32⟩
  | 62 => ⟨S_, .i32⟩
  | 63 => ⟨S4096, .i32⟩
  | 64 => ⟨S_, .i32⟩
  | 65 => ⟨S_, .i32⟩
  | 66 => ⟨S4096, .i32⟩
  | 67 => ⟨S4096, .i32⟩
  | 68 => ⟨S4096, .i32⟩
  | 69 => ⟨S_, .i32⟩
  | 70 => ⟨S4096, .i32⟩
  | 71 => ⟨S4096, .i1⟩
  | 72 => ⟨S4096, .i32⟩
  | 73 => ⟨S4096, .i32⟩
  | 74 => ⟨S_, .i32⟩
  | 75 => ⟨S4096, .i32⟩
  | 76 => ⟨S4096, .i1⟩
  | 77 => ⟨S4096, .i1⟩
  | 78 => ⟨S_, .i32⟩
  | 79 => ⟨S4096, .i32⟩
  | 80 => ⟨S4096, .i32⟩
  | 81 => ⟨S4096, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i1⟩
  | 93 => ⟨S_, .i32⟩
  | 94 => ⟨S4096, .i32⟩
  | 95 => ⟨S4096, .i1⟩
  | 96 => ⟨S_, .i32⟩
  | 97 => ⟨S_, .i1⟩
  | 98 => ⟨S4096, .i1⟩
  | 99 => ⟨S4096, .i1⟩
  | 100 => ⟨S4096, .i1⟩
  | 101 => ⟨S4096, .i32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S4096x1, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096x1, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096x1, .i32⟩
  | 125 => ⟨S_, .i32⟩
  | 126 => ⟨S4096, .i32⟩
  | 127 => ⟨S4096, .i32⟩
  | _ => ⟨S4096x1x14x14, .f32⟩

abbrev hbmTy0_1 (i : Nat) : BufTy := match i % 128 with
  | 0 => ⟨S_, .i32⟩
  | 1 => ⟨S4096, .i32⟩
  | 2 => ⟨S4096, .i32⟩
  | 3 => ⟨S4096x1, .i32⟩
  | 4 => ⟨S4096x196, .i32⟩
  | 5 => ⟨S4096x196, .i32⟩
  | 6 => ⟨S4096x196, .i1⟩
  | 7 => ⟨S4096x196, .i32⟩
  | 8 => ⟨S4096x196, .i32⟩
  | 9 => ⟨S4096x196, .i1⟩
  | 10 => ⟨S4096x196, .i1⟩
  | 11 => ⟨S4096x196, .i32⟩
  | 12 => ⟨S4096x196, .i32⟩
  | 13 => ⟨S4096x196, .i1⟩
  | 14 => ⟨S4096x196, .i1⟩
  | 15 => ⟨S4096x196, .i32⟩
  | 16 => ⟨S4096x196, .i32⟩
  | 17 => ⟨S4096x196, .i1⟩
  | 18 => ⟨S4096x196, .i1⟩
  | 19 => ⟨S_, .f32⟩
  | 20 => ⟨S4096x196, .f32⟩
  | 21 => ⟨S4096x196, .f32⟩
  | 22 => ⟨S_, .f32⟩
  | 23 => ⟨S4096, .f32⟩
  | 24 => ⟨S4096x1, .f32⟩
  | 25 => ⟨S4096x196, .f32⟩
  | 26 => ⟨S4096x196, .i1⟩
  | 27 => ⟨S196, .i32⟩
  | 28 => ⟨S1x196, .i32⟩
  | 29 => ⟨S_, .i32⟩
  | 30 => ⟨S_, .i32⟩
  | 31 => ⟨S4096x196, .i32⟩
  | 32 => ⟨S4096x196, .i32⟩
  | 33 => ⟨S4096x196, .i32⟩
  | 34 => ⟨S_, .i32⟩
  | 35 => ⟨S4096, .i32⟩
  | 36 => ⟨S_, .i32⟩
  | 37 => ⟨S_, .i32⟩
  | 38 => ⟨S4096, .i32⟩
  | 39 => ⟨S4096, .i32⟩
  | 40 => ⟨S4096, .i32⟩
  | 41 => ⟨S_, .i32⟩
  | 42 => ⟨S4096, .i32⟩
  | 43 => ⟨S4096, .i1⟩
  | 44 => ⟨S4096, .i32⟩
  | 45 => ⟨S4096, .i32⟩
  | 46 => ⟨S_, .i32⟩
  | 47 => ⟨S4096, .i32⟩
  | 48 => ⟨S4096, .i1⟩
  | 49 => ⟨S4096, .i1⟩
  | 50 => ⟨S_, .i32⟩
  | 51 => ⟨S4096, .i32⟩
  | 52 => ⟨S4096, .i32⟩
  | 53 => ⟨S4096, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i1⟩
  | 68 => ⟨S_, .i32⟩
  | 69 => ⟨S_, .i1⟩
  | 70 => ⟨S4096, .i1⟩
  | 71 => ⟨S4096, .i1⟩
  | 72 => ⟨S4096, .i1⟩
  | 73 => ⟨S4096, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096x1, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096x1, .i32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096x1, .i32⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S4096x1, .i32⟩
  | 104 => ⟨S4096x196, .i32⟩
  | 105 => ⟨S4096x196, .i32⟩
  | 106 => ⟨S4096x196, .i1⟩
  | 107 => ⟨S4096x196, .i32⟩
  | 108 => ⟨S4096x196, .i32⟩
  | 109 => ⟨S4096x196, .i1⟩
  | 110 => ⟨S4096x196, .i1⟩
  | 111 => ⟨S4096x196, .i32⟩
  | 112 => ⟨S4096x196, .i32⟩
  | 113 => ⟨S4096x196, .i1⟩
  | 114 => ⟨S4096x196, .i1⟩
  | 115 => ⟨S4096x196, .i32⟩
  | 116 => ⟨S4096x196, .i32⟩
  | 117 => ⟨S4096x196, .i1⟩
  | 118 => ⟨S4096x196, .i1⟩
  | 119 => ⟨S_, .f32⟩
  | 120 => ⟨S4096x196, .f32⟩
  | 121 => ⟨S4096x196, .f32⟩
  | 122 => ⟨S_, .f32⟩
  | 123 => ⟨S4096, .f32⟩
  | 124 => ⟨S4096x1, .f32⟩
  | 125 => ⟨S4096x196, .f32⟩
  | 126 => ⟨S4096x196, .i1⟩
  | 127 => ⟨S196, .i32⟩
  | _ => ⟨S4096x1x14x14, .f32⟩

abbrev hbmTy0_2 (i : Nat) : BufTy := match i % 128 with
  | 0 => ⟨S1x196, .i32⟩
  | 1 => ⟨S_, .i32⟩
  | 2 => ⟨S_, .i32⟩
  | 3 => ⟨S4096x196, .i32⟩
  | 4 => ⟨S4096x196, .i32⟩
  | 5 => ⟨S4096x196, .i32⟩
  | 6 => ⟨S_, .i32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i1⟩
  | 40 => ⟨S_, .i32⟩
  | 41 => ⟨S_, .i1⟩
  | 42 => ⟨S4096, .i1⟩
  | 43 => ⟨S4096, .i1⟩
  | 44 => ⟨S4096, .i1⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096x1, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096x1, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S4096x1, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096x1, .i32⟩
  | 76 => ⟨S4096x196, .i32⟩
  | 77 => ⟨S4096x196, .i32⟩
  | 78 => ⟨S4096x196, .i1⟩
  | 79 => ⟨S4096x196, .i32⟩
  | 80 => ⟨S4096x196, .i32⟩
  | 81 => ⟨S4096x196, .i1⟩
  | 82 => ⟨S4096x196, .i1⟩
  | 83 => ⟨S4096x196, .i32⟩
  | 84 => ⟨S4096x196, .i32⟩
  | 85 => ⟨S4096x196, .i1⟩
  | 86 => ⟨S4096x196, .i1⟩
  | 87 => ⟨S4096x196, .i32⟩
  | 88 => ⟨S4096x196, .i32⟩
  | 89 => ⟨S4096x196, .i1⟩
  | 90 => ⟨S4096x196, .i1⟩
  | 91 => ⟨S_, .f32⟩
  | 92 => ⟨S4096x196, .f32⟩
  | 93 => ⟨S4096x196, .f32⟩
  | 94 => ⟨S_, .f32⟩
  | 95 => ⟨S4096, .f32⟩
  | 96 => ⟨S4096x1, .f32⟩
  | 97 => ⟨S4096x196, .f32⟩
  | 98 => ⟨S4096x196, .i1⟩
  | 99 => ⟨S196, .i32⟩
  | 100 => ⟨S1x196, .i32⟩
  | 101 => ⟨S_, .i32⟩
  | 102 => ⟨S_, .i32⟩
  | 103 => ⟨S4096x196, .i32⟩
  | 104 => ⟨S4096x196, .i32⟩
  | 105 => ⟨S4096x196, .i32⟩
  | 106 => ⟨S_, .i32⟩
  | 107 => ⟨S4096, .i32⟩
  | 108 => ⟨S_, .i32⟩
  | 109 => ⟨S_, .i32⟩
  | 110 => ⟨S4096, .i32⟩
  | 111 => ⟨S4096, .i32⟩
  | 112 => ⟨S4096, .i32⟩
  | 113 => ⟨S_, .i32⟩
  | 114 => ⟨S4096, .i32⟩
  | 115 => ⟨S4096, .i1⟩
  | 116 => ⟨S4096, .i32⟩
  | 117 => ⟨S4096, .i32⟩
  | 118 => ⟨S_, .i32⟩
  | 119 => ⟨S4096, .i32⟩
  | 120 => ⟨S4096, .i1⟩
  | 121 => ⟨S4096, .i1⟩
  | 122 => ⟨S_, .i32⟩
  | 123 => ⟨S4096, .i32⟩
  | 124 => ⟨S4096, .i32⟩
  | 125 => ⟨S4096, .i32⟩
  | 126 => ⟨S_, .i32⟩
  | 127 => ⟨S_, .i32⟩
  | _ => ⟨S4096x1x14x14, .f32⟩

abbrev hbmTy0_3 (i : Nat) : BufTy := match i % 128 with
  | 0 => ⟨S_, .i32⟩
  | 1 => ⟨S_, .i1⟩
  | 2 => ⟨S_, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i1⟩
  | 12 => ⟨S_, .i32⟩
  | 13 => ⟨S_, .i1⟩
  | 14 => ⟨S4096, .i1⟩
  | 15 => ⟨S4096, .i1⟩
  | 16 => ⟨S4096, .i1⟩
  | 17 => ⟨S4096, .i32⟩
  | 18 => ⟨S4096, .i32⟩
  | 19 => ⟨S4096, .i32⟩
  | 20 => ⟨S4096x1, .i32⟩
  | 21 => ⟨S4096x1, .i32⟩
  | 22 => ⟨S4096x1, .i32⟩
  | 23 => ⟨S4096x1, .i32⟩
  | 24 => ⟨S4096x1, .i32⟩
  | 25 => ⟨S4096x1, .i32⟩
  | 26 => ⟨S4096x6, .i32⟩
  | 27 => ⟨S4096x1, .i32⟩
  | 28 => ⟨S4096x1, .i32⟩
  | 29 => ⟨S4096x1, .i32⟩
  | 30 => ⟨S4096x1, .i32⟩
  | 31 => ⟨S4096x1, .i32⟩
  | 32 => ⟨S4096x1, .i32⟩
  | 33 => ⟨S4096x6, .i32⟩
  | 34 => ⟨S4096x1, .i32⟩
  | 35 => ⟨S4096x1, .i32⟩
  | 36 => ⟨S4096x1, .i32⟩
  | 37 => ⟨S4096x1, .i32⟩
  | 38 => ⟨S4096x1, .i32⟩
  | 39 => ⟨S4096x1, .i32⟩
  | 40 => ⟨S4096x6, .i32⟩
  | 41 => ⟨S4096x1, .i32⟩
  | 42 => ⟨S4096x1, .i32⟩
  | 43 => ⟨S4096x1, .i32⟩
  | 44 => ⟨S4096x1, .i32⟩
  | 45 => ⟨S4096x1, .i32⟩
  | 46 => ⟨S4096x1, .i32⟩
  | 47 => ⟨S4096x6, .i32⟩
  | 48 => ⟨S4096x6, .i32⟩
  | 49 => ⟨S4096x6, .i32⟩
  | 50 => ⟨S4096x6, .i32⟩
  | 51 => ⟨S4096x6, .i32⟩
  | 52 => ⟨S4096x6, .i32⟩
  | 53 => ⟨S_, .i32⟩
  | 54 => ⟨S4096, .i32⟩
  | 55 => ⟨S4096x1, .i32⟩
  | 56 => ⟨S4096x6, .i32⟩
  | 57 => ⟨S4096x6, .i1⟩
  | 58 => ⟨S6, .i32⟩
  | 59 => ⟨S1x6, .i32⟩
  | 60 => ⟨S_, .i32⟩
  | 61 => ⟨S_, .i32⟩
  | 62 => ⟨S4096x6, .i32⟩
  | 63 => ⟨S4096x6, .i32⟩
  | 64 => ⟨S4096x6, .i32⟩
  | 65 => ⟨S_, .i32⟩
  | 66 => ⟨S4096, .i32⟩
  | 67 => ⟨S4096x1, .i32⟩
  | 68 => ⟨S6, .i32⟩
  | 69 => ⟨S1x6, .i32⟩
  | 70 => ⟨S4096x6, .i32⟩
  | 71 => ⟨S4096x6, .i32⟩
  | 72 => ⟨S4096x6, .i1⟩
  | 73 => ⟨S_, .i32⟩
  | 74 => ⟨S_, .i32⟩
  | 75 => ⟨S4096x6, .i32⟩
  | 76 => ⟨S4096x6, .i32⟩
  | 77 => ⟨S_, .i32⟩
  | 78 => ⟨S4096, .i32⟩
  | 79 => ⟨S4096x1, .i32⟩
  | 80 => ⟨S4096x196, .i32⟩
  | 81 => ⟨S4096x196, .i32⟩
  | 82 => ⟨S4096x196, .i32⟩
  | 83 => ⟨S4096x196, .i32⟩
  | 84 => ⟨S_, .i32⟩
  | 85 => ⟨S_, .i32⟩
  | 86 => ⟨S4096x6, .i32⟩
  | 87 => ⟨S4096x6, .i32⟩
  | 88 => ⟨S_, .i32⟩
  | 89 => ⟨S4096, .i32⟩
  | 90 => ⟨S4096x1, .i32⟩
  | 91 => ⟨S4096x196, .i32⟩
  | 92 => ⟨S4096x196, .i32⟩
  | 93 => ⟨S4096x196, .i32⟩
  | 94 => ⟨S4096x196, .i32⟩
  | 95 => ⟨S4096x196, .i32⟩
  | 96 => ⟨S_, .i32⟩
  | 97 => ⟨S_, .i32⟩
  | 98 => ⟨S4096x6, .i32⟩
  | 99 => ⟨S4096x6, .i32⟩
  | 100 => ⟨S_, .i32⟩
  | 101 => ⟨S4096, .i32⟩
  | 102 => ⟨S4096x1, .i32⟩
  | 103 => ⟨S4096x196, .i32⟩
  | 104 => ⟨S4096x196, .i32⟩
  | 105 => ⟨S4096x196, .i32⟩
  | 106 => ⟨S4096x196, .i32⟩
  | 107 => ⟨S_, .i32⟩
  | 108 => ⟨S_, .i32⟩
  | 109 => ⟨S4096x6, .i32⟩
  | 110 => ⟨S4096x6, .i32⟩
  | 111 => ⟨S_, .i32⟩
  | 112 => ⟨S4096, .i32⟩
  | 113 => ⟨S4096x1, .i32⟩
  | 114 => ⟨S4096x196, .i32⟩
  | 115 => ⟨S4096x196, .i32⟩
  | 116 => ⟨S4096x196, .i32⟩
  | 117 => ⟨S4096x196, .i32⟩
  | 118 => ⟨S4096x196, .i32⟩
  | 119 => ⟨S4096x196, .i1⟩
  | 120 => ⟨S4096x196, .f32⟩
  | 121 => ⟨S_, .f32⟩
  | 122 => ⟨S4096x196, .f32⟩
  | 123 => ⟨S4096x196, .i1⟩
  | 124 => ⟨S4096x196, .f32⟩
  | 125 => ⟨S4096x1x14x14, .f32⟩
  | 126 => ⟨S4096x1x14x14, .f32⟩
  | _ => ⟨S4096x1x14x14, .f32⟩

abbrev hbmTy (i : Nat) : BufTy := match i / 128 with
  | 0 => hbmTy0_0 i
  | 1 => hbmTy0_1 i
  | 2 => hbmTy0_2 i
  | 3 => hbmTy0_3 i
  | _ => ⟨S4096x1x14x14, .f32⟩

abbrev bufTy : (tb : Table) → Fin (tcTables nBuf tb) → BufTy
  | .hbm, ⟨i, _⟩ => hbmTy i
  | _, _ => ⟨S4096x1x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v8 : Ref sig .tc := ⟨.hbm, 48, rfl⟩
abbrev main_v9 : Ref sig .tc := ⟨.hbm, 49, rfl⟩
abbrev main_cst_1 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_2 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v16 : Ref sig .tc := ⟨.hbm, 61, rfl⟩
abbrev main_c_3 : Ref sig .tc := ⟨.hbm, 62, rfl⟩
abbrev main_v17 : Ref sig .tc := ⟨.hbm, 63, rfl⟩
abbrev main_c_4 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v18 : Ref sig .tc := ⟨.hbm, 81, rfl⟩
abbrev main_c_5 : Ref sig .tc := ⟨.hbm, 82, rfl⟩
abbrev main_call4_v0 : Ref sig .tc := ⟨.hbm, 83, rfl⟩
abbrev main_call4_c : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_c_1 : Ref sig .tc := ⟨.hbm, 90, rfl⟩
abbrev main_call4_v5 : Ref sig .tc := ⟨.hbm, 91, rfl⟩
abbrev main_call4_v6 : Ref sig .tc := ⟨.hbm, 92, rfl⟩
abbrev main_call4_c_2 : Ref sig .tc := ⟨.hbm, 93, rfl⟩
abbrev main_call4_v7 : Ref sig .tc := ⟨.hbm, 94, rfl⟩
abbrev main_call4_v8 : Ref sig .tc := ⟨.hbm, 95, rfl⟩
abbrev main_call4_c_3 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_v19 : Ref sig .tc := ⟨.hbm, 103, rfl⟩
abbrev main_c_6 : Ref sig .tc := ⟨.hbm, 104, rfl⟩
abbrev main_v20 : Ref sig .tc := ⟨.hbm, 105, rfl⟩
abbrev main_v21 : Ref sig .tc := ⟨.hbm, 106, rfl⟩
abbrev main_c_7 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_c_8 : Ref sig .tc := ⟨.hbm, 111, rfl⟩
abbrev main_v25 : Ref sig .tc := ⟨.hbm, 112, rfl⟩
abbrev main_v26 : Ref sig .tc := ⟨.hbm, 113, rfl⟩
abbrev main_c_9 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_c_10 : Ref sig .tc := ⟨.hbm, 118, rfl⟩
abbrev main_v30 : Ref sig .tc := ⟨.hbm, 119, rfl⟩
abbrev main_v31 : Ref sig .tc := ⟨.hbm, 120, rfl⟩
abbrev main_c_11 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_c_12 : Ref sig .tc := ⟨.hbm, 125, rfl⟩
abbrev main_v35 : Ref sig .tc := ⟨.hbm, 126, rfl⟩
abbrev main_v36 : Ref sig .tc := ⟨.hbm, 127, rfl⟩
abbrev main_c_13 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_cst_14 : Ref sig .tc := ⟨.hbm, 147, rfl⟩
abbrev main_v55 : Ref sig .tc := ⟨.hbm, 148, rfl⟩
abbrev main_v56 : Ref sig .tc := ⟨.hbm, 149, rfl⟩
abbrev main_cst_15 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_c_16 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v63 : Ref sig .tc := ⟨.hbm, 161, rfl⟩
abbrev main_c_17 : Ref sig .tc := ⟨.hbm, 162, rfl⟩
abbrev main_v64 : Ref sig .tc := ⟨.hbm, 163, rfl⟩
abbrev main_c_18 : Ref sig .tc := ⟨.hbm, 164, rfl⟩
abbrev main_call7_v0 : Ref sig .tc := ⟨.hbm, 165, rfl⟩
abbrev main_call7_v1 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_call7_v5 : Ref sig .tc := ⟨.hbm, 170, rfl⟩
abbrev main_call7_v6 : Ref sig .tc := ⟨.hbm, 171, rfl⟩
abbrev main_call7_v7 : Ref sig .tc := ⟨.hbm, 172, rfl⟩
abbrev main_call7_v8 : Ref sig .tc := ⟨.hbm, 173, rfl⟩
abbrev main_call7_c : Ref sig .tc := ⟨.hbm, 174, rfl⟩
abbrev main_call7_v9 : Ref sig .tc := ⟨.hbm, 175, rfl⟩
abbrev main_call7_v10 : Ref sig .tc := ⟨.hbm, 176, rfl⟩
abbrev main_call7_v11 : Ref sig .tc := ⟨.hbm, 177, rfl⟩
abbrev main_call7_c_0 : Ref sig .tc := ⟨.hbm, 178, rfl⟩
abbrev main_call7_v12 : Ref sig .tc := ⟨.hbm, 179, rfl⟩
abbrev main_call7_v13 : Ref sig .tc := ⟨.hbm, 180, rfl⟩
abbrev main_v65 : Ref sig .tc := ⟨.hbm, 181, rfl⟩
abbrev main_c_19 : Ref sig .tc := ⟨.hbm, 182, rfl⟩
abbrev main_call8_v0 : Ref sig .tc := ⟨.hbm, 183, rfl⟩
abbrev main_call8_c : Ref sig .tc := ⟨.hbm, 184, rfl⟩
abbrev main_call8_v1 : Ref sig .tc := ⟨.hbm, 185, rfl⟩
abbrev main_call8_c_0 : Ref sig .tc := ⟨.hbm, 186, rfl⟩
abbrev main_call8_v2 : Ref sig .tc := ⟨.hbm, 187, rfl⟩
abbrev main_call8_v3 : Ref sig .tc := ⟨.hbm, 188, rfl⟩
abbrev main_call8_v4 : Ref sig .tc := ⟨.hbm, 189, rfl⟩
abbrev main_call8_c_1 : Ref sig .tc := ⟨.hbm, 190, rfl⟩
abbrev main_call8_v5 : Ref sig .tc := ⟨.hbm, 191, rfl⟩
abbrev main_call8_v6 : Ref sig .tc := ⟨.hbm, 192, rfl⟩
abbrev main_call8_c_2 : Ref sig .tc := ⟨.hbm, 193, rfl⟩
abbrev main_call8_v7 : Ref sig .tc := ⟨.hbm, 194, rfl⟩
abbrev main_call8_v8 : Ref sig .tc := ⟨.hbm, 195, rfl⟩
abbrev main_call8_c_3 : Ref sig .tc := ⟨.hbm, 196, rfl⟩
abbrev main_call8_v9 : Ref sig .tc := ⟨.hbm, 197, rfl⟩
abbrev main_call8_v10 : Ref sig .tc := ⟨.hbm, 198, rfl⟩
abbrev main_call8_v11 : Ref sig .tc := ⟨.hbm, 199, rfl⟩
abbrev main_call8_v12 : Ref sig .tc := ⟨.hbm, 200, rfl⟩
abbrev main_call8_v13 : Ref sig .tc := ⟨.hbm, 201, rfl⟩
abbrev main_call8_v14 : Ref sig .tc := ⟨.hbm, 202, rfl⟩
abbrev main_v66 : Ref sig .tc := ⟨.hbm, 203, rfl⟩
abbrev main_c_20 : Ref sig .tc := ⟨.hbm, 204, rfl⟩
abbrev main_v67 : Ref sig .tc := ⟨.hbm, 205, rfl⟩
abbrev main_v68 : Ref sig .tc := ⟨.hbm, 206, rfl⟩
abbrev main_c_21 : Ref sig .tc := ⟨.hbm, 207, rfl⟩
abbrev main_v69 : Ref sig .tc := ⟨.hbm, 208, rfl⟩
abbrev main_v70 : Ref sig .tc := ⟨.hbm, 209, rfl⟩
abbrev main_v71 : Ref sig .tc := ⟨.hbm, 210, rfl⟩
abbrev main_c_22 : Ref sig .tc := ⟨.hbm, 211, rfl⟩
abbrev main_v72 : Ref sig .tc := ⟨.hbm, 212, rfl⟩
abbrev main_v73 : Ref sig .tc := ⟨.hbm, 213, rfl⟩
abbrev main_c_23 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_c_24 : Ref sig .tc := ⟨.hbm, 218, rfl⟩
abbrev main_v77 : Ref sig .tc := ⟨.hbm, 219, rfl⟩
abbrev main_v78 : Ref sig .tc := ⟨.hbm, 220, rfl⟩
abbrev main_c_25 : Ref sig .tc := ⟨.hbm, 221, rfl⟩
abbrev main_v79 : Ref sig .tc := ⟨.hbm, 222, rfl⟩
abbrev main_v80 : Ref sig .tc := ⟨.hbm, 223, rfl⟩
abbrev main_v81 : Ref sig .tc := ⟨.hbm, 224, rfl⟩
abbrev main_c_26 : Ref sig .tc := ⟨.hbm, 225, rfl⟩
abbrev main_v82 : Ref sig .tc := ⟨.hbm, 226, rfl⟩
abbrev main_v83 : Ref sig .tc := ⟨.hbm, 227, rfl⟩
abbrev main_c_27 : Ref sig .tc := ⟨.hbm, 228, rfl⟩
abbrev main_v84 : Ref sig .tc := ⟨.hbm, 229, rfl⟩
abbrev main_v85 : Ref sig .tc := ⟨.hbm, 230, rfl⟩
abbrev main_v86 : Ref sig .tc := ⟨.hbm, 231, rfl⟩
abbrev main_v87 : Ref sig .tc := ⟨.hbm, 232, rfl⟩
abbrev main_v88 : Ref sig .tc := ⟨.hbm, 233, rfl⟩
abbrev main_v89 : Ref sig .tc := ⟨.hbm, 234, rfl⟩
abbrev main_v90 : Ref sig .tc := ⟨.hbm, 235, rfl⟩
abbrev main_v91 : Ref sig .tc := ⟨.hbm, 236, rfl⟩
abbrev main_v92 : Ref sig .tc := ⟨.hbm, 237, rfl⟩
abbrev main_v93 : Ref sig .tc := ⟨.hbm, 238, rfl⟩
abbrev main_v94 : Ref sig .tc := ⟨.hbm, 239, rfl⟩
abbrev main_v95 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_v100 : Ref sig .tc := ⟨.hbm, 245, rfl⟩
abbrev main_v101 : Ref sig .tc := ⟨.hbm, 246, rfl⟩
abbrev main_cst_28 : Ref sig .tc := ⟨.hbm, 247, rfl⟩
abbrev main_v102 : Ref sig .tc := ⟨.hbm, 248, rfl⟩
abbrev main_v103 : Ref sig .tc := ⟨.hbm, 249, rfl⟩
abbrev main_cst_29 : Ref sig .tc := ⟨.hbm, 250, rfl⟩
abbrev main_v104 : Ref sig .tc := ⟨.hbm, 251, rfl⟩
abbrev main_v105 : Ref sig .tc := ⟨.hbm, 252, rfl⟩
abbrev main_v106 : Ref sig .tc := ⟨.hbm, 253, rfl⟩
abbrev main_v107 : Ref sig .tc := ⟨.hbm, 254, rfl⟩
abbrev main_v108 : Ref sig .tc := ⟨.hbm, 255, rfl⟩
abbrev main_v109 : Ref sig .tc := ⟨.hbm, 256, rfl⟩
abbrev main_c_30 : Ref sig .tc := ⟨.hbm, 257, rfl⟩
abbrev main_call10_v0 : Ref sig .tc := ⟨.hbm, 258, rfl⟩
abbrev main_call10_v1 : Ref sig .tc := ⟨.hbm, 259, rfl⟩
abbrev main_call10_v2 : Ref sig .tc := ⟨.hbm, 260, rfl⟩
abbrev main_v110 : Ref sig .tc := ⟨.hbm, 261, rfl⟩
abbrev main_c_31 : Ref sig .tc := ⟨.hbm, 262, rfl⟩
abbrev main_v111 : Ref sig .tc := ⟨.hbm, 263, rfl⟩
abbrev main_c_32 : Ref sig .tc := ⟨.hbm, 264, rfl⟩
abbrev main_call11_v0 : Ref sig .tc := ⟨.hbm, 265, rfl⟩
abbrev main_call11_v1 : Ref sig .tc := ⟨.hbm, 266, rfl⟩
abbrev main_call11_v2 : Ref sig .tc := ⟨.hbm, 267, rfl⟩
abbrev main_call11_v3 : Ref sig .tc := ⟨.hbm, 268, rfl⟩
abbrev main_call11_v4 : Ref sig .tc := ⟨.hbm, 269, rfl⟩
abbrev main_call11_v5 : Ref sig .tc := ⟨.hbm, 270, rfl⟩
abbrev main_call11_v6 : Ref sig .tc := ⟨.hbm, 271, rfl⟩
abbrev main_call11_v7 : Ref sig .tc := ⟨.hbm, 272, rfl⟩
abbrev main_call11_v8 : Ref sig .tc := ⟨.hbm, 273, rfl⟩
abbrev main_call11_c : Ref sig .tc := ⟨.hbm, 274, rfl⟩
abbrev main_call11_v9 : Ref sig .tc := ⟨.hbm, 275, rfl⟩
abbrev main_call11_v10 : Ref sig .tc := ⟨.hbm, 276, rfl⟩
abbrev main_call11_v11 : Ref sig .tc := ⟨.hbm, 277, rfl⟩
abbrev main_call11_c_0 : Ref sig .tc := ⟨.hbm, 278, rfl⟩
abbrev main_call11_v12 : Ref sig .tc := ⟨.hbm, 279, rfl⟩
abbrev main_call11_v13 : Ref sig .tc := ⟨.hbm, 280, rfl⟩
abbrev main_v112 : Ref sig .tc := ⟨.hbm, 281, rfl⟩
abbrev main_c_33 : Ref sig .tc := ⟨.hbm, 282, rfl⟩
abbrev main_call12_v0 : Ref sig .tc := ⟨.hbm, 283, rfl⟩
abbrev main_call12_c : Ref sig .tc := ⟨.hbm, 284, rfl⟩
abbrev main_call12_v1 : Ref sig .tc := ⟨.hbm, 285, rfl⟩
abbrev main_call12_c_0 : Ref sig .tc := ⟨.hbm, 286, rfl⟩
abbrev main_call12_v2 : Ref sig .tc := ⟨.hbm, 287, rfl⟩
abbrev main_call12_v3 : Ref sig .tc := ⟨.hbm, 288, rfl⟩
abbrev main_call12_v4 : Ref sig .tc := ⟨.hbm, 289, rfl⟩
abbrev main_call12_c_1 : Ref sig .tc := ⟨.hbm, 290, rfl⟩
abbrev main_call12_v5 : Ref sig .tc := ⟨.hbm, 291, rfl⟩
abbrev main_call12_v6 : Ref sig .tc := ⟨.hbm, 292, rfl⟩
abbrev main_call12_c_2 : Ref sig .tc := ⟨.hbm, 293, rfl⟩
abbrev main_call12_v7 : Ref sig .tc := ⟨.hbm, 294, rfl⟩
abbrev main_call12_v8 : Ref sig .tc := ⟨.hbm, 295, rfl⟩
abbrev main_call12_c_3 : Ref sig .tc := ⟨.hbm, 296, rfl⟩
abbrev main_call12_v9 : Ref sig .tc := ⟨.hbm, 297, rfl⟩
abbrev main_call12_v10 : Ref sig .tc := ⟨.hbm, 298, rfl⟩
abbrev main_call12_v11 : Ref sig .tc := ⟨.hbm, 299, rfl⟩
abbrev main_call12_v12 : Ref sig .tc := ⟨.hbm, 300, rfl⟩
abbrev main_call12_v13 : Ref sig .tc := ⟨.hbm, 301, rfl⟩
abbrev main_call12_v14 : Ref sig .tc := ⟨.hbm, 302, rfl⟩
abbrev main_v113 : Ref sig .tc := ⟨.hbm, 303, rfl⟩
abbrev main_c_34 : Ref sig .tc := ⟨.hbm, 304, rfl⟩
abbrev main_v114 : Ref sig .tc := ⟨.hbm, 305, rfl⟩
abbrev main_v115 : Ref sig .tc := ⟨.hbm, 306, rfl⟩
abbrev main_c_35 : Ref sig .tc := ⟨.hbm, 307, rfl⟩
abbrev main_v116 : Ref sig .tc := ⟨.hbm, 308, rfl⟩
abbrev main_v117 : Ref sig .tc := ⟨.hbm, 309, rfl⟩
abbrev main_v118 : Ref sig .tc := ⟨.hbm, 310, rfl⟩
abbrev main_c_36 : Ref sig .tc := ⟨.hbm, 311, rfl⟩
abbrev main_v119 : Ref sig .tc := ⟨.hbm, 312, rfl⟩
abbrev main_v120 : Ref sig .tc := ⟨.hbm, 313, rfl⟩
abbrev main_c_37 : Ref sig .tc := ⟨.hbm, 314, rfl⟩
abbrev main_v121 : Ref sig .tc := ⟨.hbm, 315, rfl⟩
abbrev main_v122 : Ref sig .tc := ⟨.hbm, 316, rfl⟩
abbrev main_v123 : Ref sig .tc := ⟨.hbm, 317, rfl⟩
abbrev main_c_38 : Ref sig .tc := ⟨.hbm, 318, rfl⟩
abbrev main_v124 : Ref sig .tc := ⟨.hbm, 319, rfl⟩
abbrev main_v125 : Ref sig .tc := ⟨.hbm, 320, rfl⟩
abbrev main_c_39 : Ref sig .tc := ⟨.hbm, 321, rfl⟩
abbrev main_v126 : Ref sig .tc := ⟨.hbm, 322, rfl⟩
abbrev main_v127 : Ref sig .tc := ⟨.hbm, 323, rfl⟩
abbrev main_v128 : Ref sig .tc := ⟨.hbm, 324, rfl⟩
abbrev main_c_40 : Ref sig .tc := ⟨.hbm, 325, rfl⟩
abbrev main_v129 : Ref sig .tc := ⟨.hbm, 326, rfl⟩
abbrev main_v130 : Ref sig .tc := ⟨.hbm, 327, rfl⟩
abbrev main_c_41 : Ref sig .tc := ⟨.hbm, 328, rfl⟩
abbrev main_v131 : Ref sig .tc := ⟨.hbm, 329, rfl⟩
abbrev main_v132 : Ref sig .tc := ⟨.hbm, 330, rfl⟩
abbrev main_v133 : Ref sig .tc := ⟨.hbm, 331, rfl⟩
abbrev main_v134 : Ref sig .tc := ⟨.hbm, 332, rfl⟩
abbrev main_v135 : Ref sig .tc := ⟨.hbm, 333, rfl⟩
abbrev main_v136 : Ref sig .tc := ⟨.hbm, 334, rfl⟩
abbrev main_v137 : Ref sig .tc := ⟨.hbm, 335, rfl⟩
abbrev main_v138 : Ref sig .tc := ⟨.hbm, 336, rfl⟩
abbrev main_v139 : Ref sig .tc := ⟨.hbm, 337, rfl⟩
abbrev main_v140 : Ref sig .tc := ⟨.hbm, 338, rfl⟩
abbrev main_v141 : Ref sig .tc := ⟨.hbm, 339, rfl⟩
abbrev main_v142 : Ref sig .tc := ⟨.hbm, 340, rfl⟩
abbrev main_v143 : Ref sig .tc := ⟨.hbm, 341, rfl⟩
abbrev main_v144 : Ref sig .tc := ⟨.hbm, 342, rfl⟩
abbrev main_v145 : Ref sig .tc := ⟨.hbm, 343, rfl⟩
abbrev main_v146 : Ref sig .tc := ⟨.hbm, 344, rfl⟩
abbrev main_v147 : Ref sig .tc := ⟨.hbm, 345, rfl⟩
abbrev main_v148 : Ref sig .tc := ⟨.hbm, 346, rfl⟩
abbrev main_cst_42 : Ref sig .tc := ⟨.hbm, 347, rfl⟩
abbrev main_v149 : Ref sig .tc := ⟨.hbm, 348, rfl⟩
abbrev main_v150 : Ref sig .tc := ⟨.hbm, 349, rfl⟩
abbrev main_cst_43 : Ref sig .tc := ⟨.hbm, 350, rfl⟩
abbrev main_v151 : Ref sig .tc := ⟨.hbm, 351, rfl⟩
abbrev main_v152 : Ref sig .tc := ⟨.hbm, 352, rfl⟩
abbrev main_v153 : Ref sig .tc := ⟨.hbm, 353, rfl⟩
abbrev main_v154 : Ref sig .tc := ⟨.hbm, 354, rfl⟩
abbrev main_v155 : Ref sig .tc := ⟨.hbm, 355, rfl⟩
abbrev main_v156 : Ref sig .tc := ⟨.hbm, 356, rfl⟩
abbrev main_c_44 : Ref sig .tc := ⟨.hbm, 357, rfl⟩
abbrev main_call14_v0 : Ref sig .tc := ⟨.hbm, 358, rfl⟩
abbrev main_call14_v1 : Ref sig .tc := ⟨.hbm, 359, rfl⟩
abbrev main_call14_v2 : Ref sig .tc := ⟨.hbm, 360, rfl⟩
abbrev main_v157 : Ref sig .tc := ⟨.hbm, 361, rfl⟩
abbrev main_c_45 : Ref sig .tc := ⟨.hbm, 362, rfl⟩
abbrev main_v158 : Ref sig .tc := ⟨.hbm, 363, rfl⟩
abbrev main_c_46 : Ref sig .tc := ⟨.hbm, 364, rfl⟩
abbrev main_call15_v0 : Ref sig .tc := ⟨.hbm, 365, rfl⟩
abbrev main_call15_v1 : Ref sig .tc := ⟨.hbm, 366, rfl⟩
abbrev main_call15_v2 : Ref sig .tc := ⟨.hbm, 367, rfl⟩
abbrev main_call15_v3 : Ref sig .tc := ⟨.hbm, 368, rfl⟩
abbrev main_call15_v4 : Ref sig .tc := ⟨.hbm, 369, rfl⟩
abbrev main_call15_v5 : Ref sig .tc := ⟨.hbm, 370, rfl⟩
abbrev main_call15_v6 : Ref sig .tc := ⟨.hbm, 371, rfl⟩
abbrev main_call15_v7 : Ref sig .tc := ⟨.hbm, 372, rfl⟩
abbrev main_call15_v8 : Ref sig .tc := ⟨.hbm, 373, rfl⟩
abbrev main_call15_c : Ref sig .tc := ⟨.hbm, 374, rfl⟩
abbrev main_call15_v9 : Ref sig .tc := ⟨.hbm, 375, rfl⟩
abbrev main_call15_v10 : Ref sig .tc := ⟨.hbm, 376, rfl⟩
abbrev main_call15_v11 : Ref sig .tc := ⟨.hbm, 377, rfl⟩
abbrev main_call15_c_0 : Ref sig .tc := ⟨.hbm, 378, rfl⟩
abbrev main_call15_v12 : Ref sig .tc := ⟨.hbm, 379, rfl⟩
abbrev main_call15_v13 : Ref sig .tc := ⟨.hbm, 380, rfl⟩
abbrev main_v159 : Ref sig .tc := ⟨.hbm, 381, rfl⟩
abbrev main_c_47 : Ref sig .tc := ⟨.hbm, 382, rfl⟩
abbrev main_call16_v0 : Ref sig .tc := ⟨.hbm, 383, rfl⟩
abbrev main_call16_c : Ref sig .tc := ⟨.hbm, 384, rfl⟩
abbrev main_call16_v1 : Ref sig .tc := ⟨.hbm, 385, rfl⟩
abbrev main_call16_c_0 : Ref sig .tc := ⟨.hbm, 386, rfl⟩
abbrev main_call16_v2 : Ref sig .tc := ⟨.hbm, 387, rfl⟩
abbrev main_call16_v3 : Ref sig .tc := ⟨.hbm, 388, rfl⟩
abbrev main_call16_v4 : Ref sig .tc := ⟨.hbm, 389, rfl⟩
abbrev main_call16_c_1 : Ref sig .tc := ⟨.hbm, 390, rfl⟩
abbrev main_call16_v5 : Ref sig .tc := ⟨.hbm, 391, rfl⟩
abbrev main_call16_v6 : Ref sig .tc := ⟨.hbm, 392, rfl⟩
abbrev main_call16_c_2 : Ref sig .tc := ⟨.hbm, 393, rfl⟩
abbrev main_call16_v7 : Ref sig .tc := ⟨.hbm, 394, rfl⟩
abbrev main_call16_v8 : Ref sig .tc := ⟨.hbm, 395, rfl⟩
abbrev main_call16_c_3 : Ref sig .tc := ⟨.hbm, 396, rfl⟩
abbrev main_call16_v9 : Ref sig .tc := ⟨.hbm, 397, rfl⟩
abbrev main_call16_v10 : Ref sig .tc := ⟨.hbm, 398, rfl⟩
abbrev main_call16_v11 : Ref sig .tc := ⟨.hbm, 399, rfl⟩
abbrev main_call16_v12 : Ref sig .tc := ⟨.hbm, 400, rfl⟩
abbrev main_call16_v13 : Ref sig .tc := ⟨.hbm, 401, rfl⟩
abbrev main_call16_v14 : Ref sig .tc := ⟨.hbm, 402, rfl⟩
abbrev main_v160 : Ref sig .tc := ⟨.hbm, 403, rfl⟩
abbrev main_v161 : Ref sig .tc := ⟨.hbm, 404, rfl⟩
abbrev main_v162 : Ref sig .tc := ⟨.hbm, 405, rfl⟩
abbrev main_v163 : Ref sig .tc := ⟨.hbm, 406, rfl⟩
abbrev main_v164 : Ref sig .tc := ⟨.hbm, 407, rfl⟩
abbrev main_v165 : Ref sig .tc := ⟨.hbm, 408, rfl⟩
abbrev main_v166 : Ref sig .tc := ⟨.hbm, 409, rfl⟩
abbrev main_v167 : Ref sig .tc := ⟨.hbm, 410, rfl⟩
abbrev main_v168 : Ref sig .tc := ⟨.hbm, 411, rfl⟩
abbrev main_v169 : Ref sig .tc := ⟨.hbm, 412, rfl⟩
abbrev main_v170 : Ref sig .tc := ⟨.hbm, 413, rfl⟩
abbrev main_v171 : Ref sig .tc := ⟨.hbm, 414, rfl⟩
abbrev main_v172 : Ref sig .tc := ⟨.hbm, 415, rfl⟩
abbrev main_v173 : Ref sig .tc := ⟨.hbm, 416, rfl⟩
abbrev main_v174 : Ref sig .tc := ⟨.hbm, 417, rfl⟩
abbrev main_v175 : Ref sig .tc := ⟨.hbm, 418, rfl⟩
abbrev main_v176 : Ref sig .tc := ⟨.hbm, 419, rfl⟩
abbrev main_v177 : Ref sig .tc := ⟨.hbm, 420, rfl⟩
abbrev main_v178 : Ref sig .tc := ⟨.hbm, 421, rfl⟩
abbrev main_v179 : Ref sig .tc := ⟨.hbm, 422, rfl⟩
abbrev main_v180 : Ref sig .tc := ⟨.hbm, 423, rfl⟩
abbrev main_v181 : Ref sig .tc := ⟨.hbm, 424, rfl⟩
abbrev main_v182 : Ref sig .tc := ⟨.hbm, 425, rfl⟩
abbrev main_v183 : Ref sig .tc := ⟨.hbm, 426, rfl⟩
abbrev main_v184 : Ref sig .tc := ⟨.hbm, 427, rfl⟩
abbrev main_v185 : Ref sig .tc := ⟨.hbm, 428, rfl⟩
abbrev main_v186 : Ref sig .tc := ⟨.hbm, 429, rfl⟩
abbrev main_v187 : Ref sig .tc := ⟨.hbm, 430, rfl⟩
abbrev main_v188 : Ref sig .tc := ⟨.hbm, 431, rfl⟩
abbrev main_v189 : Ref sig .tc := ⟨.hbm, 432, rfl⟩
abbrev main_v190 : Ref sig .tc := ⟨.hbm, 433, rfl⟩
abbrev main_v191 : Ref sig .tc := ⟨.hbm, 434, rfl⟩
abbrev main_v192 : Ref sig .tc := ⟨.hbm, 435, rfl⟩
abbrev main_v193 : Ref sig .tc := ⟨.hbm, 436, rfl⟩
abbrev main_c_48 : Ref sig .tc := ⟨.hbm, 437, rfl⟩
abbrev main_v194 : Ref sig .tc := ⟨.hbm, 438, rfl⟩
abbrev main_v195 : Ref sig .tc := ⟨.hbm, 439, rfl⟩
abbrev main_v196 : Ref sig .tc := ⟨.hbm, 440, rfl⟩
abbrev main_v197 : Ref sig .tc := ⟨.hbm, 441, rfl⟩
abbrev main_v198 : Ref sig .tc := ⟨.hbm, 442, rfl⟩
abbrev main_v199 : Ref sig .tc := ⟨.hbm, 443, rfl⟩
abbrev main_c_49 : Ref sig .tc := ⟨.hbm, 444, rfl⟩
abbrev main_call17_v0 : Ref sig .tc := ⟨.hbm, 445, rfl⟩
abbrev main_call17_v1 : Ref sig .tc := ⟨.hbm, 446, rfl⟩
abbrev main_call17_v2 : Ref sig .tc := ⟨.hbm, 447, rfl⟩
abbrev main_v200 : Ref sig .tc := ⟨.hbm, 448, rfl⟩
abbrev main_c_50 : Ref sig .tc := ⟨.hbm, 449, rfl⟩
abbrev main_v201 : Ref sig .tc := ⟨.hbm, 450, rfl⟩
abbrev main_v202 : Ref sig .tc := ⟨.hbm, 451, rfl⟩
abbrev main_v203 : Ref sig .tc := ⟨.hbm, 452, rfl⟩
abbrev main_v204 : Ref sig .tc := ⟨.hbm, 453, rfl⟩
abbrev main_v205 : Ref sig .tc := ⟨.hbm, 454, rfl⟩
abbrev main_v206 : Ref sig .tc := ⟨.hbm, 455, rfl⟩
abbrev main_v207 : Ref sig .tc := ⟨.hbm, 456, rfl⟩
abbrev main_c_51 : Ref sig .tc := ⟨.hbm, 457, rfl⟩
abbrev main_call18_v0 : Ref sig .tc := ⟨.hbm, 458, rfl⟩
abbrev main_call18_v1 : Ref sig .tc := ⟨.hbm, 459, rfl⟩
abbrev main_v208 : Ref sig .tc := ⟨.hbm, 460, rfl⟩
abbrev main_c_52 : Ref sig .tc := ⟨.hbm, 461, rfl⟩
abbrev main_v209 : Ref sig .tc := ⟨.hbm, 462, rfl⟩
abbrev main_v210 : Ref sig .tc := ⟨.hbm, 463, rfl⟩
abbrev main_v211 : Ref sig .tc := ⟨.hbm, 464, rfl⟩
abbrev main_v212 : Ref sig .tc := ⟨.hbm, 465, rfl⟩
abbrev main_v213 : Ref sig .tc := ⟨.hbm, 466, rfl⟩
abbrev main_v214 : Ref sig .tc := ⟨.hbm, 467, rfl⟩
abbrev main_c_53 : Ref sig .tc := ⟨.hbm, 468, rfl⟩
abbrev main_call19_v0 : Ref sig .tc := ⟨.hbm, 469, rfl⟩
abbrev main_call19_v1 : Ref sig .tc := ⟨.hbm, 470, rfl⟩
abbrev main_v215 : Ref sig .tc := ⟨.hbm, 471, rfl⟩
abbrev main_c_54 : Ref sig .tc := ⟨.hbm, 472, rfl⟩
abbrev main_v216 : Ref sig .tc := ⟨.hbm, 473, rfl⟩
abbrev main_v217 : Ref sig .tc := ⟨.hbm, 474, rfl⟩
abbrev main_v218 : Ref sig .tc := ⟨.hbm, 475, rfl⟩
abbrev main_v219 : Ref sig .tc := ⟨.hbm, 476, rfl⟩
abbrev main_v220 : Ref sig .tc := ⟨.hbm, 477, rfl⟩
abbrev main_v221 : Ref sig .tc := ⟨.hbm, 478, rfl⟩
abbrev main_v222 : Ref sig .tc := ⟨.hbm, 479, rfl⟩
abbrev main_c_55 : Ref sig .tc := ⟨.hbm, 480, rfl⟩
abbrev main_call20_v0 : Ref sig .tc := ⟨.hbm, 481, rfl⟩
abbrev main_call20_v1 : Ref sig .tc := ⟨.hbm, 482, rfl⟩
abbrev main_v223 : Ref sig .tc := ⟨.hbm, 483, rfl⟩
abbrev main_c_56 : Ref sig .tc := ⟨.hbm, 484, rfl⟩
abbrev main_v224 : Ref sig .tc := ⟨.hbm, 485, rfl⟩
abbrev main_v225 : Ref sig .tc := ⟨.hbm, 486, rfl⟩
abbrev main_v226 : Ref sig .tc := ⟨.hbm, 487, rfl⟩
abbrev main_v227 : Ref sig .tc := ⟨.hbm, 488, rfl⟩
abbrev main_v228 : Ref sig .tc := ⟨.hbm, 489, rfl⟩
abbrev main_v229 : Ref sig .tc := ⟨.hbm, 490, rfl⟩
abbrev main_c_57 : Ref sig .tc := ⟨.hbm, 491, rfl⟩
abbrev main_call21_v0 : Ref sig .tc := ⟨.hbm, 492, rfl⟩
abbrev main_call21_v1 : Ref sig .tc := ⟨.hbm, 493, rfl⟩
abbrev main_v230 : Ref sig .tc := ⟨.hbm, 494, rfl⟩
abbrev main_c_58 : Ref sig .tc := ⟨.hbm, 495, rfl⟩
abbrev main_v231 : Ref sig .tc := ⟨.hbm, 496, rfl⟩
abbrev main_v232 : Ref sig .tc := ⟨.hbm, 497, rfl⟩
abbrev main_v233 : Ref sig .tc := ⟨.hbm, 498, rfl⟩
abbrev main_v234 : Ref sig .tc := ⟨.hbm, 499, rfl⟩
abbrev main_v235 : Ref sig .tc := ⟨.hbm, 500, rfl⟩
abbrev main_v236 : Ref sig .tc := ⟨.hbm, 501, rfl⟩
abbrev main_v237 : Ref sig .tc := ⟨.hbm, 502, rfl⟩
abbrev main_v238 : Ref sig .tc := ⟨.hbm, 503, rfl⟩
abbrev main_v239 : Ref sig .tc := ⟨.hbm, 504, rfl⟩
abbrev main_cst_59 : Ref sig .tc := ⟨.hbm, 505, rfl⟩
abbrev main_v240 : Ref sig .tc := ⟨.hbm, 506, rfl⟩
abbrev main_v241 : Ref sig .tc := ⟨.hbm, 507, rfl⟩
abbrev main_v242 : Ref sig .tc := ⟨.hbm, 508, rfl⟩
abbrev main_v243 : Ref sig .tc := ⟨.hbm, 509, rfl⟩
abbrev main_v244 : Ref sig .tc := ⟨.hbm, 510, rfl⟩

abbrev nD : Nat := 1
abbrev τ : Topo := Topo.v7x

variable {F : FTy → Type} [FloatOps F]
-- ==== Proof.Clean.lean ====
/-
  The tile's program written again over named steps: one trip of the repacking loop, one trip of a scan of the
  fourteen columns, one trip of the suppression, one trip of the walk over the map's cells. Each printed loop body is
  shown to be the named one, so that the four scans and the three suppressions are each proved once.
-/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

/-- A vector of sixteen lanes: of words, of floats, of bits. -/
abbrev WV : Type := IVec S16 32
abbrev FV (F : FTy → Type) : Type := FVec F S16 .f32
abbrev BV : Type := IVec S16 1

/-- The programs of one tile. -/
abbrev TP (F : FTy → Type) (i : grid0.Coords) : Type → Type _ :=
  Prog (TpuEff nD τ sig (Elt F) Λ₀ (.scVector ((i 0).castLE hcore0) ((i 1).castLE hsub0)))

abbrev Heat : Type := Memref sig .scVector .vmem S25232 .f32
abbrev Land : Type := Memref sig .scVector .vmem S128x256 .f32

variable (i : grid0.Coords)

/-! ## Reading and writing at sixteen places -/

/-- The check that sixteen places lie in the heat buffer, then the read there. -/
def readAt (heat : Heat) (v : WV) : TP F i (Vec F S16 .f32) := do
  have h : k0_chk1 v := (← Prog.lift (TpuEff.assume (k0_chk1 v) (k0_chk1.dec v))).down
  SparseCore.vectorLoadIdx heat ![v] (k0_idx1_inb v h) (View.loads_vmem h_S25232)

/-- The check, then the write of the lanes whose bit is set. -/
def writeAt (heat : Heat) (v : WV) (x : FV F) (m : BV) : TP F i PUnit := do
  have h : k0_chk1 v := (← Prog.lift (TpuEff.assume (k0_chk1 v) (k0_chk1.dec v))).down
  SparseCore.vectorStoreIdx heat ![v] x m false (k0_idx1_inb v h) (View.stores_vmem_bits_univ h_S25232 rfl)

/-! ## The columns of a scan -/

/-- What a scan carries: of every column the greatest value so far and where it stands. -/
abbrev Acc (F : FTy → Type) : Type := Fin 14 → FV F × WV

/-- The same in a row, as the loop carries it. -/
abbrev Row28 (F : FTy → Type) : Type :=
  FV F × WV × FV F × WV × FV F × WV × FV F × WV × FV F × WV × FV F × WV × FV F × WV ×
  FV F × WV × FV F × WV × FV F × WV × FV F × WV × FV F × WV × FV F × WV × FV F × WV

def toRow (a : Acc F) : Row28 F :=
  ((a 0).1, (a 0).2, (a 1).1, (a 1).2, (a 2).1, (a 2).2, (a 3).1, (a 3).2, (a 4).1, (a 4).2, (a 5).1, (a 5).2,
   (a 6).1, (a 6).2, (a 7).1, (a 7).2, (a 8).1, (a 8).2, (a 9).1, (a 9).2, (a 10).1, (a 10).2, (a 11).1, (a 11).2,
   (a 12).1, (a 12).2, (a 13).1, (a 13).2)

/-- The row, column by column. -/
def ofRow (r : Row28 F) : Acc F :=
  ![(r.1, r.2.1), (r.2.2.1, r.2.2.2.1), (r.2.2.2.2.1, r.2.2.2.2.2.1),
    (r.2.2.2.2.2.2.1, r.2.2.2.2.2.2.2.1), (r.2.2.2.2.2.2.2.2.1, r.2.2.2.2.2.2.2.2.2.1),
    (r.2.2.2.2.2.2.2.2.2.2.1, r.2.2.2.2.2.2.2.2.2.2.2.1), (r.2.2.2.2.2.2.2.2.2.2.2.2.1, r.2.2.2.2.2.2.2.2.2.2.2.2.2.1),
    (r.2.2.2.2.2.2.2.2.2.2.2.2.2.2.1, r.2.2.2.2.2.2.2.2.2.2.2.2.2.2.2.1),
    (r.2.2.2.2.2.2.2.2.2.2.2.2.2.2.2.2.1, r.2.2.2.2.2.2.2.2.2.2.2.2.2.2.2.2.2.1),
    (r.2.2.2.2.2.2.2.2.2.2.2.2.2.2.2.2.2.2.1, r.2.2.2.2.2.2.2.2.2.2.2.2.2.2.2.2.2.2.2.1),
    (r.2.2.2.2.2.2.2.2.2.2.2.2.2.2.2.2.2.2.2.2.1, r.2.2.2.2.2.2.2.2.2.2.2.2.2.2.2.2.2.2.2.2.2.1),
    (r.2.2.2.2.2.2.2.2.2.2.2.2.2.2.2.2.2.2.2.2.2.2.1, r.2.2.2.2.2.2.2.2.2.2.2.2.2.2.2.2.2.2.2.2.2.2.2.1),
    (r.2.2.2.2.2.2.2.2.2.2.2.2.2.2.2.2.2.2.2.2.2.2.2.2.1, r.2.2.2.2.2.2.2.2.2.2.2.2.2.2.2.2.2.2.2.2.2.2.2.2.2.1),
    (r.2.2.2.2.2.2.2.2.2.2.2.2.2.2.2.2.2.2.2.2.2.2.2.2.2.2.1, r.2.2.2.2.2.2.2.2.2.2.2.2.2.2.2.2.2.2.2.2.2.2.2.2.2.2.2)]

/-- Column `j` of the row of cells starting at `row`. -/
def scanStep (heat : Heat) (row : WV) (j : BitVec 32) (a : FV F × WV) : TP F i (FV F × WV) := do
  let idx : WV := addi row (broadcast S16 j)
  let v ← readAt i heat idx
  pure (select (cmpf .ogt v a.1) v a.1, select (cmpf .ogt v a.1) idx a.2)

/-- The row of cells a trip of a scan looks at. -/
def rowAt (base : WV) (k : Nat) : WV := addi base (broadcast S16 (Scalar.muli (Scf.iv 0#32 1#32 k) 14#32))

/-- One trip of a scan: the fourteen columns of row `k`. -/
def scanTrip (heat : Heat) (base : WV) (k : Nat) (a : Acc F) : TP F i (Row28 F) := do
  let b0 ← scanStep i heat (rowAt base k) 0#32 (a 0)
  let b1 ← scanStep i heat (rowAt base k) 1#32 (a 1)
  let b2 ← scanStep i heat (rowAt base k) 2#32 (a 2)
  let b3 ← scanStep i heat (rowAt base k) 3#32 (a 3)
  let b4 ← scanStep i heat (rowAt base k) 4#32 (a 4)
  let b5 ← scanStep i heat (rowAt base k) 5#32 (a 5)
  let b6 ← scanStep i heat (rowAt base k) 6#32 (a 6)
  let b7 ← scanStep i heat (rowAt base k) 7#32 (a 7)
  let b8 ← scanStep i heat (rowAt base k) 8#32 (a 8)
  let b9 ← scanStep i heat (rowAt base k) 9#32 (a 9)
  let b10 ← scanStep i heat (rowAt base k) 10#32 (a 10)
  let b11 ← scanStep i heat (rowAt base k) 11#32 (a 11)
  let b12 ← scanStep i heat (rowAt base k) 12#32 (a 12)
  let b13 ← scanStep i heat (rowAt base k) 13#32 (a 13)
  pure (b0.1, b0.2, b1.1, b1.2, b2.1, b2.2, b3.1, b3.2, b4.1, b4.2, b5.1, b5.2, b6.1, b6.2, b7.1, b7.2, b8.1, b8.2, b9.1, b9.2, b10.1, b10.2, b11.1, b11.2, b12.1, b12.2, b13.1, b13.2)

/-! ## The suppression -/

/-- Whether the column `y + c` lies on the map. -/
def onMap (y : WV) (c : BitVec 32) : BV :=
  andi (cmpi .sge (addi y (broadcast S16 c)) (broadcast S16 0#32)) (cmpi .slt (addi y (broadcast S16 c)) (broadcast S16 14#32))

/-- One cell beside the pick of every lane, left as it is where the cell lies off the map. -/
def supStep (heat : Heat) (zero : FV F) (ci row : WV) (okx : BV) (y : WV) (c : BitVec 32) : TP F i PUnit :=
  writeAt i heat (select (andi okx (onMap y c)) (addi row (broadcast S16 c)) ci) zero (andi okx (onMap y c))

/-- One trip of the suppression: ten cells of one row. -/
def supTrip (heat : Heat) (zero : FV F) (ci x y : WV) (k : Nat) : TP F i PUnit := do
  let dx : BitVec 32 := Scalar.subi (Scf.iv 0#32 1#32 k) 5#32
  let row : WV := addi ci (broadcast S16 (Scalar.muli dx 14#32))
  supStep i heat zero ci row (onMap x dx) y 4294967291#32
  supStep i heat zero ci row (onMap x dx) y 4294967292#32
  supStep i heat zero ci row (onMap x dx) y 4294967293#32
  supStep i heat zero ci row (onMap x dx) y 4294967294#32
  supStep i heat zero ci row (onMap x dx) y 4294967295#32
  supStep i heat zero ci row (onMap x dx) y 0#32
  supStep i heat zero ci row (onMap x dx) y 1#32
  supStep i heat zero ci row (onMap x dx) y 2#32
  supStep i heat zero ci row (onMap x dx) y 3#32
  supStep i heat zero ci row (onMap x dx) y 4#32
  pure ⟨⟩

/-! ## The walk over the cells -/

/-- The check that the places lie in the two maps, then the writes there. -/
def writeMaps (l1 l2 : Land) (e p : WV) (x1 x2 : FV F) : TP F i PUnit := do
  have h : k0_chk100 e p := (← Prog.lift (TpuEff.assume (k0_chk100 e p) (k0_chk100.dec e p))).down
  SparseCore.vectorStoreIdx l1 ![e, p] x1 (fun _ => 1#1) false (k0_idx100_inb e p h) (View.stores_vmem_bits_univ h_S128x256 rfl)
  SparseCore.vectorStoreIdx l2 ![e, p] x2 (fun _ => 1#1) false (k0_idx101_inb e p h) (View.stores_vmem_bits_univ h_S128x256 rfl)

/-- Which of two points a cell is nearer to, as the kernel computes it from the line between them. -/
def nearer (zero one : FV F) (ax ay kk : WV) (p : WV × WV) : FV F :=
  select (cmpi .slt (subi (addi (muli p.1 ax) (muli p.2 ay)) kk) (broadcast S16 0#32)) one zero

/-- The cell's place in its row. -/
def placeOf (p : WV × WV) : WV := addi (muli p.1 (broadcast S16 14#32)) p.2

/-- The cell after this one on the walk. -/
def nextCell (p : WV × WV) : WV × WV :=
  let jz : BV := cmpi .eq p.2 (broadcast S16 0#32)
  let iv : WV := select jz p.1 (addi p.1 (broadcast S16 1#32))
  (select (cmpi .sge iv (broadcast S16 14#32)) (subi iv (broadcast S16 14#32)) iv,
   select jz (broadcast S16 13#32) (subi p.2 (broadcast S16 1#32)))

def walkStep (l1 l2 : Land) (zero one : FV F) (e ax ay kk : WV) (p : WV × WV) : TP F i PUnit :=
  writeMaps i l1 l2 e (placeOf p) (nearer zero one ax ay kk p) (subf one (nearer zero one ax ay kk p))

/-- One trip of the walk: fourteen cells. -/
def walkTrip (l1 l2 : Land) (zero one : FV F) (e ax ay kk : WV) (p0 : WV × WV) : TP F i (WV × WV) := do
  walkStep i l1 l2 zero one e ax ay kk p0
  let p1 := nextCell p0
  walkStep i l1 l2 zero one e ax ay kk p1
  let p2 := nextCell p1
  walkStep i l1 l2 zero one e ax ay kk p2
  let p3 := nextCell p2
  walkStep i l1 l2 zero one e ax ay kk p3
  let p4 := nextCell p3
  walkStep i l1 l2 zero one e ax ay kk p4
  let p5 := nextCell p4
  walkStep i l1 l2 zero one e ax ay kk p5
  let p6 := nextCell p5
  walkStep i l1 l2 zero one e ax ay kk p6
  let p7 := nextCell p6
  walkStep i l1 l2 zero one e ax ay kk p7
  let p8 := nextCell p7
  walkStep i l1 l2 zero one e ax ay kk p8
  let p9 := nextCell p8
  walkStep i l1 l2 zero one e ax ay kk p9
  let p10 := nextCell p9
  walkStep i l1 l2 zero one e ax ay kk p10
  let p11 := nextCell p10
  walkStep i l1 l2 zero one e ax ay kk p11
  let p12 := nextCell p11
  walkStep i l1 l2 zero one e ax ay kk p12
  let p13 := nextCell p12
  walkStep i l1 l2 zero one e ax ay kk p13
  let p14 := nextCell p13
  pure p14

/-! ## The repacking -/

/-- Sixteen cells of one row moved from the landed rows to the heat buffer. -/
def packStep (land : Land) (heat : Heat) (lanes : WV) (off : Fin 2 → Nat) (hoff : ∀ a, off a + S1x16.size a ≤ S128x256.size a)
    (dst : BitVec 32) : TP F i PUnit := do
  let v : Vec F S1x16 .f32 ← Prog.lift (.load land (Rect.unit (s := S128x256) off S1x16.size hoff).toLoadRect (View.loadsAt_vmem h_S1x16))
  writeAt i heat (addi (broadcast S16 dst) lanes) (shapeCast S16 v shapeCasts_S1x16_S16) (fun _ => 1#1)

/-- One trip of the repacking: the thirteen chunks of row `k`. -/
def packTrip [Facts] (land : Land) (heat : Heat) (lanes : WV) (k : Fin k0_t1_loop.trips) : TP F i PUnit := do
  let dst : BitVec 32 := Scalar.muli (Scf.iv 0#32 1#32 k) 197#32
  packStep i land heat lanes (k0_off2 k) (k0_off2_inb k) (Scalar.addi dst 0#32)
  packStep i land heat lanes (k0_off3 k) (k0_off3_inb k) (Scalar.addi dst 16#32)
  packStep i land heat lanes (k0_off4 k) (k0_off4_inb k) (Scalar.addi dst 32#32)
  packStep i land heat lanes (k0_off5 k) (k0_off5_inb k) (Scalar.addi dst 48#32)
  packStep i land heat lanes (k0_off6 k) (k0_off6_inb k) (Scalar.addi dst 64#32)
  packStep i land heat lanes (k0_off7 k) (k0_off7_inb k) (Scalar.addi dst 80#32)
  packStep i land heat lanes (k0_off8 k) (k0_off8_inb k) (Scalar.addi dst 96#32)
  packStep i land heat lanes (k0_off9 k) (k0_off9_inb k) (Scalar.addi dst 112#32)
  packStep i land heat lanes (k0_off10 k) (k0_off10_inb k) (Scalar.addi dst 128#32)
  packStep i land heat lanes (k0_off11 k) (k0_off11_inb k) (Scalar.addi dst 144#32)
  packStep i land heat lanes (k0_off12 k) (k0_off12_inb k) (Scalar.addi dst 160#32)
  packStep i land heat lanes (k0_off13 k) (k0_off13_inb k) (Scalar.addi dst 176#32)
  packStep i land heat lanes (k0_off14 k) (k0_off14_inb k) (Scalar.addi dst 192#32)
  pure ⟨⟩

/-! ## The straight-line parts -/

/-- The better of two columns: the greater, of equals the one that stands first. -/
def better (a b : FV F × WV) : FV F × WV :=
  (select (ori (cmpf .ogt b.1 a.1) (andi (cmpf .oeq b.1 a.1) (cmpi .slt b.2 a.2))) b.1 a.1,
   select (ori (cmpf .ogt b.1 a.1) (andi (cmpf .oeq b.1 a.1) (cmpi .slt b.2 a.2))) b.2 a.2)

/-- The best of the fourteen. -/
def bestOf (a : Acc F) : FV F × WV :=
  better
    (better (better (better (a 0) (a 1)) (better (a 2) (a 3))) (better (better (a 4) (a 5)) (better (a 6) (a 7))))
    (better (better (better (a 8) (a 9)) (better (a 10) (a 11))) (better (a 12) (a 13)))

/-- Division by fourteen, rounding down. -/
def div14 (v : WV) : WV :=
  select
    (andi
      (cmpi .ne
        (subi (extui 32 (cmpi .sgt v (broadcast S16 0#32)) natLt_1_32) (extui 32 (cmpi .slt v (broadcast S16 0#32)) natLt_1_32))
        (broadcast S16 (Scalar.subi (Scalar.extui (Scalar.cmpi .sgt 14#32 0#32)) (Scalar.extui (Scalar.cmpi .slt 14#32 0#32)))))
      (cmpi .ne (remsi v (broadcast S16 14#32)) (broadcast S16 0#32)))
    (subi (divsi v (broadcast S16 14#32)) (broadcast S16 1#32))
    (divsi v (broadcast S16 14#32))

def mod14 (v : WV) : WV := subi v (muli (div14 v) (broadcast S16 14#32))

/-- The two points held so far and their squared distance, tried against the points `a` and `b`. -/
structure Pair where
  d : WV
  x1 : WV
  y1 : WV
  x2 : WV
  y2 : WV

def sqDist (xa ya xb yb : WV) : WV := addi (muli (subi xb xa) (subi xb xa)) (muli (subi yb ya) (subi yb ya))

def Pair.try (p : Pair) (xa ya xb yb : WV) : Pair :=
  let c : BV := cmpi .sgt (sqDist xa ya xb yb) p.d
  ⟨select c (sqDist xa ya xb yb) p.d, select c xa p.x1, select c ya p.y1, select c xb p.x2, select c yb p.y2⟩

/-- The farthest two of four points. -/
def farthest (m0 m1 m2 m3 : WV) : Pair :=
  let x0 := div14 m0; let x1 := div14 m1; let x2 := div14 m2; let x3 := div14 m3
  let y0 := mod14 m0; let y1 := mod14 m1; let y2 := mod14 m2; let y3 := mod14 m3
  ((((((Pair.mk (broadcast S16 4294967295#32) x0 y0 x1 y1).try x0 y0 x1 y1).try x0 y0 x2 y2).try x0 y0 x3 y3).try
    x1 y1 x2 y2).try x1 y1 x3 y3).try x2 y2 x3 y3

def Pair.ax (p : Pair) : WV := muli (broadcast S16 2#32) (subi p.x2 p.x1)
def Pair.ay (p : Pair) : WV := muli (broadcast S16 2#32) (subi p.y2 p.y1)
def Pair.kk (p : Pair) : WV := subi (subi (addi (muli p.x2 p.x2) (muli p.y2 p.y2)) (muli p.x1 p.x1)) (muli p.y1 p.y1)

/-! ## The loops and a group -/

def thr : FV F := broadcast S16 (Scalar.ofBits .f32 0x3F19999A#32)
def zeros : FV F := broadcast S16 (Scalar.ofBits .f32 0x00000000#32)
def ones : FV F := broadcast S16 (Scalar.ofBits .f32 0x3F800000#32)
def lanes : WV := iota .scVector S16 32 [0] iota_S16_d0_w32_scVector

def scanLoop [Facts] (heat : Heat) (base : WV) : TP F i (Row28 F) :=
  Scf.Loop.for k0_t3_loop k0_t3_ok (toRow fun _ => (thr, base)) fun k r => scanTrip i heat base k.val (ofRow r)

def supLoop [Facts] (heat : Heat) (ci m : WV) : TP F i PUnit :=
  Scf.Loop.for k0_t4_loop k0_t4_ok ⟨⟩ fun k _ => supTrip i heat zeros ci (div14 m) (mod14 m) k.val

def walkLoop [Facts] (l1 l2 : Land) (e ax ay kk : WV) : TP F i (WV × WV) :=
  Scf.Loop.for k0_t10_loop k0_t10_ok (div14 (muli (broadcast S16 13#32) lanes), mod14 (muli (broadcast S16 13#32) lanes))
    fun _ p => walkTrip i l1 l2 zeros ones e ax ay kk p

/-- The rows of group `g`: their numbers, and where each begins in the heat buffer. -/
def rowsOf (g : Nat) : WV := addi (broadcast S16 (Scalar.muli (Scf.iv 0#32 1#32 g) 16#32)) lanes
def baseOf (g : Nat) : WV := muli (rowsOf g) (broadcast S16 197#32)

/-- The pick a scan has found. -/
def pickOf (r : Row28 F) : WV := (bestOf (ofRow r)).2

def groupTrip [Facts] (l1 l2 : Land) (heat : Heat) (g : Nat) : TP F i PUnit := do
  let r0 ← scanLoop i heat (baseOf g)
  supLoop i heat (pickOf r0) (subi (pickOf r0) (baseOf g))
  let r1 ← scanLoop i heat (baseOf g)
  supLoop i heat (pickOf r1) (subi (pickOf r1) (baseOf g))
  let r2 ← scanLoop i heat (baseOf g)
  supLoop i heat (pickOf r2) (subi (pickOf r2) (baseOf g))
  let r3 ← scanLoop i heat (baseOf g)
  let p := farthest (subi (pickOf r0) (baseOf g)) (subi (pickOf r1) (baseOf g)) (subi (pickOf r2) (baseOf g))
    (subi (pickOf r3) (baseOf g))
  let _ ← walkLoop i l1 l2 (rowsOf g) p.ax p.ay p.kk
  pure ⟨⟩

def packLoop [Facts] (land : Land) (heat : Heat) : TP F i PUnit :=
  Scf.Loop.for k0_t1_loop k0_t1_ok ⟨⟩ fun k _ => packTrip i land heat lanes k

def groupLoop [Facts] (l1 l2 : Land) (heat : Heat) : TP F i PUnit :=
  Scf.Loop.for k0_t2_loop k0_t2_ok ⟨⟩ fun k _ => groupTrip i l1 l2 heat k.val

/-! ## The printed bodies are these -/

section Printed

variable [Facts] (arg2 : Memref sig .scVector .hbm S32x128x256 .f32) (harg2 : arg2.IsWhole)
  (arg3 : Memref sig .scVector .hbm S32x128x256 .f32) (harg3 : arg3.IsWhole)
  (arg4 : Memref sig .scVector .hbm S32x128x256 .f32) (harg4 : arg4.IsWhole)
  (arg5 : Land) (harg5 : arg5.IsWhole) (arg6 : Land) (harg6 : arg6.IsWhole) (arg7 : Heat) (harg7 : arg7.IsWhole)
  (r0 : DmaSems sig S_) (r1 : DmaSems sig S_) (r2 : DmaSems sig S_)

set_option maxHeartbeats 4000000
set_option maxRecDepth 65536

theorem t1_eq (k : Fin k0_t1_loop.trips) (u : Unit) :
    k0_t1_body (F := F) i arg2 harg2 arg3 harg3 arg4 harg4 arg5 harg5 arg6 harg6 arg7 harg7 r0 r1 r2 lanes k u = packTrip i arg5 arg7 lanes k := rfl

theorem t3_eq (v2 : WV) (g : Fin k0_t2_loop.trips) (k : Fin k0_t3_loop.trips) (a : Row28 F) :
    k0_t3_body (F := F) i arg2 harg2 arg3 harg3 arg4 harg4 arg5 harg5 arg6 harg6 arg7 harg7 r0 r1 r2 v2 0#32 1#32 g k a = scanTrip i arg7 (k0_pay290 v2 0#32 1#32 g) k.val (ofRow a) := rfl

theorem t5_eq (v40 : WV) (w0 w1 w2 w3 w4 w5 w6 w7 w8 w9 w10 w11 : FV F) (c : F .f32) (k : Fin k0_t3_loop.trips) (a : Row28 F) :
    k0_t5_body (F := F) i arg2 harg2 arg3 harg3 arg4 harg4 arg5 harg5 arg6 harg6 arg7 harg7 r0 r1 r2 v40 w0 w1 w2 w3 w4 w5 w6 w7 w8 w9 w10 w11 c k a = scanTrip i arg7 v40 k.val (ofRow a) := rfl

theorem t4_eq (ci x y : WV) (k : Fin k0_t4_loop.trips) (u : Unit) :
    k0_t4_body (F := F) i arg2 harg2 arg3 harg3 arg4 harg4 arg5 harg5 arg6 harg6 arg7 harg7 r0 r1 r2 zeros ci x y (onMap y 4294967291#32) (onMap y 4294967292#32) (onMap y 4294967293#32)
      (onMap y 4294967294#32) (onMap y 4294967295#32) (onMap y 0#32) (onMap y 1#32) 2#32 k u
      = supTrip i arg7 zeros ci x y k.val := rfl

theorem t6_eq (v40 ci x y : WV) (k : Fin k0_t4_loop.trips) (u : Unit) :
    k0_t6_body (F := F) i arg2 harg2 arg3 harg3 arg4 harg4 arg5 harg5 arg6 harg6 arg7 harg7 r0 r1 r2 zeros v40 ci x (onMap y 4294967291#32) (onMap y 4294967292#32) (onMap y 4294967293#32)
      (onMap y 4294967294#32) (onMap y 4294967295#32) (onMap y 0#32) (onMap y 1#32) (onMap y 2#32) (onMap y 3#32)
      (onMap y 4#32) 0#32 1#32 k u
      = supTrip i arg7 zeros ci x y k.val := rfl

end Printed

end Cert.KernelIdeal.Hand
-- ==== Proof.Straight.lean ====
/-
  The printed pieces of the kernel's body, each equal to the plainly written step that it holds.
-/
module
public import proofs.«01_k».proof.Proof.Clean
public import Idealize.ShloMosaic.Lib.Tactic.ProgEq
@[expose] public section
noncomputable section
namespace Cert.KernelIdeal.Hand
open Cert.KernelIdeal Cert.KernelIdeal.Gen
open Idealize.ShloMosaic Idealize.SL.Sem
variable {F : FTy → Type} [FloatOps F]
variable (i : grid0.Coords) [Facts] (arg2 : Memref sig .scVector .hbm S32x128x256 .f32) (harg2 : arg2.IsWhole)
  (arg3 : Memref sig .scVector .hbm S32x128x256 .f32) (harg3 : arg3.IsWhole)
  (arg4 : Memref sig .scVector .hbm S32x128x256 .f32) (harg4 : arg4.IsWhole)
  (arg5 : Land) (harg5 : arg5.IsWhole) (arg6 : Land) (harg6 : arg6.IsWhole) (arg7 : Heat) (harg7 : arg7.IsWhole)
  (r0 : DmaSems sig S_) (r1 : DmaSems sig S_) (r2 : DmaSems sig S_)
set_option maxHeartbeats 4000000
set_option maxRecDepth 65536

def jz (q : WV × WV) : BV := cmpi .eq q.2 (broadcast S16 0#32)
def jm (q : WV × WV) : WV := subi q.2 (broadcast S16 1#32)
def iw (q : WV × WV) : WV := select (jz q) q.1 (addi q.1 (broadcast S16 1#32))

variable (e ax ay kk : WV) (q : WV × WV)
theorem walk10 (k : Fin k0_t10_loop.trips) : k0_part10 (F := F) i arg2 harg2 arg3 harg3 arg4 harg4 arg5 harg5 arg6 harg6 arg7 harg7 r0 r1 r2 zeros ones e ax ay kk 0#32 1#32 k q.1 q.2
    = (do walkStep i arg5 arg6 zeros ones e ax ay kk q
          walkStep i arg5 arg6 zeros ones e ax ay kk (nextCell q)
          pure ⟨(nextCell q).1, jz (nextCell q), jm (nextCell q), 13#32⟩) := by rfl
theorem walk11 : k0_part11 (F := F) i arg2 harg2 arg3 harg3 arg4 harg4 arg5 harg5 arg6 harg6 arg7 harg7 r0 r1 r2 zeros ones e ax ay kk q.1 (jz q) (jm q) 13#32
    = (do walkStep i arg5 arg6 zeros ones e ax ay kk (nextCell q)
          pure ⟨(nextCell (nextCell q)).2, (nextCell (nextCell q)).1, nearer zeros ones ax ay kk (nextCell (nextCell q)),
            subf ones (nearer zeros ones ax ay kk (nextCell (nextCell q))), broadcast S16 14#32⟩) := by rfl
theorem walk12 : k0_part12 (F := F) i arg2 harg2 arg3 harg3 arg4 harg4 arg5 harg5 arg6 harg6 arg7 harg7 r0 r1 r2 zeros ones e ax ay kk q.2 q.1 (nearer zeros ones ax ay kk q) (subf ones (nearer zeros ones ax ay kk q)) (broadcast S16 14#32)
    = (do walkStep i arg5 arg6 zeros ones e ax ay kk q
          walkStep i arg5 arg6 zeros ones e ax ay kk (nextCell q)
          pure ⟨(nextCell (nextCell q)).2, iw (nextCell q), cmpi .sge (iw (nextCell q)) (broadcast S16 14#32), subi (iw (nextCell q)) (broadcast S16 14#32)⟩) := by rfl
theorem walk13 : k0_part13 (F := F) i arg2 harg2 arg3 harg3 arg4 harg4 arg5 harg5 arg6 harg6 arg7 harg7 r0 r1 r2 zeros ones e ax ay kk (nextCell q).2 (iw q) (cmpi .sge (iw q) (broadcast S16 14#32)) (subi (iw q) (broadcast S16 14#32))
    = (do walkStep i arg5 arg6 zeros ones e ax ay kk (nextCell q)
          walkStep i arg5 arg6 zeros ones e ax ay kk (nextCell (nextCell q))
          pure ⟨(nextCell (nextCell q)).1, jz (nextCell (nextCell q)), jm (nextCell (nextCell q)), 13#32⟩) := by rfl
theorem walk14 : k0_part14 (F := F) i arg2 harg2 arg3 harg3 arg4 harg4 arg5 harg5 arg6 harg6 arg7 harg7 r0 r1 r2 zeros ones e ax ay kk q.1 (jz q) (jm q) 13#32
    = (do walkStep i arg5 arg6 zeros ones e ax ay kk (nextCell q)
          pure ⟨(nextCell (nextCell q)).2, (nextCell (nextCell q)).1, nearer zeros ones ax ay kk (nextCell (nextCell q)),
            subf ones (nearer zeros ones ax ay kk (nextCell (nextCell q))), broadcast S16 14#32⟩) := by rfl
theorem walk15 : k0_part15 (F := F) i arg2 harg2 arg3 harg3 arg4 harg4 arg5 harg5 arg6 harg6 arg7 harg7 r0 r1 r2 zeros ones e ax ay kk q.2 q.1 (nearer zeros ones ax ay kk q) (subf ones (nearer zeros ones ax ay kk q)) (broadcast S16 14#32)
    = (do walkStep i arg5 arg6 zeros ones e ax ay kk q
          walkStep i arg5 arg6 zeros ones e ax ay kk (nextCell q)
          pure ⟨(nextCell (nextCell q)).2, iw (nextCell q), cmpi .sge (iw (nextCell q)) (broadcast S16 14#32), subi (iw (nextCell q)) (broadcast S16 14#32)⟩) := by rfl
theorem walk16 : k0_part16 (F := F) i arg2 harg2 arg3 harg3 arg4 harg4 arg5 harg5 arg6 harg6 arg7 harg7 r0 r1 r2 zeros ones e ax ay kk (nextCell q).2 (iw q) (cmpi .sge (iw q) (broadcast S16 14#32)) (subi (iw q) (broadcast S16 14#32))
    = (do walkStep i arg5 arg6 zeros ones e ax ay kk (nextCell q)
          walkStep i arg5 arg6 zeros ones e ax ay kk (nextCell (nextCell q))
          pure ⟨(nextCell (nextCell q)).1, jz (nextCell (nextCell q)), jm (nextCell (nextCell q)), 13#32⟩) := by rfl
theorem walk17 : k0_part17 (F := F) i arg2 harg2 arg3 harg3 arg4 harg4 arg5 harg5 arg6 harg6 arg7 harg7 r0 r1 r2 zeros ones e ax ay kk q.1 (jz q) (jm q) 13#32
    = (do walkStep i arg5 arg6 zeros ones e ax ay kk (nextCell q)
          pure ⟨(nextCell (nextCell q)).2, (nextCell (nextCell q)).1, nearer zeros ones ax ay kk (nextCell (nextCell q)),
            subf ones (nearer zeros ones ax ay kk (nextCell (nextCell q))), broadcast S16 14#32⟩) := by rfl
theorem t10_eq (v38 v838 v862 v943 v970 v1022 v1023 v1024 v1025 v1026 v1029 v1030 : WV) (k : Fin k0_t10_loop.trips) (p : WV × WV) :
    k0_t10_body (F := F) i arg2 harg2 arg3 harg3 arg4 harg4 arg5 harg5 arg6 harg6 arg7 harg7 r0 r1 r2 zeros ones v38 v838 v862 v943 v970 v1022 v1023 v1024 v1025 v1026 v1029 v1030 k p
     = walkTrip i arg5 arg6 zeros ones v38 (k0_pay9 v838 v862 v1022 v1023 v1025 v1029 v1030) (k0_pay10 v943 v970 v1022 v1024 v1026 v1029 v1030)
      (k0_pay11 v838 v862 v943 v970 v1022 v1023 v1024 v1025 v1026 v1029 v1030) p := by
  obtain ⟨p1, p2⟩ := p
  unfold k0_t10_body
  generalize k0_pay9 v838 v862 v1022 v1023 v1025 v1029 v1030 = ax
  generalize k0_pay10 v943 v970 v1022 v1024 v1026 v1029 v1030 = ay
  generalize k0_pay11 v838 v862 v943 v970 v1022 v1023 v1024 v1025 v1026 v1029 v1030 = kk
  unfold walkTrip
  simp only [walk10 (q := (p1, p2)), walk11, walk12, walk13, walk14, walk15, walk16, walk17, bind_assoc, pure_bind]
  rfl

theorem p371 (v40 : IVec S16 32) (v104 : FVec F S16 .f32) (v105 : IVec S16 32) (v125 : FVec F S16 .f32) (v126 : IVec S16 32) (v132 : FVec F S16 .f32) (v133 : IVec S16 32) (v134 : IVec S16 1) : (k0_pay371 (F := F) v40 v104 v105 v125 v126 v132 v133 v134) = subi (k0_pay370 (F := F) v104 v105 v125 v126 v132 v133 v134) v40 := rfl
theorem p372 (v40 : IVec S16 32) (v104 : FVec F S16 .f32) (v105 : IVec S16 32) (v125 : FVec F S16 .f32) (v126 : IVec S16 32) (v132 : FVec F S16 .f32) (v133 : IVec S16 32) (v134 : IVec S16 1) : (k0_pay372 (F := F) v40 v104 v105 v125 v126 v132 v133 v134) = div14 (k0_pay371 (F := F) v40 v104 v105 v125 v126 v132 v133 v134) := rfl
theorem p373 (v40 : IVec S16 32) (v104 : FVec F S16 .f32) (v105 : IVec S16 32) (v125 : FVec F S16 .f32) (v126 : IVec S16 32) (v132 : FVec F S16 .f32) (v133 : IVec S16 32) (v134 : IVec S16 1) : (k0_pay373 (F := F) v40 v104 v105 v125 v126 v132 v133 v134) = mod14 (k0_pay371 (F := F) v40 v104 v105 v125 v126 v132 v133 v134) := rfl
theorem p374 (v40 : IVec S16 32) (v104 : FVec F S16 .f32) (v105 : IVec S16 32) (v125 : FVec F S16 .f32) (v126 : IVec S16 32) (v132 : FVec F S16 .f32) (v133 : IVec S16 32) (v134 : IVec S16 1) : (k0_pay374 (F := F) v40 v104 v105 v125 v126 v132 v133 v134) = onMap (k0_pay373 (F := F) v40 v104 v105 v125 v126 v132 v133 v134) 4294967291#32 := rfl
theorem p375 (v175 : IVec S16 32) (c_m4_i32 : BitVec 32) : (k0_pay375 v175 c_m4_i32) = onMap v175 c_m4_i32 := rfl
theorem p376 (v175 : IVec S16 32) : (k0_pay376 v175) = onMap v175 4294967293#32 := rfl
theorem p377 (v175 : IVec S16 32) : (k0_pay377 v175) = onMap v175 4294967294#32 := rfl
theorem p378 (v175 : IVec S16 32) : (k0_pay378 v175) = onMap v175 4294967295#32 := rfl
theorem p379 (v175 : IVec S16 32) : (k0_pay379 v175) = onMap v175 0#32 := rfl
theorem p380 (v175 : IVec S16 32) : (k0_pay380 v175) = onMap v175 1#32 := rfl
theorem p455 (v40 : IVec S16 32) (v268 : FVec F S16 .f32) (v269 : IVec S16 32) (v275 : FVec F S16 .f32) (v276 : IVec S16 32) (v282 : FVec F S16 .f32) (v283 : IVec S16 32) (v289 : FVec F S16 .f32) (v290 : IVec S16 32) (v296 : FVec F S16 .f32) (v297 : IVec S16 32) (v303 : FVec F S16 .f32) (v304 : IVec S16 32) (v310 : FVec F S16 .f32) (v311 : IVec S16 32) (v312 : IVec S16 1) (v313 : IVec S16 1) : (k0_pay455 (F := F) v40 v268 v269 v275 v276 v282 v283 v289 v290 v296 v297 v303 v304 v310 v311 v312 v313) = subi (k0_pay454 (F := F) v268 v269 v275 v276 v282 v283 v289 v290 v296 v297 v303 v304 v310 v311 v312 v313) v40 := rfl
theorem p458 (v : WV) : k0_pay458 v 14#32 (divsi v (broadcast S16 14#32)) (subi (extui 32 (cmpi .sgt v (broadcast S16 0#32)) natLt_1_32) (extui 32 (cmpi .slt v (broadcast S16 0#32)) natLt_1_32)) (Scalar.subi (Scalar.extui (Scalar.cmpi .sgt 14#32 0#32)) (Scalar.extui (Scalar.cmpi .slt 14#32 0#32))) = div14 v := rfl
theorem p456 (v40 : IVec S16 32) (v268 : FVec F S16 .f32) (v269 : IVec S16 32) (v275 : FVec F S16 .f32) (v276 : IVec S16 32) (v282 : FVec F S16 .f32) (v283 : IVec S16 32) (v289 : FVec F S16 .f32) (v290 : IVec S16 32) (v296 : FVec F S16 .f32) (v297 : IVec S16 32) (v303 : FVec F S16 .f32) (v304 : IVec S16 32) (v310 : FVec F S16 .f32) (v311 : IVec S16 32) (v312 : IVec S16 1) (v313 : IVec S16 1) : (k0_pay456 (F := F) v40 v268 v269 v275 v276 v282 v283 v289 v290 v296 v297 v303 v304 v310 v311 v312 v313) = divsi (k0_pay455 (F := F) v40 v268 v269 v275 v276 v282 v283 v289 v290 v296 v297 v303 v304 v310 v311 v312 v313) (broadcast S16 14#32) := rfl
theorem p457 (v40 : IVec S16 32) (v268 : FVec F S16 .f32) (v269 : IVec S16 32) (v275 : FVec F S16 .f32) (v276 : IVec S16 32) (v282 : FVec F S16 .f32) (v283 : IVec S16 32) (v289 : FVec F S16 .f32) (v290 : IVec S16 32) (v296 : FVec F S16 .f32) (v297 : IVec S16 32) (v303 : FVec F S16 .f32) (v304 : IVec S16 32) (v310 : FVec F S16 .f32) (v311 : IVec S16 32) (v312 : IVec S16 1) (v313 : IVec S16 1) : (k0_pay457 (F := F) v40 v268 v269 v275 v276 v282 v283 v289 v290 v296 v297 v303 v304 v310 v311 v312 v313) = subi (extui 32 (cmpi .sgt (k0_pay455 (F := F) v40 v268 v269 v275 v276 v282 v283 v289 v290 v296 v297 v303 v304 v310 v311 v312 v313) (broadcast S16 0#32)) natLt_1_32) (extui 32 (cmpi .slt (k0_pay455 (F := F) v40 v268 v269 v275 v276 v282 v283 v289 v290 v296 v297 v303 v304 v310 v311 v312 v313) (broadcast S16 0#32)) natLt_1_32) := rfl
theorem p459 (v354 : IVec S16 32) (c14_i32_84 : BitVec 32) (v356 : IVec S16 32) (v363 : IVec S16 32) (v368 : BitVec 32) : (k0_pay459 v354 c14_i32_84 v356 v363 v368) = subi v354 (muli (k0_pay458 v354 c14_i32_84 v356 v363 v368) (broadcast S16 14#32)) := rfl
theorem p459m (v : WV) : subi v (muli (div14 v) (broadcast S16 14#32)) = mod14 v := rfl
theorem p460 (v354 : IVec S16 32) (c14_i32_84 : BitVec 32) (v356 : IVec S16 32) (v363 : IVec S16 32) (v368 : BitVec 32) : (k0_pay460 v354 c14_i32_84 v356 v363 v368) = onMap (k0_pay459 v354 c14_i32_84 v356 v363 v368) 4294967291#32 := rfl
theorem p461 (v354 : IVec S16 32) (c14_i32_84 : BitVec 32) (v356 : IVec S16 32) (v363 : IVec S16 32) (v368 : BitVec 32) : (k0_pay461 v354 c14_i32_84 v356 v363 v368) = onMap (k0_pay459 v354 c14_i32_84 v356 v363 v368) 4294967292#32 := rfl
theorem p462 (v354 : IVec S16 32) (c14_i32_84 : BitVec 32) (v356 : IVec S16 32) (v363 : IVec S16 32) (v368 : BitVec 32) : (k0_pay462 v354 c14_i32_84 v356 v363 v368) = onMap (k0_pay459 v354 c14_i32_84 v356 v363 v368) 4294967293#32 := rfl
theorem p463 (v354 : IVec S16 32) (c14_i32_84 : BitVec 32) (v356 : IVec S16 32) (v363 : IVec S16 32) (v368 : BitVec 32) : (k0_pay463 v354 c14_i32_84 v356 v363 v368) = onMap (k0_pay459 v354 c14_i32_84 v356 v363 v368) 4294967294#32 := rfl
theorem p464 (v354 : IVec S16 32) (c14_i32_84 : BitVec 32) (v356 : IVec S16 32) (v363 : IVec S16 32) (v368 : BitVec 32) : (k0_pay464 v354 c14_i32_84 v356 v363 v368) = addi (k0_pay459 v354 c14_i32_84 v356 v363 v368) (broadcast S16 4294967295#32) := rfl
theorem p465 (y : WV) : k0_pay465 (addi y (broadcast S16 4294967295#32)) 0#32 = onMap y 4294967295#32 := rfl
theorem p466 (v381 : IVec S16 32) : (k0_pay466 v381) = onMap v381 0#32 := rfl
theorem p467 (v381 : IVec S16 32) : (k0_pay467 v381) = onMap v381 1#32 := rfl
theorem p468 (v381 : IVec S16 32) : (k0_pay468 v381) = onMap v381 2#32 := rfl
theorem p469 (v381 : IVec S16 32) : (k0_pay469 v381) = onMap v381 3#32 := rfl
theorem p470 (v381 : IVec S16 32) : (k0_pay470 v381) = onMap v381 4#32 := rfl
theorem p561 (v40 : IVec S16 32) (v544 : FVec F S16 .f32) (v545 : IVec S16 32) (v551 : FVec F S16 .f32) (v552 : IVec S16 32) : (k0_pay561 (F := F) v40 v544 v545 v551 v552) = subi (k0_pay560 (F := F) v544 v545 v551 v552) v40 := rfl
theorem p562 (v40 : IVec S16 32) (v544 : FVec F S16 .f32) (v545 : IVec S16 32) (v551 : FVec F S16 .f32) (v552 : IVec S16 32) : (k0_pay562 (F := F) v40 v544 v545 v551 v552) = div14 (k0_pay561 (F := F) v40 v544 v545 v551 v552) := rfl
theorem p563 (v40 : IVec S16 32) (v544 : FVec F S16 .f32) (v545 : IVec S16 32) (v551 : FVec F S16 .f32) (v552 : IVec S16 32) : (k0_pay563 (F := F) v40 v544 v545 v551 v552) = mod14 (k0_pay561 (F := F) v40 v544 v545 v551 v552) := rfl
theorem p564 (v40 : IVec S16 32) (v544 : FVec F S16 .f32) (v545 : IVec S16 32) (v551 : FVec F S16 .f32) (v552 : IVec S16 32) : (k0_pay564 (F := F) v40 v544 v545 v551 v552) = onMap (k0_pay563 (F := F) v40 v544 v545 v551 v552) 4294967291#32 := rfl
theorem p565 (v40 : IVec S16 32) (v544 : FVec F S16 .f32) (v545 : IVec S16 32) (v551 : FVec F S16 .f32) (v552 : IVec S16 32) : (k0_pay565 (F := F) v40 v544 v545 v551 v552) = addi (k0_pay563 (F := F) v40 v544 v545 v551 v552) (broadcast S16 4294967292#32) := rfl
theorem p566 (v40 : IVec S16 32) (v544 : FVec F S16 .f32) (v545 : IVec S16 32) (v551 : FVec F S16 .f32) (v552 : IVec S16 32) : (k0_pay566 (F := F) v40 v544 v545 v551 v552) = cmpi .sge (k0_pay565 (F := F) v40 v544 v545 v551 v552) (broadcast S16 0#32) := rfl
theorem p567 (y : WV) : k0_pay567 (addi y (broadcast S16 4294967292#32)) (cmpi .sge (addi y (broadcast S16 4294967292#32)) (broadcast S16 0#32)) 14#32 = onMap y 4294967292#32 := rfl
theorem p568 (v587 : IVec S16 32) : (k0_pay568 v587) = onMap v587 4294967293#32 := rfl
theorem p569 (v587 : IVec S16 32) : (k0_pay569 v587) = onMap v587 4294967294#32 := rfl
theorem p570 (v587 : IVec S16 32) : (k0_pay570 v587) = onMap v587 4294967295#32 := rfl
theorem p571 (v587 : IVec S16 32) : (k0_pay571 v587) = onMap v587 0#32 := rfl
theorem p572 (v587 : IVec S16 32) : (k0_pay572 v587) = onMap v587 1#32 := rfl
theorem p573 (v587 : IVec S16 32) : (k0_pay573 v587) = addi v587 (broadcast S16 2#32) := rfl
theorem p574 (v587 : IVec S16 32) : (k0_pay574 v587) = cmpi .sge (k0_pay573 v587) (broadcast S16 0#32) := rfl
theorem p655 (v : WV) : k0_pay655 (k0_pay651 v) (k0_pay652 v) (k0_pay653 v) k0_pay654 = div14 v := rfl
theorem p660 (v : WV) : k0_pay660 (k0_pay657 v) (k0_pay658 v) (k0_pay659 v) = div14 v := rfl
theorem p664 (v : WV) : k0_pay664 v 14#32 (k0_pay662 v) (k0_pay663 v) = mod14 v := rfl
theorem p669 (v : WV) : k0_pay669 v 14#32 (k0_pay666 v) (k0_pay667 v) (k0_pay668 v) = mod14 v := rfl
theorem p656 (v354 : IVec S16 32) : (k0_pay656 v354) = div14 v354 := rfl
theorem p661 (v766 : IVec S16 32) : (k0_pay661 v766) = div14 v766 := rfl
theorem p665 (v354 : IVec S16 32) : (k0_pay665 v354) = mod14 v354 := rfl
theorem p670 (v766 : IVec S16 32) : (k0_pay670 v766) = mod14 v766 := rfl

theorem segA_pick (v56_0 : FV F) (v56_1 : WV) (v56_2 : FV F) (v56_3 : WV) (v56_4 : FV F) (v56_5 : WV) (v56_6 : FV F) (v56_7 : WV) (v56_8 : FV F) (v56_9 : WV) (v56_10 : FV F) (v56_11 : WV) (v56_12 : FV F) (v56_13 : WV) (v56_14 : FV F) (v56_15 : WV) (v56_16 : FV F) (v56_17 : WV) (v56_18 : FV F) (v56_19 : WV) (v56_20 : FV F) (v56_21 : WV) (v56_22 : FV F) (v56_23 : WV) (v56_24 : FV F) (v56_25 : WV) (v56_26 : FV F) (v56_27 : WV)  :
    (k0_pay370 (F := F) (k0_pay355 v56_24 v56_25 v56_26 v56_27) (k0_pay356 v56_24 v56_25 v56_26 v56_27) (k0_pay364 v56_16 v56_17 v56_18 v56_19 v56_20 v56_21 v56_22 v56_23) (k0_pay365 v56_16 v56_17 v56_18 v56_19 v56_20 v56_21 v56_22 v56_23) (k0_pay367 v56_8 v56_9 v56_10 v56_11 v56_12 v56_13 v56_14 v56_15 (k0_pay335 v56_0 v56_1 v56_2 v56_3) (k0_pay336 v56_0 v56_1 v56_2 v56_3) (k0_pay338 v56_4 v56_5 v56_6 v56_7) (k0_pay339 v56_4 v56_5 v56_6 v56_7) (k0_pay340 v56_8 v56_10) (k0_pay341 v56_8 v56_9 v56_10 v56_11)) (k0_pay368 v56_8 v56_9 v56_10 v56_11 v56_12 v56_13 v56_14 v56_15 (k0_pay335 v56_0 v56_1 v56_2 v56_3) (k0_pay336 v56_0 v56_1 v56_2 v56_3) (k0_pay338 v56_4 v56_5 v56_6 v56_7) (k0_pay339 v56_4 v56_5 v56_6 v56_7) (k0_pay340 v56_8 v56_10) (k0_pay341 v56_8 v56_9 v56_10 v56_11)) (k0_pay369 v56_16 v56_17 v56_18 v56_19 v56_20 v56_21 v56_22 v56_23 v56_24 v56_25 v56_26 v56_27)) = pickOf (v56_0, v56_1, v56_2, v56_3, v56_4, v56_5, v56_6, v56_7, v56_8, v56_9, v56_10, v56_11, v56_12, v56_13, v56_14, v56_15, v56_16, v56_17, v56_18, v56_19, v56_20, v56_21, v56_22, v56_23, v56_24, v56_25, v56_26, v56_27) := by
  simp only [k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, pickOf, bestOf, better, ofRow, Matrix.cons_val]

theorem segB_pick (v262_0 : FV F) (v262_1 : WV) (v262_2 : FV F) (v262_3 : WV) (v262_4 : FV F) (v262_5 : WV) (v262_6 : FV F) (v262_7 : WV) (v262_8 : FV F) (v262_9 : WV) (v262_10 : FV F) (v262_11 : WV) (v262_12 : FV F) (v262_13 : WV) (v262_14 : FV F) (v262_15 : WV) (v262_16 : FV F) (v262_17 : WV) (v262_18 : FV F) (v262_19 : WV) (v262_20 : FV F) (v262_21 : WV) (v262_22 : FV F) (v262_23 : WV) (v262_24 : FV F) (v262_25 : WV) (v262_26 : FV F) (v262_27 : WV)  :
    (k0_pay454 (F := F) (k0_pay432 v262_0 v262_1 v262_2 v262_3) (k0_pay433 v262_0 v262_1 v262_2 v262_3) (k0_pay435 v262_4 v262_5 v262_6 v262_7) (k0_pay436 v262_4 v262_5 v262_6 v262_7) (k0_pay438 v262_8 v262_9 v262_10 v262_11) (k0_pay439 v262_8 v262_9 v262_10 v262_11) (k0_pay441 v262_12 v262_13 v262_14 v262_15) (k0_pay442 v262_12 v262_13 v262_14 v262_15) (k0_pay444 v262_16 v262_17 v262_18 v262_19) (k0_pay445 v262_16 v262_17 v262_18 v262_19) (k0_pay447 v262_20 v262_21 v262_22 v262_23) (k0_pay448 v262_20 v262_21 v262_22 v262_23) (k0_pay450 v262_24 v262_25 v262_26 v262_27) (k0_pay451 v262_24 v262_25 v262_26 v262_27) (k0_pay452 v262_0 v262_1 v262_2 v262_3 v262_4 v262_5 v262_6 v262_7) (k0_pay453 v262_0 v262_1 v262_2 v262_3 v262_4 v262_5 v262_6 v262_7)) = pickOf (v262_0, v262_1, v262_2, v262_3, v262_4, v262_5, v262_6, v262_7, v262_8, v262_9, v262_10, v262_11, v262_12, v262_13, v262_14, v262_15, v262_16, v262_17, v262_18, v262_19, v262_20, v262_21, v262_22, v262_23, v262_24, v262_25, v262_26, v262_27) := by
  simp only [k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, pickOf, bestOf, better, ofRow, Matrix.cons_val]

theorem segC_pick (v468_0 : FV F) (v468_1 : WV) (v468_2 : FV F) (v468_3 : WV) (v468_4 : FV F) (v468_5 : WV) (v468_6 : FV F) (v468_7 : WV) (v468_8 : FV F) (v468_9 : WV) (v468_10 : FV F) (v468_11 : WV) (v468_12 : FV F) (v468_13 : WV) (v468_14 : FV F) (v468_15 : WV) (v468_16 : FV F) (v468_17 : WV) (v468_18 : FV F) (v468_19 : WV) (v468_20 : FV F) (v468_21 : WV) (v468_22 : FV F) (v468_23 : WV) (v468_24 : FV F) (v468_25 : WV) (v468_26 : FV F) (v468_27 : WV)  :
    (k0_pay560 (F := F) (k0_pay555 v468_12 v468_13 v468_14 v468_15 (k0_pay522 v468_0 v468_1 v468_2 v468_3) (k0_pay523 v468_0 v468_1 v468_2 v468_3) (k0_pay525 v468_4 v468_5 v468_6 v468_7) (k0_pay526 v468_4 v468_5 v468_6 v468_7) (k0_pay528 v468_8 v468_9 v468_10 v468_11) (k0_pay529 v468_8 v468_9 v468_10 v468_11) (k0_pay530 v468_12 v468_14) (k0_pay531 v468_12 v468_14) (k0_pay532 v468_13 v468_15)) (k0_pay556 v468_12 v468_13 v468_14 v468_15 (k0_pay522 v468_0 v468_1 v468_2 v468_3) (k0_pay523 v468_0 v468_1 v468_2 v468_3) (k0_pay525 v468_4 v468_5 v468_6 v468_7) (k0_pay526 v468_4 v468_5 v468_6 v468_7) (k0_pay528 v468_8 v468_9 v468_10 v468_11) (k0_pay529 v468_8 v468_9 v468_10 v468_11) (k0_pay530 v468_12 v468_14) (k0_pay531 v468_12 v468_14) (k0_pay532 v468_13 v468_15)) (k0_pay558 v468_16 v468_17 v468_18 v468_19 v468_20 v468_21 v468_22 v468_23 v468_24 v468_25 v468_26 v468_27) (k0_pay559 v468_16 v468_17 v468_18 v468_19 v468_20 v468_21 v468_22 v468_23 v468_24 v468_25 v468_26 v468_27)) = pickOf (v468_0, v468_1, v468_2, v468_3, v468_4, v468_5, v468_6, v468_7, v468_8, v468_9, v468_10, v468_11, v468_12, v468_13, v468_14, v468_15, v468_16, v468_17, v468_18, v468_19, v468_20, v468_21, v468_22, v468_23, v468_24, v468_25, v468_26, v468_27) := by
  simp only [k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, pickOf, bestOf, better, ofRow, Matrix.cons_val]

theorem segD_pick (v674_0 : FV F) (v674_1 : WV) (v674_2 : FV F) (v674_3 : WV) (v674_4 : FV F) (v674_5 : WV) (v674_6 : FV F) (v674_7 : WV) (v674_8 : FV F) (v674_9 : WV) (v674_10 : FV F) (v674_11 : WV) (v674_12 : FV F) (v674_13 : WV) (v674_14 : FV F) (v674_15 : WV) (v674_16 : FV F) (v674_17 : WV) (v674_18 : FV F) (v674_19 : WV) (v674_20 : FV F) (v674_21 : WV) (v674_22 : FV F) (v674_23 : WV) (v674_24 : FV F) (v674_25 : WV) (v674_26 : FV F) (v674_27 : WV) (v40 : WV) :
    (k0_pay650 (F := F) v40 (k0_pay632 v674_8 v674_9 v674_10 v674_11) (k0_pay633 v674_8 v674_9 v674_10 v674_11) (k0_pay635 v674_12 v674_13 v674_14 v674_15) (k0_pay636 v674_12 v674_13 v674_14 v674_15) (k0_pay638 v674_16 v674_17 v674_18 v674_19) (k0_pay639 v674_16 v674_17 v674_18 v674_19) (k0_pay641 v674_20 v674_21 v674_22 v674_23) (k0_pay642 v674_20 v674_21 v674_22 v674_23) (k0_pay644 v674_24 v674_25 v674_26 v674_27) (k0_pay645 v674_24 v674_25 v674_26 v674_27) (k0_pay647 v674_0 v674_1 v674_2 v674_3 v674_4 v674_5 v674_6 v674_7) (k0_pay648 v674_0 v674_1 v674_2 v674_3 v674_4 v674_5 v674_6 v674_7) (k0_pay649 v674_8 v674_9 v674_10 v674_11 v674_12 v674_13 v674_14 v674_15)) = subi (pickOf (v674_0, v674_1, v674_2, v674_3, v674_4, v674_5, v674_6, v674_7, v674_8, v674_9, v674_10, v674_11, v674_12, v674_13, v674_14, v674_15, v674_16, v674_17, v674_18, v674_19, v674_20, v674_21, v674_22, v674_23, v674_24, v674_25, v674_26, v674_27)) v40 := by
  simp only [k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, pickOf, bestOf, better, ofRow, Matrix.cons_val]

def pairOf (x0 x1 x2 x3 y0 y1 y2 y3 : WV) : Pair :=
  ((((((Pair.mk (broadcast S16 4294967295#32) x0 y0 x1 y1).try x0 y0 x1 y1).try x0 y0 x2 y2).try x0 y0 x3 y3).try
    x1 y1 x2 y2).try x1 y1 x3 y3).try x2 y2 x3 y3

theorem pair_ax (x0 x1 x2 x3 y0 y1 y2 y3 : WV) : k0_pay9 x2 x3 (k0_pay686 x0 x1 x2 x3 y0 y1 y2 y3 4294967295#32) (k0_pay687 x0 x1 x2 x3 y0 y1 y2 y3 4294967295#32) (k0_pay689 x0 x1 x2 x3 y0 y1 y2 y3 4294967295#32) (k0_pay691 x2 x3) (k0_pay692 y2 y3) = (pairOf x0 x1 x2 x3 y0 y1 y2 y3).ax := by
  simp only [k0_pay3, k0_pay4, k0_pay5, k0_pay6, k0_pay7, k0_pay8, k0_pay9, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, pairOf, Pair.ax, Pair.try, sqDist]
theorem pair_ay (x0 x1 x2 x3 y0 y1 y2 y3 : WV) : k0_pay10 y2 y3 (k0_pay686 x0 x1 x2 x3 y0 y1 y2 y3 4294967295#32) (k0_pay688 x0 x1 x2 x3 y0 y1 y2 y3 4294967295#32) (k0_pay690 x0 x1 x2 x3 y0 y1 y2 y3 4294967295#32) (k0_pay691 x2 x3) (k0_pay692 y2 y3) = (pairOf x0 x1 x2 x3 y0 y1 y2 y3).ay := by
  simp only [k0_pay3, k0_pay4, k0_pay5, k0_pay6, k0_pay7, k0_pay8, k0_pay9, k0_pay10, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, pairOf, Pair.ay, Pair.try, sqDist]
theorem pair_kk (x0 x1 x2 x3 y0 y1 y2 y3 : WV) : k0_pay11 x2 x3 y2 y3 (k0_pay686 x0 x1 x2 x3 y0 y1 y2 y3 4294967295#32) (k0_pay687 x0 x1 x2 x3 y0 y1 y2 y3 4294967295#32) (k0_pay688 x0 x1 x2 x3 y0 y1 y2 y3 4294967295#32) (k0_pay689 x0 x1 x2 x3 y0 y1 y2 y3 4294967295#32) (k0_pay690 x0 x1 x2 x3 y0 y1 y2 y3 4294967295#32) (k0_pay691 x2 x3) (k0_pay692 y2 y3) = (pairOf x0 x1 x2 x3 y0 y1 y2 y3).kk := by
  simp only [k0_pay3, k0_pay4, k0_pay5, k0_pay6, k0_pay7, k0_pay8, k0_pay11, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, pairOf, Pair.kk, Pair.try, sqDist]

theorem t8_eq (ci x y : WV) (k : Fin k0_t4_loop.trips) (u : Unit) :
    k0_t8_body (F := F) i arg2 harg2 arg3 harg3 arg4 harg4 arg5 harg5 arg6 harg6 arg7 harg7 r0 r1 r2 zeros ci x y (onMap y 4294967291#32) (onMap y 4294967292#32) (onMap y 4294967293#32) (onMap y 4294967294#32) (onMap y 4294967295#32) (onMap y 0#32) (onMap y 1#32) (addi y (broadcast S16 2#32)) (cmpi .sge (addi y (broadcast S16 2#32)) (broadcast S16 0#32)) 14#32 k u
      = supTrip i arg7 zeros ci x y k.val := rfl

/-- A loop whose result is taken apart and handed on: the loops agree, and what follows agrees at every result. -/
theorem after_loop {E : Type → Type _} {γ α β : Type} {y y' : Prog E γ} {r : γ → Prog E α} {k : α → Prog E β}
    {k' : γ → Prog E β} (hy : y = y') (h : ∀ a, ∃ v, r a = pure v ∧ k v = k' a) :
    Prog.bind (Prog.bind y r) k = Prog.bind y' k' := by
  subst hy
  refine (Idealize.ShloMosaic.ProgEq.bind_assoc _ _ _ _ _ _ _).trans
    (Idealize.ShloMosaic.ProgEq.bind_congr _ _ _ _ _ _ _ rfl fun a => ?_)
  obtain ⟨v, hv, hk⟩ := h a
  rw [hv]
  exact hk

theorem t2_eq (g : Fin k0_t2_loop.trips) (u : Unit) :
    k0_t2_body (F := F) i arg2 harg2 arg3 harg3 arg4 harg4 arg5 harg5 arg6 harg6 arg7 harg7 r0 r1 r2 lanes k0_pay695 k0_pay696 k0_pay697 k0_pay698 k0_pay699 k0_pay700 g u
      = groupTrip i arg5 arg6 arg7 g.val := by
  unfold k0_t2_body
  rw [k0_part18_eq_skeleton]
  unfold k0_part18_skel groupTrip
  refine after_loop rfl fun ⟨a0, a1, a2, a3, a4, a5, a6, a7, a8, a9, a10, a11, a12, a13, a14, a15, a16, a17, a18, a19, a20, a21, a22, a23, a24, a25, a26, a27⟩ => ⟨_, rfl, ?_⟩
  simp only [k0_part19_eq_skeleton, k0_part19_skel, k0_part20_eq_skeleton, k0_part20_skel, k0_part21_eq_skeleton, k0_part21_skel, pure_bind]
  simp only [p371, p372, p373, p374, p375, p376, p377, p378, p379, p380, segA_pick]
  rw [k0_part22_eq_skeleton]
  unfold k0_part22_skel
  refine after_loop rfl fun _ => ⟨_, rfl, ?_⟩
  rw [k0_part23_eq_skeleton]
  unfold k0_part23_skel
  refine after_loop rfl fun ⟨b0, b1, b2, b3, b4, b5, b6, b7, b8, b9, b10, b11, b12, b13, b14, b15, b16, b17, b18, b19, b20, b21, b22, b23, b24, b25, b26, b27⟩ => ⟨_, rfl, ?_⟩
  simp only [k0_part24_eq_skeleton, k0_part24_skel, k0_part25_eq_skeleton, k0_part25_skel, k0_part26_eq_skeleton, k0_part26_skel, pure_bind]
  simp only [p455, p456, p457, p458, p459, p459m, p460, p461, p462, p463, p464, p465, p466, p467, p468, p469, p470, segB_pick]
  rw [k0_part27_eq_skeleton]
  unfold k0_part27_skel
  refine (Idealize.ShloMosaic.ProgEq.bind_assoc _ _ _ _ _ _ _).trans
    (Idealize.ShloMosaic.ProgEq.bind_congr _ _ _ _ _ _ _ rfl fun _ => ?_)
  refine after_loop rfl fun ⟨c0, c1, c2, c3, c4, c5, c6, c7, c8, c9, c10, c11, c12, c13, c14, c15, c16, c17, c18, c19, c20, c21, c22, c23, c24, c25, c26, c27⟩ => ⟨_, rfl, ?_⟩
  simp only [k0_part28_eq_skeleton, k0_part28_skel, k0_part29_eq_skeleton, k0_part29_skel, k0_part30_eq_skeleton, k0_part30_skel, pure_bind]
  simp only [p561, p562, p563, p564, p565, p566, p567, p568, p569, p570, p571, p572, p573, p574, segC_pick]
  rw [k0_part31_eq_skeleton]
  unfold k0_part31_skel
  refine after_loop rfl fun _ => ⟨_, rfl, ?_⟩
  rw [k0_part32_eq_skeleton]
  unfold k0_part32_skel
  refine after_loop rfl fun ⟨d0, d1, d2, d3, d4, d5, d6, d7, d8, d9, d10, d11, d12, d13, d14, d15, d16, d17, d18, d19, d20, d21, d22, d23, d24, d25, d26, d27⟩ => ⟨_, rfl, ?_⟩
  simp only [k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, pure_bind]
  simp only [p655, p656, p660, p661, p664, p665, p669, p670, segD_pick]
  refine Idealize.ShloMosaic.ProgEq.bind_congr _ _ _ _ _ _ _ ?_ (fun _ => rfl)
  refine (Idealize.ShloMosaic.ProgEq.for_congr _ _ _ _ _ _ _ fun k p => ?_).trans rfl
  refine (t10_eq i arg2 harg2 arg3 harg3 arg4 harg4 arg5 harg5 arg6 harg6 arg7 harg7 r0 r1 r2 _ _ _ _ _ _ _ _ _ _ _ _ k p).trans ?_
  rw [pair_ax, pair_ay, pair_kk]
  rfl

end Cert.KernelIdeal.Hand
-- ==== Proof.Spec.lean ====
/-
  What one row's result is, as a function of the row's 196 cells and over any float values: the scan's pick, the
  suppression around it, the farthest two of the four picks, and the two maps. Nothing here speaks of lanes.
-/
module

public import proofs.«01_k».proof.Proof.Clean
public import Mathlib.Tactic.Linarith
public import Mathlib.Tactic.NormNum
public import Mathlib.Tactic.Ring

@[expose] public section

noncomputable section

namespace Cert.KernelIdeal.Hand

open Cert.KernelIdeal Cert.KernelIdeal.Gen
open Idealize.ShloMosaic Idealize.SL.Sem

variable {F : FTy → Type} [FloatOps F]

def thr1 : F .f32 := Scalar.ofBits .f32 0x3F19999A#32
def zero1 : F .f32 := Scalar.ofBits .f32 0x00000000#32
def one1 : F .f32 := Scalar.ofBits .f32 0x3F800000#32

/-! ## The pick -/

/-- A scan's step: cell `p` taken if its value is greater. -/
def stepS (r : ℕ → F .f32) (st : F .f32 × ℕ) (p : ℕ) : F .f32 × ℕ :=
  if FloatOps.cmpf .ogt (r p) st.1 = 1 then (r p, p) else st

/-- Column `j` after `k` rows. -/
def colS (r : ℕ → F .f32) (j : ℕ) : ℕ → F .f32 × ℕ
  | 0 => (thr1, 0)
  | k + 1 => stepS r (colS r j k) (14 * k + j)

/-- The better of two columns. -/
def betterS (a b : F .f32 × ℕ) : F .f32 × ℕ :=
  if FloatOps.cmpf .ogt b.1 a.1 = 1 ∨ (FloatOps.cmpf .oeq b.1 a.1 = 1 ∧ b.2 < a.2) then b else a

def bestS (a : Fin 14 → F .f32 × ℕ) : F .f32 × ℕ :=
  betterS
    (betterS (betterS (betterS (a 0) (a 1)) (betterS (a 2) (a 3))) (betterS (betterS (a 4) (a 5)) (betterS (a 6) (a 7))))
    (betterS (betterS (betterS (a 8) (a 9)) (betterS (a 10) (a 11))) (betterS (a 12) (a 13)))

/-- The cell that a scan of the row picks. -/
def pickS (r : ℕ → F .f32) : ℕ := (bestS fun j => colS r j.val 14).2

theorem colS_lt (r : ℕ → F .f32) (j : Fin 14) (k : ℕ) (hk : k ≤ 14) : (colS r j.val k).2 < 196 := by
  induction k with
  | zero => exact Nat.zero_lt_succ _
  | succ k ih =>
    unfold colS stepS
    split
    · show 14 * k + j.val < 196
      omega
    · exact ih (by omega)

theorem betterS_lt {a b : F .f32 × ℕ} (ha : a.2 < 196) (hb : b.2 < 196) : (betterS a b).2 < 196 := by
  unfold betterS
  split <;> assumption

theorem bestS_lt {a : Fin 14 → F .f32 × ℕ} (ha : ∀ j, (a j).2 < 196) : (bestS a).2 < 196 := by
  unfold bestS
  repeat' apply betterS_lt
  all_goals exact ha _

theorem pickS_lt (r : ℕ → F .f32) : pickS r < 196 := bestS_lt fun j => colS_lt r j 14 le_rfl

theorem stepS_congr {r r' : ℕ → F .f32} (st : F .f32 × ℕ) {p : ℕ} (h : r p = r' p) : stepS r st p = stepS r' st p := by
  unfold stepS; rw [h]

theorem colS_congr {r r' : ℕ → F .f32} (h : ∀ p < 196, r p = r' p) (j : Fin 14) (k : ℕ) (hk : k ≤ 14) :
    colS r j.val k = colS r' j.val k := by
  induction k with
  | zero => rfl
  | succ k ih => unfold colS; rw [ih (by omega)]; exact stepS_congr _ (h _ (by omega))

theorem pickS_congr {r r' : ℕ → F .f32} (h : ∀ p < 196, r p = r' p) : pickS r = pickS r' := by
  unfold pickS
  congr 2
  funext j
  exact colS_congr h j 14 le_rfl

/-! ## The suppression -/

/-- Cell `p` is one of the first `n` cells around `m`, counted row by row. -/
def Near (n m p : ℕ) : Prop :=
  m / 14 ≤ p / 14 + 5 ∧ p / 14 < m / 14 + 5 ∧ m % 14 ≤ p % 14 + 5 ∧ p % 14 < m % 14 + 5
    ∧ (p / 14 + 5 - m / 14) * 10 + (p % 14 + 5 - m % 14) < n

instance (n m p : ℕ) : Decidable (Near n m p) := by unfold Near; infer_instance

/-- The row with the cells around `m` cleared. -/
def supS (r : ℕ → F .f32) (m : ℕ) (p : ℕ) : F .f32 := if Near 100 m p then zero1 else r p

/-- The row before the `n`-th scan. -/
def rowS (r : ℕ → F .f32) : ℕ → ℕ → F .f32
  | 0 => r
  | n + 1 => supS (rowS r n) (pickS (rowS r n))

/-- The `n`-th pick. -/
def pickN (r : ℕ → F .f32) (n : ℕ) : ℕ := pickS (rowS r n)

theorem pickN_lt (r : ℕ → F .f32) (n : ℕ) : pickN r n < 196 := pickS_lt _

theorem rowS_congr {r r' : ℕ → F .f32} (h : ∀ p < 196, r p = r' p) (n : ℕ) : ∀ p < 196, rowS r n p = rowS r' n p := by
  induction n with
  | zero => exact h
  | succ n ih =>
    intro p hp
    unfold rowS supS
    rw [pickS_congr ih, ih p hp]

theorem pickN_congr {r r' : ℕ → F .f32} (h : ∀ p < 196, r p = r' p) (n : ℕ) : pickN r n = pickN r' n :=
  pickS_congr (rowS_congr h n)

/-! ## The farthest two -/

/-- The points held so far and their squared distance. -/
structure PairS where
  d : ℤ
  x1 : ℤ
  y1 : ℤ
  x2 : ℤ
  y2 : ℤ

def dist2 (xa ya xb yb : ℤ) : ℤ := (xb - xa) * (xb - xa) + (yb - ya) * (yb - ya)

def PairS.try (p : PairS) (xa ya xb yb : ℤ) : PairS :=
  if p.d < dist2 xa ya xb yb then ⟨dist2 xa ya xb yb, xa, ya, xb, yb⟩ else p

def px (n : ℕ) : ℤ := ((n / 14 : ℕ) : ℤ)
def py (n : ℕ) : ℤ := ((n % 14 : ℕ) : ℤ)

/-- The farthest two of the points in the cells `n0 … n3`. -/
def farS (n0 n1 n2 n3 : ℕ) : PairS :=
  ((((((PairS.mk (-1) (px n0) (py n0) (px n1) (py n1)).try (px n0) (py n0) (px n1) (py n1)).try
    (px n0) (py n0) (px n2) (py n2)).try (px n0) (py n0) (px n3) (py n3)).try
    (px n1) (py n1) (px n2) (py n2)).try (px n1) (py n1) (px n3) (py n3)).try (px n2) (py n2) (px n3) (py n3)

def PairS.ax (p : PairS) : ℤ := 2 * (p.x2 - p.x1)
def PairS.ay (p : PairS) : ℤ := 2 * (p.y2 - p.y1)
def PairS.kk (p : PairS) : ℤ := p.x2 * p.x2 + p.y2 * p.y2 - p.x1 * p.x1 - p.y1 * p.y1

/-- The points lie on the map. -/
structure PairS.OnMap (p : PairS) : Prop where
  d0 : -1 ≤ p.d
  d1 : p.d ≤ 338
  x1 : 0 ≤ p.x1 ∧ p.x1 < 14
  y1 : 0 ≤ p.y1 ∧ p.y1 < 14
  x2 : 0 ≤ p.x2 ∧ p.x2 < 14
  y2 : 0 ≤ p.y2 ∧ p.y2 < 14

theorem px_bd {n : ℕ} (h : n < 196) : 0 ≤ px n ∧ px n < 14 := by unfold px; omega
theorem py_bd (n : ℕ) : 0 ≤ py n ∧ py n < 14 := by unfold py; omega

theorem sq_bd {a : ℤ} (h : -13 ≤ a ∧ a ≤ 13) : 0 ≤ a * a ∧ a * a ≤ 169 := ⟨mul_self_nonneg a, by nlinarith [h.1, h.2]⟩

theorem dist2_bd {xa ya xb yb : ℤ} (h1 : 0 ≤ xa ∧ xa < 14) (h2 : 0 ≤ ya ∧ ya < 14) (h3 : 0 ≤ xb ∧ xb < 14)
    (h4 : 0 ≤ yb ∧ yb < 14) : 0 ≤ dist2 xa ya xb yb ∧ dist2 xa ya xb yb ≤ 338 := by
  have hx := sq_bd (a := xb - xa) (by omega)
  have hy := sq_bd (a := yb - ya) (by omega)
  unfold dist2
  omega

theorem PairS.OnMap.try {p : PairS} (hp : p.OnMap) {xa ya xb yb : ℤ} (h1 : 0 ≤ xa ∧ xa < 14) (h2 : 0 ≤ ya ∧ ya < 14)
    (h3 : 0 ≤ xb ∧ xb < 14) (h4 : 0 ≤ yb ∧ yb < 14) : (p.try xa ya xb yb).OnMap := by
  unfold PairS.try
  split
  · have := dist2_bd h1 h2 h3 h4
    exact ⟨by show -1 ≤ dist2 xa ya xb yb; omega, this.2, h1, h2, h3, h4⟩
  · exact hp

theorem farS_onMap {n0 n1 n2 n3 : ℕ} (h0 : n0 < 196) (h1 : n1 < 196) (h2 : n2 < 196) (h3 : n3 < 196) :
    (farS n0 n1 n2 n3).OnMap := by
  unfold farS
  repeat' apply PairS.OnMap.try
  any_goals first
    | exact px_bd h0 | exact px_bd h1 | exact px_bd h2 | exact px_bd h3
    | exact py_bd _
  exact ⟨le_rfl, by norm_num, px_bd h0, py_bd _, px_bd h1, py_bd _⟩

/-! ## The maps -/

/-- Cell `p` lies nearer to the pair's first point. -/
def PairS.First (q : PairS) (p : ℕ) : Prop := px p * q.ax + py p * q.ay - q.kk < 0

instance (q : PairS) (p : ℕ) : Decidable (q.First p) := by unfold PairS.First; infer_instance

/-- The farthest two of a row's four picks. -/
def pairS (r : ℕ → F .f32) : PairS := farS (pickN r 0) (pickN r 1) (pickN r 2) (pickN r 3)

theorem pairS_onMap (r : ℕ → F .f32) : (pairS r).OnMap := farS_onMap (pickN_lt r 0) (pickN_lt r 1) (pickN_lt r 2) (pickN_lt r 3)

/-- The first map's value in cell `p`, the second's. -/
def map1 (r : ℕ → F .f32) (p : ℕ) : F .f32 := if (pairS r).First p then one1 else zero1
def map2 (r : ℕ → F .f32) (p : ℕ) : F .f32 := FloatOps.subf one1 (map1 r p)

theorem pairS_congr {r r' : ℕ → F .f32} (h : ∀ p < 196, r p = r' p) : pairS r = pairS r' := by
  unfold pairS
  rw [pickN_congr h 0, pickN_congr h 1, pickN_congr h 2, pickN_congr h 3]

theorem map1_congr {r r' : ℕ → F .f32} (h : ∀ p < 196, r p = r' p) (p : ℕ) : map1 r p = map1 r' p := by
  unfold map1; rw [pairS_congr h]

theorem map2_congr {r r' : ℕ → F .f32} (h : ∀ p < 196, r p = r' p) (p : ℕ) : map2 r p = map2 r' p := by
  unfold map2; rw [map1_congr h]

end Cert.KernelIdeal.Hand
-- ==== Proof.Lanes.lean ====
/-
  The kernel's vectors of sixteen words, lane by lane, as the numbers they stand for.
-/
module

public import proofs.«01_k».proof.Proof.Spec

@[expose] public section

noncomputable section

namespace Cert.KernelIdeal.Hand

open Cert.KernelIdeal Cert.KernelIdeal.Gen
open Idealize.ShloMosaic Idealize.SL.Sem

variable {F : FTy → Type} [FloatOps F]

/-- The word of a number. -/
abbrev wN (n : ℕ) : BitVec 32 := BitVec.ofNat 32 n
abbrev wI (z : ℤ) : BitVec 32 := BitVec.ofInt 32 z

/-- The first lane. -/
def lane0 : S16.Idx := Shape.ofLane (d := ![16]) (0 : Fin 16)

/-- A lane's number. -/
abbrev ln (x : S16.Idx) : ℕ := (x 0).val

theorem ln_lt (x : S16.Idx) : ln x < 16 := (x 0).isLt

theorem wN_add (a b : ℕ) : wN a + wN b = wN (a + b) := (BitVec.ofNat_add a b).symm
theorem wN_mul (a b : ℕ) : wN a * wN b = wN (a * b) := (BitVec.ofNat_mul a b).symm
theorem wN_toNat {n : ℕ} (h : n < 4294967296) : (wN n).toNat = n := by
  rw [BitVec.toNat_ofNat]; exact Nat.mod_eq_of_lt h
theorem wN_sub {a b : ℕ} (h : b ≤ a) : wN a - wN b = wN (a - b) := by
  rw [eq_comm, BitVec.eq_sub_iff_add_eq, wN_add, Nat.sub_add_cancel h]

theorem iv_eq (k : ℕ) : Scf.iv 0#32 1#32 k = wN k := by
  simp [Scf.iv]

theorem lanes_eq (x : S16.Idx) : lanes x = wN (ln x) := by
  simp [lanes, iota]

theorem rowsOf_eq (g : ℕ) (x : S16.Idx) : rowsOf g x = wN (16 * g + ln x) := by
  show (Scf.iv 0#32 1#32 g * wN 16) + lanes x = _
  rw [iv_eq, lanes_eq, wN_mul, wN_add, Nat.mul_comm]

theorem baseOf_eq (g : ℕ) (x : S16.Idx) : baseOf g x = wN ((16 * g + ln x) * 197) := by
  show rowsOf g x * wN 197 = _
  rw [rowsOf_eq, wN_mul]

theorem rowAt_eq {base : WV} {x : S16.Idx} {B : ℕ} (hb : base x = wN B) (k : ℕ) : rowAt base k x = wN (B + 14 * k) := by
  show base x + (Scf.iv 0#32 1#32 k * wN 14) = _
  rw [iv_eq, hb, wN_mul, wN_add, Nat.mul_comm]

/-! ## Division by fourteen -/

theorem div14_word : ∀ n : Fin 196, div14 (fun _ => wN n.val) lane0 = wN (n.val / 14) := by decide +kernel
theorem mod14_word : ∀ n : Fin 196, mod14 (fun _ => wN n.val) lane0 = wN (n.val % 14) := by decide +kernel

theorem div14_eq {v : WV} {x : S16.Idx} {n : ℕ} (hn : n < 196) (hv : v x = wN n) : div14 v x = wN (n / 14) := by
  rw [← div14_word ⟨n, hn⟩]
  show div14 (fun _ => v x) lane0 = _
  rw [hv]
theorem mod14_eq {v : WV} {x : S16.Idx} {n : ℕ} (hn : n < 196) (hv : v x = wN n) : mod14 v x = wN (n % 14) := by
  rw [← mod14_word ⟨n, hn⟩]
  show mod14 (fun _ => v x) lane0 = _
  rw [hv]

/-! ## Comparisons -/

theorem slt_wN {a b : ℕ} (ha : a < 2147483648) (hb : b < 2147483648) : (wN a).slt (wN b) = decide (a < b) := by
  rw [BitVec.slt_eq_decide]
  have h1 : (wN a).toInt = a := by rw [BitVec.toInt_eq_toNat_of_lt] <;> rw [wN_toNat (by omega)]; omega
  have h2 : (wN b).toInt = b := by rw [BitVec.toInt_eq_toNat_of_lt] <;> rw [wN_toNat (by omega)]; omega
  rw [h1, h2]
  simp

theorem slt_wI {a b : ℤ} (ha : -2147483648 ≤ a ∧ a < 2147483648) (hb : -2147483648 ≤ b ∧ b < 2147483648) :
    (wI a).slt (wI b) = decide (a < b) := by
  rw [BitVec.slt_eq_decide, BitVec.toInt_ofInt_eq_self (by decide) (by norm_num; omega) (by norm_num; omega),
    BitVec.toInt_ofInt_eq_self (by decide) (by norm_num; omega) (by norm_num; omega)]

theorem ofBool_one (b : Bool) : BitVec.ofBool b = 1#1 ↔ b = true := by cases b <;> decide

/-! ## The cells beside a pick -/

/-- The row `x + k - 5` lies on the map. -/
theorem onMap_row_word : ∀ (n : Fin 14) (k : Fin 10),
    onMap (fun _ => wN n.val) (Scalar.subi (wN k.val) 5#32) lane0 = BitVec.ofBool (decide (5 ≤ n.val + k.val ∧ n.val + k.val < 19)) := by
  decide +kernel

theorem onMap_row {v : WV} {x : S16.Idx} {n k : ℕ} (hn : n < 14) (hk : k < 10) (hv : v x = wN n) :
    onMap v (Scalar.subi (wN k) 5#32) x = BitVec.ofBool (decide (5 ≤ n + k ∧ n + k < 19)) := by
  have h : onMap v (Scalar.subi (wN k) 5#32) x = onMap (fun _ => v x) (Scalar.subi (wN k) 5#32) lane0 := by
    unfold onMap andi cmpi addi broadcast; rfl
  rw [h, hv]
  exact onMap_row_word ⟨n, hn⟩ ⟨k, hk⟩

/-- The cell `k` rows and `c` columns into the window around `m`. -/
theorem near_place {B m k c : ℕ} (hB : B + 196 ≤ 25232) (hm : m < 196) (hk : 5 ≤ m / 14 + k ∧ m / 14 + k < 19)
    (hc : 5 ≤ m % 14 + c ∧ m % 14 + c < 19) :
    wN (B + m) + Scalar.subi (wN k) 5#32 * 14#32 + Scalar.subi (wN c) 5#32 = wN (B + (m / 14 + k - 5) * 14 + (m % 14 + c - 5)) := by
  apply BitVec.eq_of_toNat_eq
  show (wN (B + m) + (wN k - 5#32) * 14#32 + (wN c - 5#32)).toNat = _
  simp only [BitVec.toNat_add, BitVec.toNat_mul, BitVec.toNat_sub, BitVec.toNat_ofNat]
  omega

end Cert.KernelIdeal.Hand
-- ==== Proof.Triple.lean ====
/-
  What a piece of the tile's program does to the three buffers of the tile, as a plain statement about their
  contents: `Does i d p s post` says that `p`, started with the buffers holding `s`, comes to an end, and that its
  result and what the buffers then hold satisfy `post`. The rules below carry such statements through a sequence and
  a counted loop, and give the two indexed accesses and the load, so that the rest of the tile's proof speaks of
  functions only.
-/
module

public import proofs.«01_k».proof.Proof.Clean
public import Idealize.ShloMosaic.Lib.SparseCore.Quiescent
public import Idealize.ShloMosaic.Lib.SparseCore.Ops
public import Idealize.ShloMosaic.Lib.Tactic
public import Idealize.ShloMosaic.Lib.Scf
public import Idealize.ShloMosaic.Lib.Transfers

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The algebra of the proof -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-! ## The buffers of a tile -/

abbrev bufA : Land := Memref.whole cc0_scratch0
abbrev bufB : Land := Memref.whole cc0_scratch1
abbrev bufH : Heat := Memref.whole cc0_scratch2

abbrev cV (i : grid0.Coords) : Fin τ.nSC := (i 0).castLE hcore0
abbrev jV (i : grid0.Coords) : Fin τ.nSub := (i 1).castLE hsub0

/-- What the three buffers of a tile hold: the landing buffer, the second map's, the heat buffer. -/
structure Bufs (F : FTy → Type) where
  a : S128x256.Idx → F .f32
  b : S128x256.Idx → F .f32
  h : S25232.Idx → F .f32

variable (i : grid0.Coords) (d : Dev nD)

/-- The tile holds its three buffers, at `s`. -/
def Holds (s : Bufs F) : sProp 𝕄 :=
  iprop(((V d (cV i) (jV i)).loc cc0_scratch0 ↦{fullShare} s.a) ∗ ((V d (cV i) (jV i)).loc cc0_scratch1 ↦{fullShare} s.b)
    ∗ ((V d (cV i) (jV i)).loc cc0_scratch2 ↦{fullShare} s.h))

variable [FloatOps F]

/-- `p` ends, and its result and the buffers satisfy `post`. -/
def Does {α : Type} (p : TP F i α) (s : Bufs F) (post : α → Bufs F → Prop) : Prop :=
  (Holds i d s : sProp 𝕄) ⊢ wp frame (wpE (defs₀ (F := F)) 𝒱₀ (V d (cV i) (jV i)) none) Set.univ p
    fun a => iprop(∃ s', ⌜post a s'⌝ ∗ Holds i d s')

variable {i d}

theorem Does.pure {α : Type} {a : α} {s : Bufs F} {post : α → Bufs F → Prop} (h : post a s) :
    Does i d (Pure.pure a) s post := by
  unfold Does
  rw [wp_pure]
  iintro H
  imodintro
  iexists s
  isplitr
  · ipureintro; exact h
  · iexact H

theorem Does.bind {α β : Type} {p : TP F i α} {k : α → TP F i β} {s : Bufs F} {mid : α → Bufs F → Prop}
    {post : β → Bufs F → Prop} (hp : Does i d p s mid) (hk : ∀ a s', mid a s' → Does i d (k a) s' post) :
    Does i d (p >>= k) s post := by
  unfold Does
  rw [wp_bind]
  refine BI.Entails.trans hp (wp_mono _ _ _ fun a => ?_)
  iintro ⟨%s', %hm, H⟩
  iapply (show (Holds i d s' : sProp 𝕄) ⊢ _ from hk a s' hm)
  iexact H

theorem Does.mono {α : Type} {p : TP F i α} {s : Bufs F} {post post' : α → Bufs F → Prop} (hp : Does i d p s post)
    (h : ∀ a s', post a s' → post' a s') : Does i d p s post' := by
  unfold Does
  refine BI.Entails.trans hp (wp_mono _ _ _ fun a => ?_)
  iintro ⟨%s', %hm, H⟩
  iexists s'
  isplitr
  · ipureintro; exact h a s' hm
  · iexact H

/-- A counted loop, by an invariant. -/
theorem Does.loop {σ : Type} {l : Scf.Loop 32} {hok : l.OK} {init : σ} {body : Fin l.trips → σ → TP F i σ} {s : Bufs F}
    (I : ℕ → σ → Bufs F → Prop) (h0 : I 0 init s)
    (hbody : ∀ (k : Fin l.trips) acc s, I k.val acc s → Does i d (body k acc) s (I (k.val + 1))) :
    Does i d (Scf.Loop.for l hok init body) s (I l.trips) := by
  unfold Does at *
  refine (show (Holds i d s : sProp 𝕄) ⊢ iprop((∃ s', ⌜I 0 init s'⌝ ∗ Holds i d s')
      ∗ (∀ acc, (∃ s', ⌜I l.trips acc s'⌝ ∗ Holds i d s') -∗ ∃ s', ⌜I l.trips acc s'⌝ ∗ Holds i d s')) from ?_).trans (Scf.wp_for frame (wpE (defs₀ (F := F)) 𝒱₀ (V d (cV i) (jV i)) none) Set.univ l.lb l.ub l.st hok init body
    (fun k acc => iprop(∃ s', ⌜I k acc s'⌝ ∗ Holds i d s')) ?_)
  · iintro H
    isplitl [H]
    · iexists s
      isplitr
      · ipureintro; exact h0
      · iexact H
    · iintro %acc H
      iexact H
  · intro k acc
    iintro ⟨%s', %hI, H⟩
    iapply (show (Holds i d s' : sProp 𝕄) ⊢ _ from hbody k acc s' hI)
    iexact H

/-! ## The accesses -/

/-- The cell `n` of the heat buffer, the cell `(e, p)` of a landing buffer. -/
def cell (n : ℕ) : S25232.Idx := fun a => match a with
  | 0 => ⟨n % 25232, Nat.mod_lt _ (by decide)⟩
def lcell (e p : ℕ) : S128x256.Idx :=
  fun a => match a with
    | 0 => ⟨e % 128, Nat.mod_lt _ (by decide)⟩
    | 1 => ⟨p % 256, Nat.mod_lt _ (by decide)⟩

theorem cell_eq {n : ℕ} (h : n < 25232) : ((cell n) 0).val = n := Nat.mod_eq_of_lt h

theorem idxAt_heat {v : WV} (hv : ∀ x, (v x).toNat < 25232) (h : ∀ a x, ((![v] : Fin 1 → WV) a x).toNat < S25232.size a)
    (l : S16.Idx) : idxAt (s := S25232) ![v] h l = cell (v l).toNat := by
  funext a
  match a with
  | 0 => exact Fin.ext (Nat.mod_eq_of_lt (hv l)).symm

theorem idxAt_land {e p : WV} (he : ∀ x, (e x).toNat < 128) (hp : ∀ x, (p x).toNat < 256)
    (h : ∀ a x, ((![e, p] : Fin 2 → WV) a x).toNat < S128x256.size a)
    (l : S16.Idx) : idxAt (s := S128x256) ![e, p] h l = lcell (e l).toNat (p l).toNat := by
  funext a
  match a with
  | 0 => exact Fin.ext (Nat.mod_eq_of_lt (he l)).symm
  | 1 => exact Fin.ext (Nat.mod_eq_of_lt (hp l)).symm

/-- The lanes written one after another, seen from one place: where all the lanes that name it write `y`, it holds
    `y` at the end if one of them names it, or if it held `y` before. -/
theorem writes_at {ι J : Type} {X : Type} (hits : ι → J → Prop) [∀ k j, Decidable (hits k j)] (v : ι → X) (on : ι → Prop)
    [DecidablePred on] (j : J) (y : X) (L : List ι) (hv : ∀ k ∈ L, on k → hits k j → v k = y) (g : J → X)
    (h : g j = y ∨ ∃ k ∈ L, on k ∧ hits k j) :
    (L.foldl (fun g k => if on k then fun j => if hits k j then v k else g j else g) g) j = y := by
  induction L generalizing g with
  | nil => simpa using h
  | cons k L ih =>
    rw [List.foldl_cons]
    refine ih (fun k' hk' => hv k' (List.mem_cons_of_mem _ hk')) _ ?_
    by_cases ho : on k
    · by_cases hh : hits k j
      · left; simp [ho, hh, hv k (List.mem_cons_self ..) ho hh]
      · rcases h with h | ⟨k', hk', h1, h2⟩
        · left; simp [ho, hh, h]
        · right
          rcases List.mem_cons.mp hk' with rfl | hm
          · exact absurd h2 hh
          · exact ⟨k', hm, h1, h2⟩
    · rcases h with h | ⟨k', hk', h1, h2⟩
      · left; simp [ho, h]
      · right
        rcases List.mem_cons.mp hk' with rfl | hm
        · exact absurd h1 ho
        · exact ⟨k', hm, h1, h2⟩

theorem lane_surj (x : S16.Idx) : ∃ k : Fin 16, Shape.ofLane (d := ![16]) k = x :=
  ⟨x 0, by funext a; match a with | 0 => rfl⟩

/-- An indexed write, seen from one place. -/
theorem storeIdx_at {s : Shape} (f : Vec F s .f32) (idxs : Fin s.rank → WV) (v : FV F) (mask : BV)
    (h : ∀ a x, (idxs a x).toNat < s.size a) (j : s.Idx) (y : F .f32)
    (hv : ∀ x, mask x = 1 → idxAt idxs h x = j → v x = y) (hj : f j = y ∨ ∃ x, mask x = 1 ∧ idxAt idxs h x = j) :
    storeIdx (F := F) f idxs v mask false h j = y := by
  have key := writes_at (ι := Fin 16) (J := s.Idx) (fun k j => ∀ a, (j a).val = (idxAt idxs h (Shape.ofLane (d := ![16]) k) a).val)
    (fun k => v (Shape.ofLane (d := ![16]) k)) (fun k => mask (Shape.ofLane (d := ![16]) k) = 1) j y (List.finRange 16)
    (fun k _ ho hh => hv _ ho (funext fun a => Fin.ext (hh a).symm)) f (by
      rcases hj with hj | ⟨x, h1, h2⟩
      · exact .inl hj
      · obtain ⟨k, rfl⟩ := lane_surj x
        exact .inr ⟨k, List.mem_finRange _, h1, fun a => by rw [h2]⟩)
  simp only [storeIdx, Bool.false_eq_true, if_false]
  exact key

theorem pts_heat (f : S25232.Idx → F .f32) :
    ((bufH.access (.whole S25232)).loc (V d (cV i) (jV i)) ↦[(bufH.access (.whole S25232)).set]{fullShare} f : sProp 𝕄)
      = ((V d (cV i) (jV i)).loc cc0_scratch2 ↦{fullShare} f) := by
  have h : (bufH.access (.whole S25232)).set = Finset.univ := Memref.set_access_whole cc0_scratch2
  rw [h]
theorem read_heat (f : S25232.Idx → F .f32) : (bufH.access (.whole S25232)).read (Elt F) f = f :=
  Memref.read_access_whole (Elt F) cc0_scratch2 f
theorem write_heat (f w : S25232.Idx → F .f32) : (bufH.access (.whole S25232)).write (Elt F) f w Finset.univ = w :=
  Memref.write_access_whole_univ (Elt F) cc0_scratch2 f w

theorem pts_mapA (f : S128x256.Idx → F .f32) :
    ((bufA.access (.whole S128x256)).loc (V d (cV i) (jV i)) ↦[(bufA.access (.whole S128x256)).set]{fullShare} f : sProp 𝕄)
      = ((V d (cV i) (jV i)).loc cc0_scratch0 ↦{fullShare} f) := by
  have h : (bufA.access (.whole S128x256)).set = Finset.univ := Memref.set_access_whole cc0_scratch0
  rw [h]
theorem read_mapA (f : S128x256.Idx → F .f32) : (bufA.access (.whole S128x256)).read (Elt F) f = f :=
  Memref.read_access_whole (Elt F) cc0_scratch0 f
theorem write_mapA (f w : S128x256.Idx → F .f32) : (bufA.access (.whole S128x256)).write (Elt F) f w Finset.univ = w :=
  Memref.write_access_whole_univ (Elt F) cc0_scratch0 f w

theorem pts_mapB (f : S128x256.Idx → F .f32) :
    ((bufB.access (.whole S128x256)).loc (V d (cV i) (jV i)) ↦[(bufB.access (.whole S128x256)).set]{fullShare} f : sProp 𝕄)
      = ((V d (cV i) (jV i)).loc cc0_scratch1 ↦{fullShare} f) := by
  have h : (bufB.access (.whole S128x256)).set = Finset.univ := Memref.set_access_whole cc0_scratch1
  rw [h]
theorem read_mapB (f : S128x256.Idx → F .f32) : (bufB.access (.whole S128x256)).read (Elt F) f = f :=
  Memref.read_access_whole (Elt F) cc0_scratch1 f
theorem write_mapB (f w : S128x256.Idx → F .f32) : (bufB.access (.whole S128x256)).write (Elt F) f w Finset.univ = w :=
  Memref.write_access_whole_univ (Elt F) cc0_scratch1 f w

theorem readAt_does {v : WV} {s : Bufs F} (hv : ∀ x, (v x).toNat < 25232) :
    Does i d (readAt i bufH v) s fun x s' => s' = s ∧ x = fun l => s.h (cell (v l).toNat) := by
  have hchk : k0_chk1 v := by intro a x; obtain rfl : a = 0 := Subsingleton.elim _ _; exact hv x
  unfold Does readAt
  simp only [Prog.lift, Prog.bind_op, Prog.bind_ret]
  rw [wp_assume_of _ _ _ _ hchk]
  rw [← bind_pure (SparseCore.vectorLoadIdx _ _ _ _)]
  unfold Holds
  iintro ⟨Ha, Hb, Hh⟩
  iapply (SparseCore.wp_vectorLoadIdx 𝒱₀ (V d (cV i) (jV i)) none Set.univ (base := bufH) (S := Finset.univ) (q := fullShare) (f := s.h)
    (Finset.subset_univ _)) $$ Hh
  iintro Hh
  rw [wp_pure]
  imodintro
  iexists s
  isplitr
  · ipureintro
    refine ⟨rfl, funext fun l => ?_⟩
    rw [loadIdx, read_heat]
    exact congrArg s.h (idxAt_heat hv _ l)
  · isplitl [Ha]
    · iexact Ha
    · isplitl [Hb] <;> iassumption

/-- What an indexed write has done to the heat buffer. -/
def Scat (f : S25232.Idx → F .f32) (v : WV) (x : FV F) (m : BV) (g : S25232.Idx → F .f32) : Prop :=
  ∀ n y, n < 25232 → (∀ l, m l = 1 → (v l).toNat = n → x l = y) → (f (cell n) = y ∨ ∃ l, m l = 1 ∧ (v l).toNat = n) → g (cell n) = y

theorem writeAt_does {v : WV} {x : FV F} {m : BV} {s : Bufs F} (hv : ∀ l, (v l).toNat < 25232) :
    Does i d (writeAt i bufH v x m) s fun _ s' => s'.a = s.a ∧ s'.b = s.b ∧ Scat s.h v x m s'.h := by
  have hchk : k0_chk1 v := by intro a x; obtain rfl : a = 0 := Subsingleton.elim _ _; exact hv x
  unfold Does writeAt
  simp only [Prog.lift, Prog.bind_op, Prog.bind_ret]
  rw [wp_assume_of _ _ _ _ hchk]
  rw [← bind_pure (SparseCore.vectorStoreIdx _ _ _ _ _ _ _)]
  unfold Holds
  iintro ⟨Ha, Hb, Hh⟩
  ihave Hh' := (Entails.of_eq (pts_heat (i := i) (d := d) s.h).symm) $$ Hh
  iapply (SparseCore.wp_vectorStoreIdx 𝒱₀ (V d (cV i) (jV i)) none Set.univ (base := bufH) (f := s.h)) $$ Hh'
  iintro Hh
  rw [write_heat, read_heat]
  ihave Hh' := (Entails.of_eq (pts_heat (i := i) (d := d) _)) $$ Hh
  rw [wp_pure]
  imodintro
  iexists (⟨s.a, s.b, storeIdx (F := F) (s := S25232) (e := .f32) s.h ![v] x m false hchk⟩ : Bufs F)
  isplitr
  · ipureintro
    refine ⟨rfl, rfl, fun n y hn hx hy => storeIdx_at (F := F) s.h ![v] x m hchk (cell n) y (fun l hl he => hx l hl ?_) ?_⟩
    · have := congrArg (fun c : S25232.Idx => (c 0).val) ((idxAt_heat hv hchk l).symm.trans he)
      simpa only [cell_eq hn, cell_eq (hv l)] using this
    · refine hy.imp id fun ⟨l, hl, he⟩ => ⟨l, hl, ?_⟩
      exact (idxAt_heat hv hchk l).trans (congrArg cell he)
  · isplitl [Ha]
    · iexact Ha
    · isplitl [Hb] <;> iassumption

/-- What an indexed write of all the lanes has done to a landing buffer. -/
def Scat2 (f : S128x256.Idx → F .f32) (e p : WV) (x : FV F) (g : S128x256.Idx → F .f32) : Prop :=
  ∀ a b y, a < 128 → b < 256 → (∀ l, (e l).toNat = a → (p l).toNat = b → x l = y)
    → (f (lcell a b) = y ∨ ∃ l, (e l).toNat = a ∧ (p l).toNat = b) → g (lcell a b) = y

theorem lcell_eq {a b : ℕ} (ha : a < 128) (hb : b < 256) : ((lcell a b) 0).val = a ∧ ((lcell a b) 1).val = b :=
  ⟨Nat.mod_eq_of_lt ha, Nat.mod_eq_of_lt hb⟩

theorem storeIdx_scat2 {e p : WV} (he : ∀ x, (e x).toNat < 128) (hp : ∀ x, (p x).toNat < 256)
    (h : ∀ a x, ((![e, p] : Fin 2 → WV) a x).toNat < S128x256.size a) (f : S128x256.Idx → F .f32) (x : FV F) :
    Scat2 f e p x (storeIdx (F := F) (s := S128x256) (e := .f32) f ![e, p] x (fun _ => 1#1) false h) := by
  intro a b y ha hb hx hy
  refine storeIdx_at (F := F) f ![e, p] x (fun _ => 1#1) h (lcell a b) y (fun l _ hl => ?_) ?_
  · rw [idxAt_land he hp] at hl
    have h0 := congrArg (fun c : S128x256.Idx => (c 0).val) hl
    have h1 := congrArg (fun c : S128x256.Idx => (c 1).val) hl
    simp only [(lcell_eq ha hb).1, (lcell_eq ha hb).2, (lcell_eq (he l) (hp l)).1, (lcell_eq (he l) (hp l)).2] at h0 h1
    exact hx l h0 h1
  · refine hy.imp id fun ⟨l, h0, h1⟩ => ⟨l, rfl, ?_⟩
    rw [idxAt_land he hp, h0, h1]

theorem writeA_does {e p : WV} {x : FV F} {s : Bufs F} (he : ∀ x, (e x).toNat < 128) (hp : ∀ x, (p x).toNat < 256)
    (h : ∀ a x, ((![e, p] : Fin 2 → WV) a x).toNat < S128x256.size a) :
    Does i d (SparseCore.vectorStoreIdx bufA ![e, p] x (fun _ => 1#1) false h (View.stores_vmem_bits_univ h_S128x256 rfl) : TP F i PUnit) s
      fun _ s' => s'.h = s.h ∧ s'.b = s.b ∧ Scat2 s.a e p x s'.a := by
  rw [← bind_pure (SparseCore.vectorStoreIdx _ _ _ _ _ _ _)]
  unfold Does Holds
  iintro ⟨Ha, Hb, Hh⟩
  ihave H' := (Entails.of_eq (pts_mapA (i := i) (d := d) s.a).symm) $$ Ha
  iapply (SparseCore.wp_vectorStoreIdx 𝒱₀ (V d (cV i) (jV i)) none Set.univ (base := bufA) (f := s.a)) $$ H'
  iintro H
  rw [write_mapA, read_mapA]
  ihave Ha := (Entails.of_eq (pts_mapA (i := i) (d := d) _)) $$ H
  rw [wp_pure]
  imodintro
  iexists (⟨storeIdx (F := F) (s := S128x256) (e := .f32) s.a ![e, p] x (fun _ => 1#1) false h, s.b, s.h⟩ : Bufs F)
  isplitr
  · ipureintro
    exact ⟨rfl, rfl, storeIdx_scat2 he hp h _ _⟩
  · isplitl [Ha]
    · iexact Ha
    · isplitl [Hb] <;> iassumption

theorem writeB_does {e p : WV} {x : FV F} {s : Bufs F} (he : ∀ x, (e x).toNat < 128) (hp : ∀ x, (p x).toNat < 256)
    (h : ∀ a x, ((![e, p] : Fin 2 → WV) a x).toNat < S128x256.size a) :
    Does i d (SparseCore.vectorStoreIdx bufB ![e, p] x (fun _ => 1#1) false h (View.stores_vmem_bits_univ h_S128x256 rfl) : TP F i PUnit) s
      fun _ s' => s'.h = s.h ∧ s'.a = s.a ∧ Scat2 s.b e p x s'.b := by
  rw [← bind_pure (SparseCore.vectorStoreIdx _ _ _ _ _ _ _)]
  unfold Does Holds
  iintro ⟨Ha, Hb, Hh⟩
  ihave H' := (Entails.of_eq (pts_mapB (i := i) (d := d) s.b).symm) $$ Hb
  iapply (SparseCore.wp_vectorStoreIdx 𝒱₀ (V d (cV i) (jV i)) none Set.univ (base := bufB) (f := s.b)) $$ H'
  iintro H
  rw [write_mapB, read_mapB]
  ihave Hb := (Entails.of_eq (pts_mapB (i := i) (d := d) _)) $$ H
  rw [wp_pure]
  imodintro
  iexists (⟨s.a, storeIdx (F := F) (s := S128x256) (e := .f32) s.b ![e, p] x (fun _ => 1#1) false h, s.h⟩ : Bufs F)
  isplitr
  · ipureintro
    exact ⟨rfl, rfl, storeIdx_scat2 he hp h _ _⟩
  · isplitl [Ha]
    · iexact Ha
    · isplitl [Hb] <;> iassumption

theorem writeMaps_does {e p : WV} {x1 x2 : FV F} {s : Bufs F} (he : ∀ x, (e x).toNat < 128) (hp : ∀ x, (p x).toNat < 256) :
    Does i d (writeMaps i bufA bufB e p x1 x2) s fun _ s' => s'.h = s.h ∧ Scat2 s.a e p x1 s'.a ∧ Scat2 s.b e p x2 s'.b := by
  have h1 : ∀ a x, ((![e, p] : Fin 2 → WV) a x).toNat < S128x256.size a := by
    intro a x
    match a with
    | 0 => exact he x
    | 1 => exact hp x
  have hchk : k0_chk100 e p := ⟨h1, h1⟩
  have key : Does i d (do
      SparseCore.vectorStoreIdx bufA ![e, p] x1 (fun _ => 1#1) false h1 (View.stores_vmem_bits_univ h_S128x256 rfl)
      SparseCore.vectorStoreIdx bufB ![e, p] x2 (fun _ => 1#1) false h1 (View.stores_vmem_bits_univ h_S128x256 rfl) : TP F i PUnit) s
      fun _ s' => s'.h = s.h ∧ Scat2 s.a e p x1 s'.a ∧ Scat2 s.b e p x2 s'.b := by
    refine Does.bind (writeA_does he hp h1) fun _ s1 hs1 => ?_
    refine (writeB_does he hp h1).mono fun _ s2 hs2 => ?_
    obtain ⟨h3, h4, h5⟩ := hs1
    obtain ⟨h6, h7, h8⟩ := hs2
    exact ⟨h6.trans h3, h7 ▸ h5, h4 ▸ h8⟩
  unfold Does writeMaps at *
  simp only [Prog.lift, Prog.bind_op, Prog.bind_ret]
  rw [wp_assume_of _ _ _ _ hchk]
  exact key

/-- Sixteen cells of row `e` loaded from the landing buffer, from place `p` on. -/
theorem loadRow_does {off : Fin 2 → ℕ} {hoff : ∀ a, off a + S1x16.size a ≤ S128x256.size a} {e p : ℕ} {s : Bufs F}
    (ho : off = ![e, p]) :
    Does i d (Prog.lift (.load bufA (Rect.unit (s := S128x256) off S1x16.size hoff).toLoadRect (View.loadsAt_vmem h_S1x16)) : TP F i _) s
      fun (x : Vec F S1x16 .f32) s' => s' = s ∧ x = fun l => s.a (lcell e (p + (l 1).val)) := by
  subst ho
  unfold Does Holds
  rw [Prog.lift]
  iintro ⟨Ha, Hb, Hh⟩
  iapply (wp_load 𝒱₀ (V d (cV i) (jV i)) none Set.univ (m := bufA) (S := Finset.univ) (q := fullShare) (f := s.a)
    (Finset.subset_univ _)) $$ Ha
  iintro Ha
  rw [wp_ret]
  imodintro
  iexists s
  isplitr
  · ipureintro
    refine ⟨rfl, funext fun l => ?_⟩
    rw [View.readAt_apply]
    refine congrArg s.a (funext fun a => Fin.ext ?_)
    have h0 := hoff 0
    have h1 := hoff 1
    have h2 : e + 1 ≤ 128 := h0
    have h3 : p + 16 ≤ 256 := h1
    have hl0 : (l 0).val < 1 := (l 0).isLt
    have hl1 : (l 1).val < 16 := (l 1).isLt
    match a with
    | 0 =>
      show e + 1 * (l 0).val = e % 128
      omega
    | 1 =>
      show p + 1 * (l 1).val = (p + (l 1).val) % 256
      omega
  · isplitl [Ha]
    · iexact Ha
    · isplitl [Hb] <;> iassumption

end Cert.KernelIdeal.Hand
-- ==== Proof.Loops.lean ====
/-
  What the scan, the suppression, the walk and the repacking do to a tile's buffers, each loop once, over any float
  values and at any group of rows.
-/
module

public import proofs.«01_k».proof.Proof.Lanes
public import proofs.«01_k».proof.Proof.Triple

@[expose] public section

noncomputable section

namespace Cert.KernelIdeal.Hand

open Cert.KernelIdeal Cert.KernelIdeal.Gen
open Idealize.ShloMosaic Idealize.SL.Sem

variable {F : FTy → Type} [FloatOps F] {i : grid0.Coords} {d : Dev nD} [Facts]

/-! ## The scan -/

/-- The row that begins at cell `B` of the heat buffer. -/
def rowFrom (h : S25232.Idx → F .f32) (B p : ℕ) : F .f32 := h (cell (B + p))

/-- A column of a scan: every lane's value and place, the place counted from the lane's row. -/
def accOf (B : S16.Idx → ℕ) (st : S16.Idx → F .f32 × ℕ) : FV F × WV := (fun x => (st x).1, fun x => wN (B x + (st x).2))

theorem scanStep_does {s : Bufs F} {row : WV} {B : S16.Idx → ℕ} {k j : ℕ} (st : S16.Idx → F .f32 × ℕ) (hk : k < 14) (hj : j < 14)
    (hB : ∀ x, B x + 196 ≤ 25232) (hrow : ∀ x, row x = wN (B x + 14 * k)) :
    Does i d (scanStep i bufH row (wN j) (accOf B st)) s
      fun a s' => s' = s ∧ a = accOf B fun x => stepS (rowFrom s.h (B x)) (st x) (14 * k + j) := by
  have hidx : ∀ x, addi row (broadcast S16 (wN j)) x = wN (B x + (14 * k + j)) := fun x => by
    show row x + wN j = _
    rw [hrow, wN_add, Nat.add_assoc]
  have hn : ∀ x, (addi row (broadcast S16 (wN j)) x).toNat = B x + (14 * k + j) := fun x => by
    have := hB x
    rw [hidx, wN_toNat (by omega)]
  unfold scanStep
  refine Does.bind (readAt_does fun x => ?_) ?_
  · have := hB x
    rw [hn]; omega
  · rintro v s' ⟨rfl, hv⟩
    refine Does.pure ⟨rfl, Prod.ext (funext fun x => ?_) (funext fun x => ?_)⟩
    · show (if FloatOps.cmpf .ogt (v x) (st x).1 = 1 then v x else (st x).1) = _
      rw [hv]
      simp only [hn, accOf, stepS, rowFrom]
      split <;> rename_i hh <;> simp only [hh, if_true, if_false]
    · show (if FloatOps.cmpf .ogt (v x) (st x).1 = 1 then addi row (broadcast S16 (wN j)) x else wN (B x + (st x).2)) = _
      rw [hv, hidx]
      simp only [hn, accOf, stepS, rowFrom]
      split <;> rename_i hh <;> simp only [hh, if_true, if_false]

theorem scanTrip_does {s : Bufs F} {base : WV} {B : S16.Idx → ℕ} {k : ℕ} (a : Acc F) (hk : k < 14)
    (hB : ∀ x, B x + 196 ≤ 25232) (hbase : ∀ x, base x = wN (B x))
    (ha : a = fun j => accOf B fun x => colS (rowFrom s.h (B x)) j.val k) :
    Does i d (scanTrip i bufH base k a) s
      fun r s' => s' = s ∧ ofRow r = fun j => accOf B fun x => colS (rowFrom s.h (B x)) j.val (k + 1) := by
  subst ha
  have hrow : ∀ x, rowAt base k x = wN (B x + 14 * k) := fun x => rowAt_eq (hbase x) k
  have step : ∀ j : Fin 14, Does i d (scanStep i bufH (rowAt base k) (wN j.val) (accOf B fun x => colS (rowFrom s.h (B x)) j.val k)) s
      fun a s' => s' = s ∧ a = accOf B fun x => colS (rowFrom s.h (B x)) j.val (k + 1) :=
    fun j => scanStep_does _ hk j.isLt hB hrow
  unfold scanTrip
  refine Does.bind (step 0) ?_; rintro _ _ ⟨rfl, rfl⟩
  refine Does.bind (step 1) ?_; rintro _ _ ⟨rfl, rfl⟩
  refine Does.bind (step 2) ?_; rintro _ _ ⟨rfl, rfl⟩
  refine Does.bind (step 3) ?_; rintro _ _ ⟨rfl, rfl⟩
  refine Does.bind (step 4) ?_; rintro _ _ ⟨rfl, rfl⟩
  refine Does.bind (step 5) ?_; rintro _ _ ⟨rfl, rfl⟩
  refine Does.bind (step 6) ?_; rintro _ _ ⟨rfl, rfl⟩
  refine Does.bind (step 7) ?_; rintro _ _ ⟨rfl, rfl⟩
  refine Does.bind (step 8) ?_; rintro _ _ ⟨rfl, rfl⟩
  refine Does.bind (step 9) ?_; rintro _ _ ⟨rfl, rfl⟩
  refine Does.bind (step 10) ?_; rintro _ _ ⟨rfl, rfl⟩
  refine Does.bind (step 11) ?_; rintro _ _ ⟨rfl, rfl⟩
  refine Does.bind (step 12) ?_; rintro _ _ ⟨rfl, rfl⟩
  refine Does.bind (step 13) ?_; rintro _ _ ⟨rfl, rfl⟩
  refine Does.pure ⟨rfl, funext fun j => ?_⟩
  match j with
  | 0 => rfl | 1 => rfl | 2 => rfl | 3 => rfl | 4 => rfl | 5 => rfl | 6 => rfl
  | 7 => rfl | 8 => rfl | 9 => rfl | 10 => rfl | 11 => rfl | 12 => rfl | 13 => rfl

theorem scanLoop_does {s : Bufs F} {base : WV} {B : S16.Idx → ℕ} (hB : ∀ x, B x + 196 ≤ 25232) (hbase : ∀ x, base x = wN (B x)) :
    Does i d (scanLoop i bufH base) s
      fun r s' => s' = s ∧ ofRow r = fun j => accOf B fun x => colS (rowFrom s.h (B x)) j.val 14 := by
  unfold scanLoop
  refine (Does.loop (fun k r s' => s' = s ∧ ofRow r = fun j => accOf B fun x => colS (rowFrom s.h (B x)) j.val k) ⟨rfl, ?_⟩ ?_).mono ?_
  · have h0 : (thr, base) = accOf B fun x => ((thr1 : F .f32), 0) := Prod.ext rfl (funext hbase)
    rw [h0]
    funext j
    match j with
    | 0 => rfl | 1 => rfl | 2 => rfl | 3 => rfl | 4 => rfl | 5 => rfl | 6 => rfl
    | 7 => rfl | 8 => rfl | 9 => rfl | 10 => rfl | 11 => rfl | 12 => rfl | 13 => rfl
  · rintro k r s' ⟨rfl, hr⟩
    exact scanTrip_does _ k.isLt hB hbase hr
  · exact fun r s' h => h

/-- The better column, lane by lane. -/
theorem better_acc {B : S16.Idx → ℕ} {a b : S16.Idx → F .f32 × ℕ} (hB : ∀ x, B x + 196 ≤ 25232)
    (ha : ∀ x, (a x).2 < 196) (hb : ∀ x, (b x).2 < 196) :
    better (accOf B a) (accOf B b) = accOf B fun x => betterS (a x) (b x) := by
  have hc : ∀ x, (ori (cmpf .ogt (accOf B b).1 (accOf B a).1) (andi (cmpf .oeq (accOf B b).1 (accOf B a).1)
      (cmpi .slt (accOf B b).2 (accOf B a).2)) x = 1)
      = (FloatOps.cmpf .ogt (b x).1 (a x).1 = 1 ∨ (FloatOps.cmpf .oeq (b x).1 (a x).1 = 1 ∧ (b x).2 < (a x).2)) := by
    intro x
    have h1 := hB x
    have h2 := ha x
    have h3 := hb x
    show (FloatOps.cmpf .ogt (b x).1 (a x).1 ||| (FloatOps.cmpf .oeq (b x).1 (a x).1
      &&& BitVec.ofBool ((wN (B x + (b x).2)).slt (wN (B x + (a x).2)))) = 1) = _
    rw [slt_wN (by omega) (by omega)]
    have e : decide (B x + (b x).2 < B x + (a x).2) = decide ((b x).2 < (a x).2) := by simp
    rw [e]
    generalize FloatOps.cmpf .ogt (b x).1 (a x).1 = p
    generalize FloatOps.cmpf .oeq (b x).1 (a x).1 = q
    by_cases hlt : (b x).2 < (a x).2
    · simp only [hlt, decide_true, and_true]
      exact propext (by revert p q; decide)
    · simp only [hlt, decide_false, and_false, or_false]
      exact propext (by revert p q; decide)
  refine Prod.ext (funext fun x => ?_) (funext fun x => ?_)
  · show (if (ori _ _ : BV) x = 1 then (b x).1 else (a x).1) = (betterS (a x) (b x)).1
    unfold betterS
    simp only [hc]
    split <;> rfl
  · show (if (ori _ _ : BV) x = 1 then wN (B x + (b x).2) else wN (B x + (a x).2)) = wN (B x + (betterS (a x) (b x)).2)
    unfold betterS
    simp only [hc]
    split <;> rfl

theorem bestOf_acc {B : S16.Idx → ℕ} {a : Fin 14 → S16.Idx → F .f32 × ℕ} (hB : ∀ x, B x + 196 ≤ 25232)
    (ha : ∀ j x, (a j x).2 < 196) :
    bestOf (fun j => accOf B (a j)) = accOf B fun x => bestS fun j => a j x := by
  unfold bestOf bestS
  have h2 : ∀ {a b : S16.Idx → F .f32 × ℕ}, (∀ x, (a x).2 < 196) → (∀ x, (b x).2 < 196) → ∀ x, (betterS (a x) (b x)).2 < 196 :=
    fun ha hb x => betterS_lt (ha x) (hb x)
  have e01 := better_acc hB (ha 0) (ha 1)
  have e23 := better_acc hB (ha 2) (ha 3)
  have e45 := better_acc hB (ha 4) (ha 5)
  have e67 := better_acc hB (ha 6) (ha 7)
  have e89 := better_acc hB (ha 8) (ha 9)
  have eab := better_acc hB (ha 10) (ha 11)
  have ecd := better_acc hB (ha 12) (ha 13)
  rw [e01, e23, e45, e67, e89, eab, ecd]
  have b01 := h2 (ha 0) (ha 1)
  have b23 := h2 (ha 2) (ha 3)
  have b45 := h2 (ha 4) (ha 5)
  have b67 := h2 (ha 6) (ha 7)
  have b89 := h2 (ha 8) (ha 9)
  have bab := h2 (ha 10) (ha 11)
  have bcd := h2 (ha 12) (ha 13)
  rw [better_acc hB b01 b23, better_acc hB b45 b67, better_acc hB b89 bab]
  rw [better_acc hB (h2 b01 b23) (h2 b45 b67), better_acc hB (h2 b89 bab) bcd]
  rw [better_acc hB (h2 (h2 b01 b23) (h2 b45 b67)) (h2 (h2 b89 bab) bcd)]

/-- The pick that a scan has found. -/
theorem pickOf_eq {r : Row28 F} {B : S16.Idx → ℕ} {h : S25232.Idx → F .f32} (hB : ∀ x, B x + 196 ≤ 25232)
    (hr : ofRow r = fun j => accOf B fun x => colS (rowFrom h (B x)) j.val 14) (x : S16.Idx) :
    pickOf r x = wN (B x + pickS (rowFrom h (B x))) := by
  unfold pickOf
  rw [hr, bestOf_acc hB fun j x => colS_lt _ j 14 le_rfl]
  rfl

end Cert.KernelIdeal.Hand
-- ==== Proof.Rows.lean ====
/-
  What the repacking, the suppression and the walk do to a tile's buffers, row by row.
-/
module

public import proofs.«01_k».proof.Proof.Loops

@[expose] public section

noncomputable section

namespace Cert.KernelIdeal.Hand

open Cert.KernelIdeal Cert.KernelIdeal.Gen
open Idealize.ShloMosaic Idealize.SL.Sem

variable {F : FTy → Type} [FloatOps F] {i : grid0.Coords} {d : Dev nD} [Facts]

/-! ## The repacking -/

/-- Lane `x` of the sixteen loaded cells. -/
theorem shapeCast_row {α : Type} (f : ℕ → α) (x : S16.Idx) :
    shapeCast S16 (fun l : S1x16.Idx => f (l 1).val) shapeCasts_S1x16_S16 x = f (ln x) := by
  let y : S1x16.Idx := fun a => match a with
    | 0 => ⟨0, by decide⟩
    | 1 => ⟨(x 0).val, (x 0).isLt⟩
  have hy : Shape.reshapeEquiv shapeCasts_S1x16_S16 x = y := by
    apply Shape.reshapeEquiv_eq_of_rowMajor
    rw [Shape.rowMajor_val_two, Shape.rowMajor_val_one]
    show 0 * 16 + (x 0).val = (x 0).val
    omega
  unfold shapeCast
  rw [hy]

/-- The rows before `e0`, and of row `e0` the first `p0` cells, stand in the heat buffer. -/
def Packed (e0 p0 : ℕ) (s : Bufs F) : Prop :=
  ∀ e p, e < 128 → p < 196 → (e < e0 ∨ (e = e0 ∧ p < p0)) → s.h (cell (e * 197 + p)) = s.a (lcell e p)

theorem packStep_does {s : Bufs F} {off : Fin 2 → ℕ} {hoff : ∀ a, off a + S1x16.size a ≤ S128x256.size a} {e0 c : ℕ}
    (he : e0 < 128) (hc : c < 13) (ho : off = ![e0, 16 * c]) {dst : BitVec 32} (hd : dst = wN (e0 * 197 + 16 * c))
    (hs : Packed e0 (16 * c) s) :
    Does i d (packStep i bufA bufH lanes off hoff dst) s
      fun _ s' => s'.a = s.a ∧ s'.b = s.b ∧ Packed e0 (16 * (c + 1)) s' := by
  subst hd
  unfold packStep
  refine Does.bind (loadRow_does ho) ?_
  rintro v s' ⟨rfl, hv⟩
  have hn : ∀ x, (addi (broadcast S16 (wN (e0 * 197 + 16 * c))) lanes x).toNat = e0 * 197 + 16 * c + ln x := fun x => by
    have := ln_lt x
    show (wN (e0 * 197 + 16 * c) + lanes x).toNat = _
    rw [lanes_eq, wN_add, wN_toNat (by omega)]
  refine (writeAt_does fun x => ?_).mono ?_
  · have := ln_lt x
    rw [hn]; omega
  rintro _ s1 ⟨ha, hb, hh⟩
  refine ⟨ha, hb, fun e p h1 h2 h3 => ?_⟩
  rw [ha]
  refine hh _ _ (by omega) (fun l _ hl => ?_) ?_
  · rw [hn] at hl
    have := ln_lt l
    obtain ⟨rfl, rfl⟩ : e = e0 ∧ p = 16 * c + ln l := by omega
    rw [hv]
    exact shapeCast_row (fun n => s'.a (lcell e (16 * c + n))) l
  · by_cases h4 : e < e0 ∨ (e = e0 ∧ p < 16 * c)
    · exact .inl (hs e p h1 h2 h4)
    · right
      refine ⟨Shape.ofLane (d := ![16]) ⟨p - 16 * c, show p - 16 * c < 16 by omega⟩, rfl, ?_⟩
      rw [hn]
      show e0 * 197 + 16 * c + (p - 16 * c) = _
      omega

theorem packTrip_does {s : Bufs F} (k : Fin k0_t1_loop.trips) (hs : Packed k.val 0 s) :
    Does i d (packTrip i bufA bufH lanes k) s
      fun _ s' => s'.a = s.a ∧ Packed (k.val + 1) 0 s' := by
  have hk : k.val < 128 := k.isLt
  have hd : ∀ c : ℕ, Scalar.addi (Scalar.muli (Scf.iv 0#32 1#32 k.val) 197#32) (wN (16 * c)) = wN (k.val * 197 + 16 * c) := fun c => by
    show Scf.iv 0#32 1#32 k.val * wN 197 + wN (16 * c) = _
    rw [iv_eq, wN_mul, wN_add]
  unfold packTrip
  refine Does.bind (packStep_does hk (c := 0) (by decide) (k0_off2_eq k) (hd 0) hs) ?_; rintro _ s1 ⟨a1, _, h1⟩
  refine Does.bind (packStep_does hk (c := 1) (by decide) (k0_off3_eq k) (hd 1) h1) ?_; rintro _ s2 ⟨a2, _, h2⟩
  refine Does.bind (packStep_does hk (c := 2) (by decide) (k0_off4_eq k) (hd 2) h2) ?_; rintro _ s3 ⟨a3, _, h3⟩
  refine Does.bind (packStep_does hk (c := 3) (by decide) (k0_off5_eq k) (hd 3) h3) ?_; rintro _ s4 ⟨a4, _, h4⟩
  refine Does.bind (packStep_does hk (c := 4) (by decide) (k0_off6_eq k) (hd 4) h4) ?_; rintro _ s5 ⟨a5, _, h5⟩
  refine Does.bind (packStep_does hk (c := 5) (by decide) (k0_off7_eq k) (hd 5) h5) ?_; rintro _ s6 ⟨a6, _, h6⟩
  refine Does.bind (packStep_does hk (c := 6) (by decide) (k0_off8_eq k) (hd 6) h6) ?_; rintro _ s7 ⟨a7, _, h7⟩
  refine Does.bind (packStep_does hk (c := 7) (by decide) (k0_off9_eq k) (hd 7) h7) ?_; rintro _ s8 ⟨a8, _, h8⟩
  refine Does.bind (packStep_does hk (c := 8) (by decide) (k0_off10_eq k) (hd 8) h8) ?_; rintro _ s9 ⟨a9, _, h9⟩
  refine Does.bind (packStep_does hk (c := 9) (by decide) (k0_off11_eq k) (hd 9) h9) ?_; rintro _ s10 ⟨a10, _, h10⟩
  refine Does.bind (packStep_does hk (c := 10) (by decide) (k0_off12_eq k) (hd 10) h10) ?_; rintro _ s11 ⟨a11, _, h11⟩
  refine Does.bind (packStep_does hk (c := 11) (by decide) (k0_off13_eq k) (hd 11) h11) ?_; rintro _ s12 ⟨a12, _, h12⟩
  refine Does.bind (packStep_does hk (c := 12) (by decide) (k0_off14_eq k) (hd 12) h12) ?_; rintro _ s13 ⟨a13, _, h13⟩
  refine Does.pure ⟨?_, fun e p he hp h => h13 e p he hp ?_⟩
  · rw [a13, a12, a11, a10, a9, a8, a7, a6, a5, a4, a3, a2, a1]
  · omega

theorem packLoop_does {s : Bufs F} :
    Does i d (packLoop i bufA bufH) s
      fun _ s' => s'.a = s.a ∧ ∀ e p, e < 128 → p < 196 → s'.h (cell (e * 197 + p)) = s.a (lcell e p) := by
  unfold packLoop
  refine (Does.loop (fun k _ s' => s'.a = s.a ∧ Packed k 0 s') ⟨rfl, fun e p _ _ h => ?_⟩ ?_).mono ?_
  · omega
  · rintro k _ s' ⟨ha, hp⟩
    exact (packTrip_does k hp).mono fun _ s1 h => ⟨h.1.trans ha, h.2⟩
  · rintro _ s' ⟨ha, hp⟩
    have hk : k0_t1_loop.trips = 128 := by decide
    rw [hk] at hp
    exact ⟨ha, fun e p he hp' => by rw [hp e p he hp' (.inl he), ha]⟩

/-! ## The suppression -/

/-- Group `g`'s rows of `h` are those of `f` with the first `n` cells around each row's `m` cleared; the others are
    those of `f`. -/
def Cleared (g : ℕ) (m : ℕ → ℕ) (n : ℕ) (f h : S25232.Idx → F .f32) : Prop :=
  ∀ e p, e < 128 → p < 196 → h (cell (e * 197 + p)) = if e / 16 = g ∧ Near n (m e) p then zero1 else f (cell (e * 197 + p))

theorem near_succ {k c m p : ℕ} (hm : m < 196) (hp : p < 196) (hk : k < 10) (hc : c < 10) :
    Near (10 * k + c + 1) m p ↔ Near (10 * k + c) m p ∨
      ((5 ≤ m / 14 + k ∧ m / 14 + k < 19) ∧ (5 ≤ m % 14 + c ∧ m % 14 + c < 19)
        ∧ p = (m / 14 + k - 5) * 14 + (m % 14 + c - 5)) := by
  have h1 : p = p / 14 * 14 + p % 14 := by omega
  have h2 : p % 14 < 14 := Nat.mod_lt _ (by decide)
  have h3 : m % 14 < 14 := Nat.mod_lt _ (by decide)
  have h4 : p / 14 < 14 := by omega
  have h5 : m / 14 < 14 := by omega
  unfold Near
  generalize p / 14 = a at *
  generalize p % 14 = b at *
  generalize m / 14 = u at *
  generalize m % 14 = v at *
  subst h1
  constructor
  · intro h
    by_cases hh : (a + 5 - u) * 10 + (b + 5 - v) < 10 * k + c
    · left; omega
    · right
      have hk' : a + 5 - u = k := by omega
      have hc' : b + 5 - v = c := by omega
      refine ⟨by omega, by omega, ?_⟩
      have e1 : u + k - 5 = a := by omega
      have e2 : v + c - 5 = b := by omega
      rw [e1, e2]
  · rintro (h | h)
    · omega
    · have e1 : u + k - 5 = a := by omega
      have e2 : v + c - 5 = b := by omega
      omega

theorem bits_and (P Q : Prop) [Decidable P] [Decidable Q] :
    BitVec.ofBool (decide P) &&& BitVec.ofBool (decide Q) = 1#1 ↔ P ∧ Q := by
  by_cases hP : P <;> by_cases hQ : Q <;> simp [hP, hQ]

theorem supStep_does {s : Bufs F} {f : S25232.Idx → F .f32} {g k c : ℕ} {m : ℕ → ℕ} {ci row y : WV} {okx : BV} {w : BitVec 32}
    (hg : g < 8) (hk : k < 10) (hc : c < 10) (hw : w = Scalar.subi (wN c) 5#32) (hm : ∀ e, m e < 196)
    (hci : ∀ x, ci x = wN ((16 * g + ln x) * 197 + m (16 * g + ln x)))
    (hrow : ∀ x, row x = ci x + Scalar.subi (wN k) 5#32 * 14#32)
    (hokx : ∀ x, okx x = BitVec.ofBool (decide (5 ≤ m (16 * g + ln x) / 14 + k ∧ m (16 * g + ln x) / 14 + k < 19)))
    (hy : ∀ x, y x = wN (m (16 * g + ln x) % 14)) (hs : Cleared g m (10 * k + c) f s.h) :
    Does i d (supStep i bufH zeros ci row okx y w) s
      fun _ s' => s'.a = s.a ∧ s'.b = s.b ∧ Cleared g m (10 * k + (c + 1)) f s'.h := by
  subst hw
  have hon : ∀ x, andi okx (onMap y (Scalar.subi (wN c) 5#32)) x = 1 ↔
      ((5 ≤ m (16 * g + ln x) / 14 + k ∧ m (16 * g + ln x) / 14 + k < 19)
        ∧ (5 ≤ m (16 * g + ln x) % 14 + c ∧ m (16 * g + ln x) % 14 + c < 19)) := fun x => by
    show okx x &&& onMap y (Scalar.subi (wN c) 5#32) x = 1#1 ↔ _
    rw [hokx, onMap_row (Nat.mod_lt _ (by decide)) hc (hy x)]
    exact bits_and _ _
  have hn : ∀ x, (select (andi okx (onMap y (Scalar.subi (wN c) 5#32))) (addi row (broadcast S16 (Scalar.subi (wN c) 5#32))) ci x).toNat
      = (16 * g + ln x) * 197 + if (5 ≤ m (16 * g + ln x) / 14 + k ∧ m (16 * g + ln x) / 14 + k < 19)
        ∧ (5 ≤ m (16 * g + ln x) % 14 + c ∧ m (16 * g + ln x) % 14 + c < 19)
        then (m (16 * g + ln x) / 14 + k - 5) * 14 + (m (16 * g + ln x) % 14 + c - 5) else m (16 * g + ln x) := fun x => by
    have hl := ln_lt x
    have hmx := hm (16 * g + ln x)
    show (if andi okx (onMap y (Scalar.subi (wN c) 5#32)) x = 1 then row x + Scalar.subi (wN c) 5#32 else ci x).toNat = _
    simp only [hon]
    split
    · rename_i h
      rw [hrow, hci, near_place (by omega) hmx h.1 h.2, wN_toNat (by omega)]
      omega
    · rw [hci, wN_toNat (by omega)]
  unfold supStep
  refine (writeAt_does fun x => ?_).mono ?_
  · have hl := ln_lt x
    have hmx := hm (16 * g + ln x)
    rw [hn]
    split <;> omega
  rintro _ s1 ⟨ha, hb, hh⟩
  refine ⟨ha, hb, fun e p he hp => ?_⟩
  refine hh _ _ (by omega) (fun l hl hx => ?_) ?_
  · rw [hon] at hl
    rw [hn, if_pos hl] at hx
    have hl' := ln_lt l
    have hmx := hm (16 * g + ln l)
    obtain ⟨h1, h2⟩ : e = 16 * g + ln l ∧ p = (m (16 * g + ln l) / 14 + k - 5) * 14 + (m (16 * g + ln l) % 14 + c - 5) := by omega
    have hnear : Near (10 * k + (c + 1)) (m e) p := by
      rw [← Nat.add_assoc, near_succ (hm e) hp hk hc]
      right
      rw [h1]
      exact ⟨hl.1, hl.2, h2⟩
    rw [if_pos ⟨by omega, hnear⟩]
    rfl
  · rw [hs e p he hp, ← Nat.add_assoc]
    by_cases h : e / 16 = g ∧ Near (10 * k + c + 1) (m e) p
    · by_cases h' : Near (10 * k + c) (m e) p
      · left; rw [if_pos h, if_pos ⟨h.1, h'⟩]
      · right
        have h2 := ((near_succ (hm e) hp hk hc).mp h.2).resolve_left h'
        have he' : 16 * g + e % 16 = e := by omega
        have hln : 16 * g + ln (Shape.ofLane (d := ![16]) ⟨e % 16, Nat.mod_lt _ (by decide)⟩) = e := he'
        refine ⟨Shape.ofLane (d := ![16]) ⟨e % 16, Nat.mod_lt _ (by decide)⟩, (hon _).mpr ?_, ?_⟩
        · rw [hln]; exact ⟨h2.1, h2.2.1⟩
        · rw [hn, hln, if_pos ⟨h2.1, h2.2.1⟩, ← h2.2.2]
    · left
      rw [if_neg h, if_neg]
      rintro ⟨h1, h2⟩
      exact h ⟨h1, (near_succ (hm e) hp hk hc).mpr (.inl h2)⟩

theorem supTrip_does {s : Bufs F} {f : S25232.Idx → F .f32} {g k : ℕ} {m : ℕ → ℕ} {ci xv yv : WV}
    (hg : g < 8) (hk : k < 10) (hm : ∀ e, m e < 196)
    (hci : ∀ x, ci x = wN ((16 * g + ln x) * 197 + m (16 * g + ln x)))
    (hxv : ∀ x, xv x = wN (m (16 * g + ln x) / 14)) (hyv : ∀ x, yv x = wN (m (16 * g + ln x) % 14))
    (hs : Cleared g m (10 * k) f s.h) :
    Does i d (supTrip i bufH zeros ci xv yv k) s
      fun _ s' => s'.a = s.a ∧ s'.b = s.b ∧ Cleared g m (10 * (k + 1)) f s'.h := by
  have hrow : ∀ x, addi ci (broadcast S16 (Scalar.muli (Scalar.subi (Scf.iv 0#32 1#32 k) 5#32) 14#32)) x
      = ci x + Scalar.subi (wN k) 5#32 * 14#32 := fun x => by rw [iv_eq]; rfl
  have hokx : ∀ x, onMap xv (Scalar.subi (Scf.iv 0#32 1#32 k) 5#32) x
      = BitVec.ofBool (decide (5 ≤ m (16 * g + ln x) / 14 + k ∧ m (16 * g + ln x) / 14 + k < 19)) := fun x => by
    rw [iv_eq]
    exact onMap_row (by have := hm (16 * g + ln x); omega) hk (hxv x)
  have step : ∀ {s : Bufs F} (c : ℕ) (w : BitVec 32), c < 10 → w = Scalar.subi (wN c) 5#32 → Cleared g m (10 * k + c) f s.h →
      Does i d (supStep i bufH zeros ci (addi ci (broadcast S16 (Scalar.muli (Scalar.subi (Scf.iv 0#32 1#32 k) 5#32) 14#32)))
        (onMap xv (Scalar.subi (Scf.iv 0#32 1#32 k) 5#32)) yv w) s
      fun _ s' => s'.a = s.a ∧ s'.b = s.b ∧ Cleared g m (10 * k + (c + 1)) f s'.h :=
    fun c w hc hw hs => supStep_does hg hk hc hw hm hci hrow hokx hyv hs
  unfold supTrip
  refine Does.bind (step 0 _ (by decide) rfl hs) ?_; rintro _ s1 ⟨a1, b1, h1⟩
  refine Does.bind (step 1 _ (by decide) rfl h1) ?_; rintro _ s2 ⟨a2, b2, h2⟩
  refine Does.bind (step 2 _ (by decide) rfl h2) ?_; rintro _ s3 ⟨a3, b3, h3⟩
  refine Does.bind (step 3 _ (by decide) rfl h3) ?_; rintro _ s4 ⟨a4, b4, h4⟩
  refine Does.bind (step 4 _ (by decide) rfl h4) ?_; rintro _ s5 ⟨a5, b5, h5⟩
  refine Does.bind (step 5 _ (by decide) rfl h5) ?_; rintro _ s6 ⟨a6, b6, h6⟩
  refine Does.bind (step 6 _ (by decide) rfl h6) ?_; rintro _ s7 ⟨a7, b7, h7⟩
  refine Does.bind (step 7 _ (by decide) rfl h7) ?_; rintro _ s8 ⟨a8, b8, h8⟩
  refine Does.bind (step 8 _ (by decide) rfl h8) ?_; rintro _ s9 ⟨a9, b9, h9⟩
  refine Does.bind (step 9 _ (by decide) rfl h9) ?_; rintro _ s10 ⟨a10, b10, h10⟩
  refine Does.pure ⟨?_, ?_, h10⟩
  · rw [a10, a9, a8, a7, a6, a5, a4, a3, a2, a1]
  · rw [b10, b9, b8, b7, b6, b5, b4, b3, b2, b1]

theorem supLoop_does {s : Bufs F} {g : ℕ} {m : ℕ → ℕ} {ci mv : WV} (hg : g < 8) (hm : ∀ e, m e < 196)
    (hci : ∀ x, ci x = wN ((16 * g + ln x) * 197 + m (16 * g + ln x))) (hmv : ∀ x, mv x = wN (m (16 * g + ln x))) :
    Does i d (supLoop i bufH ci mv) s
      fun _ s' => s'.a = s.a ∧ s'.b = s.b ∧ Cleared g m 100 s.h s'.h := by
  unfold supLoop
  refine (Does.loop (fun k _ s' => s'.a = s.a ∧ s'.b = s.b ∧ Cleared g m (10 * k) s.h s'.h) ⟨rfl, rfl, fun e p _ _ => ?_⟩ ?_).mono ?_
  · rw [if_neg]
    rintro ⟨_, h⟩
    exact absurd h.2.2.2.2 (Nat.not_lt_zero _)
  · rintro k _ s' ⟨ha, hb, hh⟩
    refine (supTrip_does hg k.isLt hm hci (fun x => div14_eq (hm _) (hmv x)) (fun x => mod14_eq (hm _) (hmv x)) hh).mono ?_
    rintro _ s1 ⟨h1, h2, h3⟩
    exact ⟨h1.trans ha, h2.trans hb, h3⟩
  · exact fun _ s' h => h

/-! ## The walk -/

/-- The cell that lane `x` looks at after `n` steps, and what the kernel holds for it. -/
def walkAt (n : ℕ) : WV × WV := (fun x => wN (13 * (ln x + n) % 196 / 14), fun x => wN (13 * (ln x + n) % 196 % 14))

theorem nextCell_word : ∀ q : Fin 196, (nextCell ((fun _ => wN (q.val / 14)), (fun _ => wN (q.val % 14)))).1 lane0 = wN ((q.val + 13) % 196 / 14)
    ∧ (nextCell ((fun _ => wN (q.val / 14)), (fun _ => wN (q.val % 14)))).2 lane0 = wN ((q.val + 13) % 196 % 14) := by
  decide +kernel

theorem nextCell_walk (n : ℕ) : nextCell (walkAt n) = walkAt (n + 1) := by
  have key : ∀ x, ∃ q : Fin 196, q.val = 13 * (ln x + n) % 196 ∧ (q.val + 13) % 196 = 13 * (ln x + (n + 1)) % 196 :=
    fun x => ⟨⟨13 * (ln x + n) % 196, Nat.mod_lt _ (by decide)⟩, rfl, by show (13 * (ln x + n) % 196 + 13) % 196 = _; omega⟩
  refine Prod.ext (funext fun x => ?_) (funext fun x => ?_)
  · obtain ⟨q, h1, h2⟩ := key x
    refine Eq.trans ?_ ((nextCell_word q).1.trans ?_)
    · rw [h1]; rfl
    · rw [h2]; rfl
  · obtain ⟨q, h1, h2⟩ := key x
    refine Eq.trans ?_ ((nextCell_word q).2.trans ?_)
    · rw [h1]; rfl
    · rw [h2]; rfl

theorem walk_first : (div14 (muli (broadcast S16 13#32) lanes), mod14 (muli (broadcast S16 13#32) lanes)) = walkAt 0 := by
  have h : ∀ x, muli (broadcast S16 13#32) lanes x = wN (13 * (ln x + 0) % 196) := fun x => by
    have := ln_lt x
    show wN 13 * lanes x = _
    rw [lanes_eq, wN_mul, Nat.mod_eq_of_lt (by omega)]
    rfl
  exact Prod.ext (funext fun x => div14_eq (Nat.mod_lt _ (by decide)) (h x)) (funext fun x => mod14_eq (Nat.mod_lt _ (by decide)) (h x))

/-- A landing buffer after `n` steps of group `g`'s walk: the other groups' rows are those of `f`, and the cells walked
    over hold `M`. -/
def Walked (g n : ℕ) (M : ℕ → ℕ → F .f32) (f a : S128x256.Idx → F .f32) : Prop :=
  (∀ e p, e < 128 → p < 196 → e / 16 ≠ g → a (lcell e p) = f (lcell e p))
    ∧ ∀ e n', e < 128 → e / 16 = g → n' < n → a (lcell e (13 * (e % 16 + n') % 196)) = M e (13 * (e % 16 + n') % 196)

theorem Walked.step {g n : ℕ} (hg : g < 8) {M : ℕ → ℕ → F .f32} {f a a' : S128x256.Idx → F .f32} (h : Walked g n M f a)
    {e p : WV} {x : FV F} (he : ∀ l, (e l).toNat = 16 * g + ln l) (hp : ∀ l, (p l).toNat = 13 * (ln l + n) % 196)
    (hx : ∀ l, x l = M (16 * g + ln l) (13 * (ln l + n) % 196)) (hs : Scat2 a e p x a') : Walked g (n + 1) M f a' := by
  refine ⟨fun r q hr hq hne => ?_, fun r n' hr hgr hn => ?_⟩
  · refine hs r q _ hr (by omega) (fun l h1 _ => ?_) (.inl (h.1 r q hr hq hne))
    rw [he] at h1
    have := ln_lt l
    omega
  · have hq : 13 * (r % 16 + n') % 196 < 196 := Nat.mod_lt _ (by decide)
    refine hs r _ _ hr (by omega) (fun l h1 h2 => ?_) ?_
    · rw [he] at h1
      rw [hp] at h2
      rw [hx, h1, h2]
    · by_cases hlt : n' < n
      · exact .inl (h.2 r n' hr hgr hlt)
      · right
        obtain rfl : n' = n := by omega
        refine ⟨Shape.ofLane (d := ![16]) ⟨r % 16, Nat.mod_lt _ (by decide)⟩, ?_, ?_⟩
        · rw [he]
          show 16 * g + r % 16 = r
          omega
        · rw [hp]; rfl

theorem walkStep_does {s : Bufs F} {fa fb : S128x256.Idx → F .f32} {g n : ℕ} (hg : g < 8) {M : ℕ → ℕ → F .f32} {ax ay kk : WV}
    (hM : ∀ n x, nearer zeros ones ax ay kk (walkAt n) x = M (16 * g + ln x) (13 * (ln x + n) % 196))
    (hs : Walked g n M fa s.a ∧ Walked g n (fun e p => FloatOps.subf one1 (M e p)) fb s.b) :
    Does i d (walkStep i bufA bufB zeros ones (rowsOf g) ax ay kk (walkAt n)) s
      fun _ s' => s'.h = s.h ∧ Walked g (n + 1) M fa s'.a ∧ Walked g (n + 1) (fun e p => FloatOps.subf one1 (M e p)) fb s'.b := by
  have he : ∀ l, (rowsOf g l).toNat = 16 * g + ln l := fun l => by
    have := ln_lt l
    rw [rowsOf_eq, wN_toNat (by omega)]
  have hp : ∀ l, (placeOf (walkAt n) l).toNat = 13 * (ln l + n) % 196 := fun l => by
    have h : 13 * (ln l + n) % 196 < 196 := Nat.mod_lt _ (by decide)
    show (wN (13 * (ln l + n) % 196 / 14) * wN 14 + wN (13 * (ln l + n) % 196 % 14)).toNat = _
    rw [wN_mul, wN_add, wN_toNat (by omega)]
    omega
  unfold walkStep
  refine (writeMaps_does (fun l => ?_) (fun l => ?_)).mono ?_
  · have := ln_lt l
    rw [he]; omega
  · have h : 13 * (ln l + n) % 196 < 196 := Nat.mod_lt _ (by decide)
    rw [hp]; omega
  rintro _ s' ⟨h0, h1, h2⟩
  exact ⟨h0, hs.1.step hg he hp (hM n) h1, hs.2.step hg he hp (fun l => congrArg (FloatOps.subf one1) (hM n l)) h2⟩

theorem walkTrip_does {s : Bufs F} {fa fb : S128x256.Idx → F .f32} {g n : ℕ} (hg : g < 8) {M : ℕ → ℕ → F .f32} {ax ay kk : WV}
    (hM : ∀ n x, nearer zeros ones ax ay kk (walkAt n) x = M (16 * g + ln x) (13 * (ln x + n) % 196))
    (hs : Walked g n M fa s.a ∧ Walked g n (fun e p => FloatOps.subf one1 (M e p)) fb s.b) :
    Does i d (walkTrip i bufA bufB zeros ones (rowsOf g) ax ay kk (walkAt n)) s
      fun p s' => p = walkAt (n + 14) ∧ s'.h = s.h ∧ Walked g (n + 14) M fa s'.a ∧ Walked g (n + 14) (fun e p => FloatOps.subf one1 (M e p)) fb s'.b := by
  unfold walkTrip
  simp only [nextCell_walk]
  refine Does.bind (walkStep_does hg hM hs) ?_; rintro _ s1 ⟨e1, h1⟩
  refine Does.bind (walkStep_does hg hM h1) ?_; rintro _ s2 ⟨e2, h2⟩
  refine Does.bind (walkStep_does hg hM h2) ?_; rintro _ s3 ⟨e3, h3⟩
  refine Does.bind (walkStep_does hg hM h3) ?_; rintro _ s4 ⟨e4, h4⟩
  refine Does.bind (walkStep_does hg hM h4) ?_; rintro _ s5 ⟨e5, h5⟩
  refine Does.bind (walkStep_does hg hM h5) ?_; rintro _ s6 ⟨e6, h6⟩
  refine Does.bind (walkStep_does hg hM h6) ?_; rintro _ s7 ⟨e7, h7⟩
  refine Does.bind (walkStep_does hg hM h7) ?_; rintro _ s8 ⟨e8, h8⟩
  refine Does.bind (walkStep_does hg hM h8) ?_; rintro _ s9 ⟨e9, h9⟩
  refine Does.bind (walkStep_does hg hM h9) ?_; rintro _ s10 ⟨e10, h10⟩
  refine Does.bind (walkStep_does hg hM h10) ?_; rintro _ s11 ⟨e11, h11⟩
  refine Does.bind (walkStep_does hg hM h11) ?_; rintro _ s12 ⟨e12, h12⟩
  refine Does.bind (walkStep_does hg hM h12) ?_; rintro _ s13 ⟨e13, h13⟩
  refine Does.bind (walkStep_does hg hM h13) ?_; rintro _ s14 ⟨e14, h14⟩
  refine Does.pure ⟨rfl, ?_, h14⟩
  rw [e14, e13, e12, e11, e10, e9, e8, e7, e6, e5, e4, e3, e2, e1]

/-- The walk passes over every cell. -/
theorem walk_covers {r p : ℕ} (hr : r < 16) (hp : p < 196) : ∃ n < 196, 13 * (r + n) % 196 = p :=
  ⟨(181 * p + 196 - r) % 196, Nat.mod_lt _ (by decide), by omega⟩

/-- A landing buffer when group `g` is done. -/
def Mapped (g : ℕ) (M : ℕ → ℕ → F .f32) (f a : S128x256.Idx → F .f32) : Prop :=
  ∀ e p, e < 128 → p < 196 → a (lcell e p) = if e / 16 = g then M e p else f (lcell e p)

theorem Walked.mapped {g : ℕ} {M : ℕ → ℕ → F .f32} {f a : S128x256.Idx → F .f32} (h : Walked g 196 M f a) : Mapped g M f a := by
  intro e p he hp
  split
  · rename_i hg
    obtain ⟨n, hn, rfl⟩ := walk_covers (r := e % 16) (Nat.mod_lt _ (by decide)) hp
    exact h.2 e n he hg hn
  · rename_i hg
    exact h.1 e p he hp hg

theorem walkLoop_does {s : Bufs F} {g : ℕ} (hg : g < 8) {M : ℕ → ℕ → F .f32} {ax ay kk : WV}
    (hM : ∀ n x, nearer zeros ones ax ay kk (walkAt n) x = M (16 * g + ln x) (13 * (ln x + n) % 196)) :
    Does i d (walkLoop i bufA bufB (rowsOf g) ax ay kk) s
      fun _ s' => s'.h = s.h ∧ Mapped g M s.a s'.a ∧ Mapped g (fun e p => FloatOps.subf one1 (M e p)) s.b s'.b := by
  unfold walkLoop
  rw [walk_first]
  refine (Does.loop (fun k p s' => p = walkAt (14 * k) ∧ s'.h = s.h ∧ Walked g (14 * k) M s.a s'.a
      ∧ Walked g (14 * k) (fun e p => FloatOps.subf one1 (M e p)) s.b s'.b) ⟨rfl, rfl, ?_, ?_⟩ ?_).mono ?_
  · exact ⟨fun _ _ _ _ _ => rfl, fun _ _ _ _ h => absurd h (Nat.not_lt_zero _)⟩
  · exact ⟨fun _ _ _ _ _ => rfl, fun _ _ _ _ h => absurd h (Nat.not_lt_zero _)⟩
  · rintro k p s' ⟨rfl, hh, h⟩
    exact (walkTrip_does hg hM h).mono fun _ s1 h1 => ⟨h1.1, h1.2.1.trans hh, h1.2.2⟩
  · rintro p s' ⟨_, hh, h1, h2⟩
    exact ⟨hh, h1.mapped, h2.mapped⟩

end Cert.KernelIdeal.Hand
-- ==== Proof.Group.lean ====
/-
  The farthest two of the four picks lane by lane, one group of rows from its scans to its maps, and all the groups.
-/
module

public import proofs.«01_k».proof.Proof.Rows

@[expose] public section

noncomputable section

namespace Cert.KernelIdeal.Hand

open Cert.KernelIdeal Cert.KernelIdeal.Gen
open Idealize.ShloMosaic Idealize.SL.Sem

variable {F : FTy → Type} [FloatOps F] {i : grid0.Coords} {d : Dev nD} [Facts]

/-! ## The farthest two -/

theorem wI_add (a b : ℤ) : wI a + wI b = wI (a + b) := (BitVec.ofInt_add a b).symm
theorem wI_mul (a b : ℤ) : wI a * wI b = wI (a * b) := (BitVec.ofInt_mul a b).symm
theorem wI_sub (a b : ℤ) : wI a - wI b = wI (a - b) := by
  rw [eq_comm, BitVec.eq_sub_iff_add_eq, wI_add, Int.sub_add_cancel]
theorem wI_nat (n : ℕ) : wI (n : ℤ) = wN n := BitVec.ofInt_natCast 32 n

/-- Lane `x` of `p` stands for `q`. -/
structure Stands (p : Pair) (q : PairS) (x : S16.Idx) : Prop where
  d : p.d x = wI q.d
  x1 : p.x1 x = wI q.x1
  y1 : p.y1 x = wI q.y1
  x2 : p.x2 x = wI q.x2
  y2 : p.y2 x = wI q.y2

theorem Stands.try {p : Pair} {q : PairS} {x : S16.Idx} (h : Stands p q x) (hq : q.OnMap) {xa ya xb yb : WV} {a b c e : ℤ}
    (ha : xa x = wI a) (hb : ya x = wI b) (hc : xb x = wI c) (he : yb x = wI e)
    (h1 : 0 ≤ a ∧ a < 14) (h2 : 0 ≤ b ∧ b < 14) (h3 : 0 ≤ c ∧ c < 14) (h4 : 0 ≤ e ∧ e < 14) :
    Stands (p.try xa ya xb yb) (q.try a b c e) x ∧ (q.try a b c e).OnMap := by
  refine ⟨?_, hq.try h1 h2 h3 h4⟩
  have hd : sqDist xa ya xb yb x = wI (dist2 a b c e) := by
    show (xb x - xa x) * (xb x - xa x) + (yb x - ya x) * (yb x - ya x) = _
    rw [ha, hb, hc, he, wI_sub, wI_sub, wI_mul, wI_mul, wI_add]
    rfl
  have hcmp : cmpi .sgt (sqDist xa ya xb yb) p.d x = BitVec.ofBool (decide (q.d < dist2 a b c e)) := by
    have hb2 := dist2_bd h1 h2 h3 h4
    have h5 := hq.d0
    have h6 := hq.d1
    show BitVec.ofBool ((p.d x).slt (sqDist xa ya xb yb x)) = _
    rw [h.d, hd, slt_wI (by omega) (by omega)]
  have hsel : ∀ {u v : WV} {y z : ℤ}, u x = wI y → v x = wI z →
      select (cmpi .sgt (sqDist xa ya xb yb) p.d) u v x = wI (if q.d < dist2 a b c e then y else z) := by
    intro u v y z hu hv
    show (if cmpi .sgt (sqDist xa ya xb yb) p.d x = 1 then u x else v x) = _
    rw [hcmp, hu, hv]
    by_cases hlt : q.d < dist2 a b c e <;> simp [hlt]
  unfold Pair.try PairS.try
  refine ⟨?_, ?_, ?_, ?_, ?_⟩
  · refine (hsel hd h.d).trans (congrArg wI ?_); split <;> rfl
  · refine (hsel ha h.x1).trans (congrArg wI ?_); split <;> rfl
  · refine (hsel hb h.y1).trans (congrArg wI ?_); split <;> rfl
  · refine (hsel hc h.x2).trans (congrArg wI ?_); split <;> rfl
  · refine (hsel he h.y2).trans (congrArg wI ?_); split <;> rfl

theorem farthest_stands {m0 m1 m2 m3 : WV} {x : S16.Idx} {n0 n1 n2 n3 : ℕ} (b0 : n0 < 196) (b1 : n1 < 196) (b2 : n2 < 196)
    (b3 : n3 < 196) (h0 : m0 x = wN n0) (h1 : m1 x = wN n1) (h2 : m2 x = wN n2) (h3 : m3 x = wN n3) :
    Stands (farthest m0 m1 m2 m3) (farS n0 n1 n2 n3) x := by
  have hx : ∀ {m : WV} {n : ℕ}, n < 196 → m x = wN n → div14 m x = wI (px n) := fun hn hm => by
    rw [div14_eq hn hm, px, wI_nat]
  have hy : ∀ {m : WV} {n : ℕ}, n < 196 → m x = wN n → mod14 m x = wI (py n) := fun hn hm => by
    rw [mod14_eq hn hm, py, wI_nat]
  have s0 : Stands (Pair.mk (broadcast S16 4294967295#32) (div14 m0) (mod14 m0) (div14 m1) (mod14 m1))
      (PairS.mk (-1) (px n0) (py n0) (px n1) (py n1)) x :=
    ⟨by show 4294967295#32 = wI (-1); decide, hx b0 h0, hy b0 h0, hx b1 h1, hy b1 h1⟩
  have o0 : (PairS.mk (-1) (px n0) (py n0) (px n1) (py n1)).OnMap := ⟨le_rfl, by norm_num, px_bd b0, py_bd _, px_bd b1, py_bd _⟩
  obtain ⟨s1, o1⟩ := s0.try o0 (hx b0 h0) (hy b0 h0) (hx b1 h1) (hy b1 h1) (px_bd b0) (py_bd _) (px_bd b1) (py_bd _)
  obtain ⟨s2, o2⟩ := s1.try o1 (hx b0 h0) (hy b0 h0) (hx b2 h2) (hy b2 h2) (px_bd b0) (py_bd _) (px_bd b2) (py_bd _)
  obtain ⟨s3, o3⟩ := s2.try o2 (hx b0 h0) (hy b0 h0) (hx b3 h3) (hy b3 h3) (px_bd b0) (py_bd _) (px_bd b3) (py_bd _)
  obtain ⟨s4, o4⟩ := s3.try o3 (hx b1 h1) (hy b1 h1) (hx b2 h2) (hy b2 h2) (px_bd b1) (py_bd _) (px_bd b2) (py_bd _)
  obtain ⟨s5, o5⟩ := s4.try o4 (hx b1 h1) (hy b1 h1) (hx b3 h3) (hy b3 h3) (px_bd b1) (py_bd _) (px_bd b3) (py_bd _)
  exact (s5.try o5 (hx b2 h2) (hy b2 h2) (hx b3 h3) (hy b3 h3) (px_bd b2) (py_bd _) (px_bd b3) (py_bd _)).1

theorem mul_bd {a b : ℤ} (ha : 0 ≤ a ∧ a < 14) (hb : -26 ≤ b ∧ b ≤ 26) : -400 ≤ a * b ∧ a * b ≤ 400 := by
  constructor <;> nlinarith [ha.1, ha.2, hb.1, hb.2]

/-- Which point a cell is nearer to, lane by lane. -/
theorem nearer_eq {p : Pair} {q : PairS} {x : S16.Idx} (h : Stands p q x) (hq : q.OnMap) {c : WV × WV} {n : ℕ} (hn : n < 196)
    (h1 : c.1 x = wN (n / 14)) (h2 : c.2 x = wN (n % 14)) :
    nearer (F := F) zeros ones p.ax p.ay p.kk c x = if q.First n then one1 else zero1 := by
  have hax : p.ax x = wI q.ax := by
    show wI 2 * (p.x2 x - p.x1 x) = _
    rw [h.x2, h.x1, wI_sub, wI_mul]; rfl
  have hay : p.ay x = wI q.ay := by
    show wI 2 * (p.y2 x - p.y1 x) = _
    rw [h.y2, h.y1, wI_sub, wI_mul]; rfl
  have hkk : p.kk x = wI q.kk := by
    show p.x2 x * p.x2 x + p.y2 x * p.y2 x - p.x1 x * p.x1 x - p.y1 x * p.y1 x = _
    rw [h.x2, h.x1, h.y1, h.y2]
    simp only [wI_mul, wI_add, wI_sub]
    rfl
  have bx := px_bd hn
  have by' := py_bd n
  have b1 := mul_bd bx (b := q.ax) (by have := hq.x1; have := hq.x2; unfold PairS.ax; omega)
  have b2 := mul_bd by' (b := q.ay) (by have := hq.y1; have := hq.y2; unfold PairS.ay; omega)
  have b3 : -400 ≤ q.kk ∧ q.kk ≤ 400 := by
    have e1 := sq_bd (a := q.x1) (by have := hq.x1; omega)
    have e2 := sq_bd (a := q.y1) (by have := hq.y1; omega)
    have e3 := sq_bd (a := q.x2) (by have := hq.x2; omega)
    have e4 := sq_bd (a := q.y2) (by have := hq.y2; omega)
    unfold PairS.kk
    omega
  have hc : cmpi .slt (subi (addi (muli c.1 p.ax) (muli c.2 p.ay)) p.kk) (broadcast S16 0#32) x
      = BitVec.ofBool (decide (q.First n)) := by
    show BitVec.ofBool ((c.1 x * p.ax x + c.2 x * p.ay x - p.kk x).slt (wI 0)) = _
    rw [h1, h2, hax, hay, hkk, ← wI_nat, ← wI_nat, wI_mul, wI_mul, wI_add, wI_sub]
    rw [slt_wI (by unfold px at b1; unfold py at b2; omega) (by omega)]
    rfl
  show (if cmpi .slt (subi (addi (muli c.1 p.ax) (muli c.2 p.ay)) p.kk) (broadcast S16 0#32) x = 1 then (one1 : F .f32) else zero1) = _
  rw [hc]
  by_cases hf : q.First n <;> simp [hf]

/-! ## One group -/

/-- From group `g` on, the heat buffer's rows: those of group `g` before its `n`-th scan, the later ones as they came. -/
def Stage (R : ℕ → ℕ → F .f32) (g n : ℕ) (h : S25232.Idx → F .f32) : Prop :=
  ∀ e p, e < 128 → p < 196 → 16 * g ≤ e → h (cell (e * 197 + p)) = if e / 16 = g then rowS (R e) n p else R e p

theorem Stage.pick {R : ℕ → ℕ → F .f32} {g n : ℕ} {h : S25232.Idx → F .f32} (hg : g < 8) (hs : Stage R g n h) (x : S16.Idx) :
    pickS (rowFrom h ((16 * g + ln x) * 197)) = pickN (R (16 * g + ln x)) n := by
  have hl := ln_lt x
  refine pickS_congr fun p hp => ?_
  show h (cell ((16 * g + ln x) * 197 + p)) = _
  rw [hs _ p (by omega) hp (by omega), if_pos (by omega)]

theorem Stage.clear {R : ℕ → ℕ → F .f32} {g n : ℕ} {h h' : S25232.Idx → F .f32} (hs : Stage R g n h)
    (hc : Cleared g (fun e => pickN (R e) n) 100 h h') : Stage R g (n + 1) h' := by
  intro e p he hp hge
  rw [hc e p he hp, hs e p he hp hge]
  by_cases h1 : e / 16 = g
  · simp only [h1, true_and, if_true]
    rfl
  · simp only [h1, false_and, if_false]

theorem base_fits {g : ℕ} (hg : g < 8) (x : S16.Idx) : (16 * g + ln x) * 197 + 196 ≤ 25232 := by
  have := ln_lt x
  omega

/-- The scan of stage `n`. -/
theorem scanStage_does {R : ℕ → ℕ → F .f32} {g n : ℕ} {s : Bufs F} (hg : g < 8) (hs : Stage R g n s.h) :
    Does i d (scanLoop i bufH (baseOf g)) s fun r s' => s' = s
      ∧ (∀ x, pickOf r x = wN ((16 * g + ln x) * 197 + pickN (R (16 * g + ln x)) n))
      ∧ ∀ x, subi (pickOf r) (baseOf g) x = wN (pickN (R (16 * g + ln x)) n) := by
  refine (scanLoop_does (base_fits hg) (baseOf_eq g)).mono ?_
  rintro r s' ⟨rfl, hr⟩
  have hp : ∀ x, pickOf r x = wN ((16 * g + ln x) * 197 + pickN (R (16 * g + ln x)) n) := fun x => by
    rw [pickOf_eq (base_fits hg) hr x, hs.pick hg]
  refine ⟨rfl, hp, fun x => ?_⟩
  show pickOf r x - baseOf g x = _
  rw [hp, baseOf_eq, wN_sub (by omega), Nat.add_sub_cancel_left]

/-- The suppression of stage `n`. -/
theorem supStage_does {R : ℕ → ℕ → F .f32} {g n : ℕ} {s : Bufs F} {ci mv : WV} (hg : g < 8) (hs : Stage R g n s.h)
    (hci : ∀ x, ci x = wN ((16 * g + ln x) * 197 + pickN (R (16 * g + ln x)) n))
    (hmv : ∀ x, mv x = wN (pickN (R (16 * g + ln x)) n)) :
    Does i d (supLoop i bufH ci mv) s fun _ s' => s'.a = s.a ∧ s'.b = s.b ∧ Stage R g (n + 1) s'.h :=
  (supLoop_does (m := fun e => pickN (R e) n) hg (fun e => pickN_lt _ n) hci hmv).mono fun _ _ h =>
    ⟨h.1, h.2.1, hs.clear h.2.2⟩

theorem groupTrip_does {R : ℕ → ℕ → F .f32} {g : ℕ} {s : Bufs F} (hg : g < 8) (hs : Stage R g 0 s.h) :
    Does i d (groupTrip i bufA bufB bufH g) s fun _ s' => Stage R g 3 s'.h
      ∧ Mapped g (fun e p => map1 (R e) p) s.a s'.a ∧ Mapped g (fun e p => map2 (R e) p) s.b s'.b := by
  unfold groupTrip
  refine Does.bind (scanStage_does hg hs) ?_
  rintro r0 s0 ⟨rfl, p0, m0⟩
  refine Does.bind (supStage_does hg hs p0 m0) ?_
  rintro _ s1 ⟨a1, b1, h1⟩
  refine Does.bind (scanStage_does hg h1) ?_
  rintro r1 s1' ⟨rfl, p1, m1⟩
  refine Does.bind (supStage_does hg h1 p1 m1) ?_
  rintro _ s2 ⟨a2, b2, h2⟩
  refine Does.bind (scanStage_does hg h2) ?_
  rintro r2 s2' ⟨rfl, p2, m2⟩
  refine Does.bind (supStage_does hg h2 p2 m2) ?_
  rintro _ s3 ⟨a3, b3, h3⟩
  refine Does.bind (scanStage_does hg h3) ?_
  rintro r3 s3' ⟨rfl, p3, m3⟩
  have hst : ∀ x, Stands (farthest (subi (pickOf r0) (baseOf g)) (subi (pickOf r1) (baseOf g)) (subi (pickOf r2) (baseOf g))
      (subi (pickOf r3) (baseOf g))) (pairS (R (16 * g + ln x))) x := fun x =>
    farthest_stands (pickN_lt _ 0) (pickN_lt _ 1) (pickN_lt _ 2) (pickN_lt _ 3) (m0 x) (m1 x) (m2 x) (m3 x)
  refine Does.bind (walkLoop_does hg (M := fun e p => map1 (R e) p) fun n x => nearer_eq (hst x) (pairS_onMap _)
    (Nat.mod_lt _ (by decide)) rfl rfl) ?_
  rintro _ s4 ⟨h4, h5, h6⟩
  refine Does.pure ⟨h4 ▸ h3, ?_, ?_⟩
  · rw [a3, a2, a1] at h5; exact h5
  · rw [b3, b2, b1] at h6; exact h6

/-- The tile's groups, from the repacked rows `R` to the two maps. -/
theorem groupLoop_does {R : ℕ → ℕ → F .f32} {s : Bufs F} (hs : ∀ e p, e < 128 → p < 196 → s.h (cell (e * 197 + p)) = R e p) :
    Does i d (groupLoop i bufA bufB bufH) s fun _ s' => ∀ e p, e < 128 → p < 196 →
      s'.a (lcell e p) = map1 (R e) p ∧ s'.b (lcell e p) = map2 (R e) p := by
  unfold groupLoop
  refine (Does.loop (fun g _ s' => Stage R g 0 s'.h ∧ ∀ e p, e < 128 → p < 196 → e < 16 * g →
      s'.a (lcell e p) = map1 (R e) p ∧ s'.b (lcell e p) = map2 (R e) p) ⟨fun e p he hp _ => ?_, fun e p _ _ h => ?_⟩ ?_).mono ?_
  · rw [hs e p he hp]
    split <;> rfl
  · omega
  · rintro g _ s' ⟨h1, h2⟩
    refine (groupTrip_does g.isLt h1).mono ?_
    rintro _ s1 ⟨h3, h4, h5⟩
    refine ⟨fun e p he hp hge => ?_, fun e p he hp hlt => ?_⟩
    · rw [h3 e p he hp (by omega), if_neg (by omega)]
      split <;> rfl
    · rw [h4 e p he hp, h5 e p he hp]
      by_cases hh : e / 16 = g.val
      · rw [if_pos hh, if_pos hh]; exact ⟨rfl, rfl⟩
      · rw [if_neg hh, if_neg hh]; exact h2 e p he hp (by omega)
  · rintro _ s' ⟨_, h⟩ e p he hp
    have hk : k0_t2_loop.trips = 8 := by decide
    rw [hk] at h
    exact h e p he hp (by omega)

/-- What the tile's work on its buffers leaves. -/
def Done (a0 : S128x256.Idx → F .f32) (s : Bufs F) : Prop :=
  ∀ e p, e < 128 → p < 196 → s.a (lcell e p) = map1 (fun p => a0 (lcell e p)) p ∧ s.b (lcell e p) = map2 (fun p => a0 (lcell e p)) p

/-- The tile's work between its copies. -/
def work : TP F i PUnit := do
  packLoop i bufA bufH
  groupLoop i bufA bufB bufH

theorem work_does {s : Bufs F} : Does i d (work (i := i)) s fun _ s' => Done s.a s' := by
  unfold work
  refine Does.bind packLoop_does ?_
  rintro _ s1 ⟨_, h⟩
  exact groupLoop_does (R := fun e p => s.a (lcell e p)) h

end Cert.KernelIdeal.Hand
-- ==== Proof.Body.lean ====
/-
  The whole of a tile's printed program: a copy of the tile's rows in, the work on the tile's buffers, and the two
  copies out.
-/
module

public import proofs.«01_k».proof.Proof.Straight
public import proofs.«01_k».proof.Proof.Group

@[expose] public section

noncomputable section

namespace Cert.KernelIdeal.Hand

open Cert.KernelIdeal Cert.KernelIdeal.Gen
open Idealize.ShloMosaic Idealize.SL.Sem

variable {F : FTy → Type} [FloatOps F]

/-- An array of the launch, of 32 tiles' 128 rows. -/
abbrev Arr := Memref sig .scVector .hbm S32x128x256 .f32

/-- The tile's rows of an array. -/
abbrev rowsIn (i : grid0.Coords) (a : Arr) : Memref sig .scVector .hbm S128x256 .f32 :=
  (a.slice (Rect.unit (s := S32x128x256) (k0_off1 i) S1x128x256.size (k0_off1_inb i)) (fun _ => rfl)).squeeze S128x256
    squeezes_S1x128x256_S128x256

/-- The tile's rows copied into a buffer, and waited for. -/
def copyIn (i : grid0.Coords) (a : Arr) (l : Land) (hl : l.IsWhole) (r : DmaSems sig S_) : TP F i PUnit := do
  Prog.lift (.enqueueDma (rowsIn i a) (.here l) (.dma r.sem) ((View.wordExact_bits rfl).reshape _ _) hl.wordExact ⟨Or.inl rfl, trivial⟩)
  Prog.lift (.waitDma2 r.sem (rowsIn i a) l ((View.wordExact_bits rfl).reshape _ _) hl.wordExact)

/-- A buffer copied out into the tile's rows, and waited for. -/
def copyOut (i : grid0.Coords) (a : Arr) (l : Land) (hl : l.IsWhole) (r : DmaSems sig S_) : TP F i PUnit := do
  Prog.lift (.enqueueDma l (.here (rowsIn i a)) (.dma r.sem) hl.wordExact ((View.wordExact_bits rfl).reshape _ _) ⟨Or.inl rfl, trivial⟩)
  Prog.lift (.waitDma2 r.sem l (rowsIn i a) hl.wordExact ((View.wordExact_bits rfl).reshape _ _))

/-- A tile's program. -/
def tileProg (i : grid0.Coords) (x o1 o2 : Arr) (r0 r1 r2 : DmaSems sig S_) : TP F i PUnit := do
  copyIn i x bufA (Memref.isWhole_whole _) r0
  work
  copyOut i o1 bufA (Memref.isWhole_whole _) r1
  copyOut i o2 bufB (Memref.isWhole_whole _) r2

variable (i : grid0.Coords) (arg2 : Memref sig .scVector .hbm S32x128x256 .f32) (harg2 : arg2.IsWhole)
  (arg3 : Memref sig .scVector .hbm S32x128x256 .f32) (harg3 : arg3.IsWhole)
  (arg4 : Memref sig .scVector .hbm S32x128x256 .f32) (harg4 : arg4.IsWhole)
  (r0 : DmaSems sig S_) (r1 : DmaSems sig S_) (r2 : DmaSems sig S_)

theorem body_eq : cc0__nms_body (F := F) i arg2 harg2 arg3 harg3 arg4 harg4 bufA (Memref.isWhole_whole _) bufB
      (Memref.isWhole_whole _) bufH (Memref.isWhole_whole _) r0 r1 r2 = tileProg i arg2 arg3 arg4 r0 r1 r2 := by
  rw [cc0__nms_body_eq_skeleton]
  unfold cc0__nms_body_skel
  rw [k0_part39_eq_skeleton]
  unfold k0_part39_skel tileProg copyIn copyOut work
  simp only [bind_assoc, pure_bind, bind_pure_unit]
  refine Idealize.ShloMosaic.ProgEq.bind_congr _ _ _ _ _ _ _ rfl fun _ => ?_
  refine Idealize.ShloMosaic.ProgEq.bind_congr _ _ _ _ _ _ _ rfl fun _ => ?_
  refine Idealize.ShloMosaic.ProgEq.bind_congr _ _ _ _ _ _ _ ?_ fun _ => ?_
  · exact Idealize.ShloMosaic.ProgEq.for_congr _ _ _ _ _ _ _ fun k u => t1_eq i arg2 harg2 arg3 harg3 arg4 harg4 bufA _ bufB _ bufH _ r0 r1 r2 k u
  refine Idealize.ShloMosaic.ProgEq.bind_congr _ _ _ _ _ _ _ ?_ fun _ => rfl
  exact Idealize.ShloMosaic.ProgEq.for_congr _ _ _ _ _ _ _ fun k u => t2_eq i arg2 harg2 arg3 harg3 arg4 harg4 bufA _ bufB _ bufH _ r0 r1 r2 k u

end Cert.KernelIdeal.Hand
-- ==== Proof.Tile.lean ====
/-
  One tile's run: its rows of the input array copied in, the work, the two copies out. What it leaves in its rows of
  the two output arrays is stated cell by cell.
-/
module

public import proofs.«01_k».proof.Proof.Body
public import Idealize.ShloMosaic.Lib.Pipeline.Kit

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The transfers' counters in the proof's algebra. -/
abbrev EC : UEmb Counters 𝕄 := countersEmb

/-! ## The arrays -/

abbrev xArr : Arr := Memref.whole main_v2_scv
abbrev pArr : Arr := Memref.whole main_v3_0_scv
abbrev qArr : Arr := Memref.whole main_v3_1_scv

abbrev xLoc (d : Dev nD) : Loc nD τ sig := (SparseCore.T d).loc main_v2
abbrev pLoc (d : Dev nD) : Loc nD τ sig := (SparseCore.T d).loc main_v3_0
abbrev qLoc (d : Dev nD) : Loc nD τ sig := (SparseCore.T d).loc main_v3_1

/-- Row `e`, column `p` of tile `w`. -/
def gcell (w e p : ℕ) : S32x128x256.Idx :=
  fun a => match a with
    | 0 => ⟨w % 32, Nat.mod_lt _ (by decide)⟩
    | 1 => ⟨e % 128, Nat.mod_lt _ (by decide)⟩
    | 2 => ⟨p % 256, Nat.mod_lt _ (by decide)⟩

/-- A tile's number. -/
def tileNo (i : grid0.Coords) : Fin 32 := ⟨2 * (i 1).val + (i 0).val, by
  have h0 : (i 0).val < 2 := (i 0).isLt
  have h1 : (i 1).val < 16 := (i 1).isLt
  omega⟩

theorem hdiv : 32 ∣ S32x128x256.size 0 := ⟨1, rfl⟩
/-- Tile `w`'s part of an array. -/
abbrev part (w : Fin 32) : Rect S32x128x256 := Rect.part (s := S32x128x256) (a₀ := 0) hdiv w
abbrev rowSet (w : Fin 32) : Finset S32x128x256.Idx := (part w).set

theorem partK_eq (i : grid0.Coords) :
    Rect.unit (s := S32x128x256) (k0_off1 i) S1x128x256.size (k0_off1_inb i) = part (tileNo i) := by
  unfold part Rect.part Rect.block
  congr 1 <;> funext a
  · rw [k0_off1_eq]
    match a with
    | 0 => simp [Shape.partIx, Shape.partSize, tileNo]
    | 1 => simp [Shape.partIx, Shape.partSize]
    | 2 => simp [Shape.partIx, Shape.partSize]
  · match a with
    | 0 => simp [Shape.partSize]
    | 1 => simp [Shape.partSize]
    | 2 => simp [Shape.partSize]

theorem set_x (i : grid0.Coords) : (rowsIn i xArr).view.set = rowSet (tileNo i) := by
  unfold rowsIn
  refine (View.set_reshape _ _).trans ?_
  refine Eq.trans (b := ((View.whole (main_v2_scv : Ref sig .scVector)).slice
    (Rect.unit (s := S32x128x256) (k0_off1 i) S1x128x256.size (k0_off1_inb i))).set) rfl ?_
  rw [View.set_slice_whole, partK_eq]
theorem set_p (i : grid0.Coords) : (rowsIn i pArr).view.set = rowSet (tileNo i) := by
  unfold rowsIn
  refine (View.set_reshape _ _).trans ?_
  refine Eq.trans (b := ((View.whole (main_v3_0_scv : Ref sig .scVector)).slice
    (Rect.unit (s := S32x128x256) (k0_off1 i) S1x128x256.size (k0_off1_inb i))).set) rfl ?_
  rw [View.set_slice_whole, partK_eq]
theorem set_q (i : grid0.Coords) : (rowsIn i qArr).view.set = rowSet (tileNo i) := by
  unfold rowsIn
  refine (View.set_reshape _ _).trans ?_
  refine Eq.trans (b := ((View.whole (main_v3_1_scv : Ref sig .scVector)).slice
    (Rect.unit (s := S32x128x256) (k0_off1 i) S1x128x256.size (k0_off1_inb i))).set) rfl ?_
  rw [View.set_slice_whole, partK_eq]

/-- Row `e`, column `p` of one tile's rows. -/
def ucell (e p : ℕ) : S1x128x256.Idx :=
  fun a => match a with
    | 0 => ⟨0, Nat.one_pos⟩
    | 1 => ⟨e % 128, Nat.mod_lt _ (by decide)⟩
    | 2 => ⟨p % 256, Nat.mod_lt _ (by decide)⟩

theorem unsqueeze (h : S128x256.numel = S1x128x256.numel) (e p : ℕ) : Shape.reshapeEquiv h (lcell e p) = ucell e p := by
  refine Shape.reshapeEquiv_eq_of_rowMajor _ ?_
  rw [Shape.rowMajor_val_three, Shape.rowMajor_val_two]
  show (0 * 128 + e % 128) * 256 + p % 256 = (e % 128) * 256 + p % 256
  omega

/-- Where a cell of the tile's rows lies in the array. -/
theorem rows_place (i : grid0.Coords) (h : S128x256.numel = S1x128x256.numel) (e p : ℕ) :
    (Rect.unit (s := S32x128x256) (k0_off1 i) S1x128x256.size (k0_off1_inb i)).emb
      (Shape.reshapeEquiv h (lcell e p)) = gcell (tileNo i).val e p := by
  rw [unsqueeze]
  have h0 : (i 0).val < 2 := (i 0).isLt
  have h1 : (i 1).val < 16 := (i 1).isLt
  funext a
  refine Fin.ext ?_
  show k0_off1 i a + 1 * (ucell e p a).val = _
  rw [k0_off1_eq]
  match a with
  | 0 => show 2 * (i 1).val + (i 0).val + 1 * 0 = (2 * (i 1).val + (i 0).val) % 32; omega
  | 1 => show 0 + 1 * (e % 128) = e % 128; omega
  | 2 => show 0 + 1 * (p % 256) = p % 256; omega

theorem emb_x (i : grid0.Coords) (e p : ℕ) : (rowsIn i xArr).view.emb (lcell e p) = gcell (tileNo i).val e p := rows_place i _ e p
theorem emb_p (i : grid0.Coords) (e p : ℕ) : (rowsIn i pArr).view.emb (lcell e p) = gcell (tileNo i).val e p := rows_place i _ e p
theorem emb_q (i : grid0.Coords) (e p : ℕ) : (rowsIn i qArr).view.emb (lcell e p) = gcell (tileNo i).val e p := rows_place i _ e p

/-! ## The copies -/

section Copies

variable [FloatOps F] (i : grid0.Coords) (d : Dev nD)

abbrev Vt : Thread nD τ := V d (cV i) (jV i)
abbrev cell0 : GSem nD τ sig := (V d (cV i) (jV i), .dma cc0_scoped0.sem)
abbrev cell1 : GSem nD τ sig := (V d (cV i) (jV i), .dma cc0_scoped1.sem)
abbrev cell2 : GSem nD τ sig := (V d (cV i) (jV i), .dma cc0_scoped2.sem)

/-- A copy from one place of the machine to another, and its wait: the destination rewritten with what the source
    reads, the counter back at zero. -/
theorem copy_wp {sp sp' : Space} {src : Memref sig .scVector sp S128x256 .f32} {dst : Memref sig .scVector sp' S128x256 .f32}
    {r : DmaSems sig S_} {h1 : src.view.WordExact} {h2 : dst.view.WordExact}
    {h3 : DmaTarget.Typed (nD := nD) (τ := τ) (sig := sig) (p := .scVector (cV i) (jV i)) sp (.dma r.sem) (.here dst)}
    {q : PosShare TreeShare} {fs : Buf (Elt F) (src.view.loc (Vt i d))} {fd : Buf (Elt F) (dst.view.loc (Vt i d))}
    {O : CellTallies nD τ sig (HIx 1)} {W : Waits sig (HIx 1)} {Q : PUnit → sProp 𝕄} :
    iprop((src.view.loc (Vt i d) ↦[src.view.set]{q} fs) ∗ (dst.view.loc (Vt i d) ↦[dst.view.set]{fullShare} fd)
        ∗ semVal (Vt i d, SemLoc.dma r.sem) 0 ∗ owes (Vt i d) O W ∗ Transfers.MayWaits (Vt i d) (none : HIx 1) O)
      ⊢ iprop((iprop((dst.view.loc (Vt i d) ↦[dst.view.set]{fullShare} (dst.view.write (Elt F) fd (src.view.read (Elt F) fs) Finset.univ))
            ∗ (src.view.loc (Vt i d) ↦[src.view.set]{q} fs)
            ∗ semVal (Vt i d, SemLoc.dma r.sem) 0 ∗ owes (Vt i d) O (insert (SemLoc.dma r.sem, (none : HIx 1)) W)) -∗ Q ⟨⟩)
        -∗ wp frame (wpE (defs₀ (F := F)) 𝒱₀ (Vt i d) none) Set.univ
          (do Prog.lift (.enqueueDma src (.here dst) (.dma r.sem) h1 h2 h3)
              Prog.lift (.waitDma2 r.sem src dst h1 h2) : TP F i PUnit) Q) := by
  simp only [Prog.lift, Prog.bind_op, Prog.bind_ret]
  iintro ⟨Hs, Hd, Hv, HO, Hmw⟩ Hk
  iapply (Transfers.wp_dmaLocal (Ix := HIx 1) (Val := Elt F) (Name := ℕ) (U := UU) (Lvl := ℕ) (EC (F := F)) 𝒱₀ (Vt i d) none (none : HIx 1) (dst.view.amount (.dma r.sem)) rfl
    (View.amount_pos _ _ (show 0 < S128x256.numel by decide)) (Finset.Subset.refl _)) $$ [Hs Hd Hv]
  · isplitl [Hs]; · iexact Hs
    isplitl [Hd] <;> iassumption
  iintro Hf
  iapply (Transfers.wp_waitLocalO (Ix := HIx 1) (Val := Elt F) (Name := ℕ) (U := UU) (Lvl := ℕ) (EC (F := F)) 𝒱₀ (Vt i d) none (none : HIx 1) rfl (O := O) (W := W)) $$ [Hf HO Hmw]
  · isplitl [Hf]; · iexact Hf
    isplitl [HO]; · iexact HO
    iapply (Transfers.MayWaits.elim (SemLoc.dma r.sem)); iexact Hmw
  iintro ⟨⟨Hd, Hs⟩, Hv, HO⟩
  rw [wp_ret]; imodintro
  iapply Hk
  isplitl [Hd]; · iexact Hd
  isplitl [Hs]; · iexact Hs
  isplitl [Hv] <;> iassumption

/-- The tile's rows of the three arrays. -/
abbrev xRow (X : S32x128x256.Idx → F .f32) (w : Fin 32) : sProp 𝕄 := xLoc d ↦[rowSet w]{fullShare} X
abbrev pRow (f : S32x128x256.Idx → F .f32) (w : Fin 32) : sProp 𝕄 := pLoc d ↦[rowSet w]{fullShare} f
abbrev qRow (f : S32x128x256.Idx → F .f32) (w : Fin 32) : sProp 𝕄 := qLoc d ↦[rowSet w]{fullShare} f

theorem pts_xK (f : S32x128x256.Idx → F .f32) :
    ((rowsIn i xArr).view.loc (Vt i d) ↦[(rowsIn i xArr).view.set]{fullShare} f : sProp 𝕄) = xRow d f (tileNo i) := by
  rw [set_x]
theorem pts_pK (f : S32x128x256.Idx → F .f32) :
    ((rowsIn i pArr).view.loc (Vt i d) ↦[(rowsIn i pArr).view.set]{fullShare} f : sProp 𝕄) = pRow d f (tileNo i) := by
  rw [set_p]
theorem pts_qK (f : S32x128x256.Idx → F .f32) :
    ((rowsIn i qArr).view.loc (Vt i d) ↦[(rowsIn i qArr).view.set]{fullShare} f : sProp 𝕄) = qRow d f (tileNo i) := by
  rw [set_q]
theorem pts_bufA (f : S128x256.Idx → F .f32) :
    (bufA.view.loc (Vt i d) ↦[bufA.view.set]{fullShare} f : sProp 𝕄) = (Vt i d).loc cc0_scratch0 ↦{fullShare} f := by
  simp only [Memref.view_whole, View.set_whole]
theorem pts_bufB (f : S128x256.Idx → F .f32) :
    (bufB.view.loc (Vt i d) ↦[bufB.view.set]{fullShare} f : sProp 𝕄) = (Vt i d).loc cc0_scratch1 ↦{fullShare} f := by
  simp only [Memref.view_whole, View.set_whole]

/-- What the tile numbered `w` leaves in its rows of the first output, of the second. -/
def Left1 (X : S32x128x256.Idx → F .f32) (w : ℕ) (f : S32x128x256.Idx → F .f32) : Prop :=
  ∀ e p, e < 128 → p < 196 → f (gcell w e p) = map1 (fun p => X (gcell w e p)) p
def Left2 (X : S32x128x256.Idx → F .f32) (w : ℕ) (f : S32x128x256.Idx → F .f32) : Prop :=
  ∀ e p, e < 128 → p < 196 → f (gcell w e p) = map2 (fun p => X (gcell w e p)) p

theorem landed (fd : S128x256.Idx → F .f32) (X : S32x128x256.Idx → F .f32) (e p : ℕ) :
    bufA.view.write (Elt F) fd ((rowsIn i xArr).view.read (Elt F) X) Finset.univ (lcell e p) = X (gcell (tileNo i).val e p) := by
  have h : bufA.view.write (Elt F) fd ((rowsIn i xArr).view.read (Elt F) X) Finset.univ = (rowsIn i xArr).view.read (Elt F) X :=
    View.write_whole_univ _ _ _
  rw [h, ← emb_x]
  rfl

theorem sent_p (f : S32x128x256.Idx → F .f32) (a : S128x256.Idx → F .f32) (e p : ℕ) :
    (rowsIn i pArr).view.write (Elt F) f (bufA.view.read (Elt F) a) Finset.univ (gcell (tileNo i).val e p) = a (lcell e p) := by
  rw [← emb_p]
  exact View.write_emb_of_mem _ _ (Finset.mem_univ _)

theorem sent_q (f : S32x128x256.Idx → F .f32) (b : S128x256.Idx → F .f32) (e p : ℕ) :
    (rowsIn i qArr).view.write (Elt F) f (bufB.view.read (Elt F) b) Finset.univ (gcell (tileNo i).val e p) = b (lcell e p) := by
  rw [← emb_q]
  exact View.write_emb_of_mem _ _ (Finset.mem_univ _)

end Copies

/-! ## What a tile owns -/

section Own

variable (i : grid0.Coords) (d : Dev nD)

theorem ownSems0_V :
    (ownSems0 (Vt i d) : sProp 𝕄)
      = iprop(semVal (cell0 i d) 0 ∗ semVal (cell1 i d) 0 ∗ semVal (cell2 i d) 0
          ∗ bigSep ((((ownCells (Vt i d)).erase (cell0 i d)).erase (cell1 i d)).erase (cell2 i d)) fun g => semVal g 0) := by
  unfold SparseCore.Cfg.ownSems0
  rw [SparseCore.bigSep_erase' ((mem_ownCells (g := cell0 i d)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 i d)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 i d)).mpr ⟨rfl, by show (SemLoc.dma cc0_scoped2.sem : SemLoc sig).isScoped .scVector = true; decide⟩⟩⟩)]

theorem ownBufs_V :
    (ownBufs (Vt i d) : sProp 𝕄)
      = iprop((∃ f, (Vt i d).loc cc0_scratch0 ↦{fullShare} f) ∗ (∃ f, (Vt i d).loc cc0_scratch1 ↦{fullShare} f)
          ∗ (∃ f, (Vt i d).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]

end Own

/-! ## The tile's run -/

variable [FloatOps F] (i : grid0.Coords) (d : Dev nD)

/-- What a tile is handed, what it hands back. -/
def tileIn (X : S32x128x256.Idx → F .f32) (w : Fin 32) : sProp 𝕄 :=
  iprop(xRow d X w ∗ (∃ f, pRow d f w) ∗ (∃ f, qRow d f w))
def tileOut (X : S32x128x256.Idx → F .f32) (w : Fin 32) : sProp 𝕄 :=
  iprop(xRow d X w ∗ (∃ f, ⌜Left1 X w.val f⌝ ∗ pRow d f w) ∗ (∃ f, ⌜Left2 X w.val f⌝ ∗ qRow d f w))

theorem tile_body (X : S32x128x256.Idx → F .f32) (hF : (K (F := F)).Facts) (O : CellTallies nD τ sig (HIx 1)) (W : Waits sig (HIx 1))
    (hO : ∀ g, O g none = 0) :
    iprop(levAts (K (F := F)).L (K (F := F)).lev ∗ emp ∗ tileIn d X (tileNo i)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__nms_body i xArr (Memref.isWhole_whole _) pArr (Memref.isWhole_whole _) qArr (Memref.isWhole_whole _)
            bufA (Memref.isWhole_whole _) bufB (Memref.isWhole_whole _) bufH (Memref.isWhole_whole _) cc0_scoped0 cc0_scoped1 cc0_scoped2)
          fun _ => iprop(tileOut d X (tileNo i) ∗ scopedBufs (V d (cV i) (jV i)) ∗ scopedSems0 (V d (cV i) (jV i))
            ∗ ∃ W', ⌜∀ p ∈ W', p ∈ W ∨ p.2 = none⌝ ∗ owes (V d (cV i) (jV i)) O W') := by
  rw [body_eq]
  unfold tileProg copyIn copyOut tileIn tileOut
  rw [(K (F := F)).scopedBufs_V hF d (cV i) (jV i), SparseCore.Cfg.scopedSems0_V (Val := Elt F) d (cV i) (jV i), ownSems0_V, ownBufs_V]
  iintro ⟨#Hlv, -, ⟨Hx, ⟨%fp, Hp⟩, ⟨%fq, Hq⟩⟩, ⟨⟨%fa, Ha⟩, ⟨%fb, Hb⟩, ⟨%fh, Hh⟩, Hbufs⟩, ⟨Hs0, Hs1, Hs2, Hsems⟩, HO⟩
  ihave #Hmw := ((K (F := F)).mayWaits_none (thr := V d (cV i) (jV i)) hO) $$ Hlv
  ihave Hx' := (Entails.of_eq (pts_xK i d X).symm) $$ Hx
  ihave Ha' := (Entails.of_eq (pts_bufA i d fa).symm) $$ Ha
  rw [wp_bind]
  iapply (copy_wp (F := F) i d) $$ [Hx' Ha' Hs0 HO]
  · isplitl [Hx']; · iexact Hx'
    isplitl [Ha']; · iexact Ha'
    isplitl [Hs0]; · iexact Hs0
    isplitl [HO]; · iexact HO
    iexact Hmw
  iintro ⟨Ha', Hx', Hs0, HO⟩
  ihave Ha := (Entails.of_eq (pts_bufA i d _)) $$ Ha'
  ihave Hx := (Entails.of_eq (pts_xK i d X)) $$ Hx'
  rw [wp_bind]
  iapply (wp_wand_r frame (wpE (defs₀ (F := F)) 𝒱₀ (V d (cV i) (jV i)) none) Set.univ)
  isplitl [Ha Hb Hh]
  · iapply (show (Holds i d ⟨_, fb, fh⟩ : sProp 𝕄) ⊢ _ from work_does)
    unfold Holds
    isplitl [Ha]; · iexact Ha
    isplitl [Hb] <;> iassumption
  iintro %u ⟨%s', %hs, Hold⟩
  unfold Holds
  icases Hold with ⟨Ha, Hb, Hh⟩
  ihave Ha' := (Entails.of_eq (pts_bufA i d _).symm) $$ Ha
  ihave Hp' := (Entails.of_eq (pts_pK i d fp).symm) $$ Hp
  rw [wp_bind]
  iapply (copy_wp (F := F) i d) $$ [Hp' Ha' Hs1 HO]
  · isplitl [Ha']; · iexact Ha'
    isplitl [Hp']; · iexact Hp'
    isplitl [Hs1]; · iexact Hs1
    isplitl [HO]; · iexact HO
    iexact Hmw
  iintro ⟨Hp', Ha', Hs1, HO⟩
  ihave Ha := (Entails.of_eq (pts_bufA i d _)) $$ Ha'
  ihave Hp := (Entails.of_eq (pts_pK i d _)) $$ Hp'
  ihave Hb' := (Entails.of_eq (pts_bufB i d _).symm) $$ Hb
  ihave Hq' := (Entails.of_eq (pts_qK i d fq).symm) $$ Hq
  iapply (copy_wp (F := F) i d) $$ [Hq' Hb' Hs2 HO]
  · isplitl [Hb']; · iexact Hb'
    isplitl [Hq']; · iexact Hq'
    isplitl [Hs2]; · iexact Hs2
    isplitl [HO]; · iexact HO
    iexact Hmw
  iintro ⟨Hq', Hb', Hs2, HO⟩
  ihave Hb := (Entails.of_eq (pts_bufB i d _)) $$ Hb'
  ihave Hq := (Entails.of_eq (pts_qK i d _)) $$ Hq'
  isplitl [Hx Hp Hq]
  · isplitl [Hx]; · iexact Hx
    isplitl [Hp]
    · iexists _
      isplitr
      rotate_left
      · iexact Hp
      · ipureintro
        intro e p he hp
        rw [sent_p, (hs e p he hp).1]
        exact map1_congr (fun p' _ => landed i fa X e p') p
    · iexists _
      isplitr
      rotate_left
      · iexact Hq
      · ipureintro
        intro e p he hp
        rw [sent_q, (hs e p he hp).2]
        exact map2_congr (fun p' _ => landed i fa X e p') p
  isplitl [Ha Hb Hh Hbufs]
  · isplitl [Ha]
    · iexists _; iexact Ha
    isplitl [Hb]
    · iexists _; iexact Hb
    isplitl [Hh]
    · iexists _; iexact Hh
    · iexact Hbufs
  isplitl [Hs0 Hs1 Hs2 Hsems]
  · isplitl [Hs0]; · iexact Hs0
    isplitl [Hs1]; · iexact Hs1
    isplitl [Hs2]; · iexact Hs2
    iexact Hsems
  iexists _
  isplitr
  rotate_left
  · iexact HO
  · ipureintro
    intro p hp
    simp only [Finset.mem_insert] at hp
    rcases hp with rfl | rfl | rfl | hp
    · exact .inr rfl
    · exact .inr rfl
    · exact .inr rfl
    · exact .inl hp

end Cert.KernelIdeal.Hand
-- ==== Proof.Launch.lean ====
/-
  The call as the launch sees it: what every tile is handed and hands back, the three arrays dealt to the tiles row
  set by row set, and the two outputs put together again out of what the tiles left.
-/
module

public import proofs.«01_k».proof.Proof.Tile

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds in the proof's algebra. -/
abbrev EH : Emb UH 𝕄 := embL

/-! ## The tiles -/

def coordsV (c : Fin (grid0.bound 0)) (s : Fin (grid0.bound 1)) : grid0.Coords := fun
  | 0 => c
  | 1 => s
  | ⟨_ + 2, h⟩ => absurd h (Nat.not_lt.2 (Nat.le_add_left _ _))

/-- The tile that subcore `s` of SparseCore `c` runs. -/
abbrev tileAt (c : Fin 2) (s : Fin 16) : Fin 32 := tileNo (coordsV c s)

def tileEquiv : Fin 2 × Fin 16 ≃ Fin 32 := (Equiv.prodComm (Fin 2) (Fin 16)).trans (finProdFinEquiv (m := 16) (n := 2))

theorem tileEquiv_apply (c : Fin 2) (s : Fin 16) : tileEquiv (c, s) = tileAt c s :=
  Fin.ext (Nat.add_comm c.val (2 * s.val))

theorem tileAt_surj (w : Fin 32) : ∃ i : grid0.Coords, tileNo i = w :=
  ⟨coordsV (tileEquiv.symm w).1 (tileEquiv.symm w).2, by
    show tileAt (tileEquiv.symm w).1 (tileEquiv.symm w).2 = w
    rw [← tileEquiv_apply]; exact tileEquiv.apply_symm_apply w⟩

/-- What the two SparseCores' sixteen subcores each hold is what the thirty-two tiles hold. -/
theorem all_tiles (Φ : Fin 32 → sProp 𝕄) :
    (bigSep Finset.univ fun c : Fin 2 => bigSep Finset.univ fun s : Fin 16 => Φ (tileAt c s)) = bigSep Finset.univ Φ := by
  rw [BI.bigSep_univ_equiv tileEquiv Φ, BI.bigSep_univ_prod]
  exact bigSep_congr fun c _ => bigSep_congr fun s _ => by rw [tileEquiv_apply]

/-! ## The arrays, row set by row set -/

theorem rows_disjoint : ∀ w ∈ (Finset.univ : Finset (Fin 32)), ∀ w' ∈ (Finset.univ : Finset (Fin 32)), w ≠ w' → Disjoint (rowSet w) (rowSet w') :=
  fun _ _ _ _ h => Rect.part_disjoint hdiv h
theorem rows_cover : (Finset.univ : Finset (Fin 32)).biUnion rowSet = Finset.univ := Rect.biUnion_part hdiv

theorem gcell_mem (w : Fin 32) (e p : ℕ) : gcell w.val e p ∈ rowSet w := by
  obtain ⟨i, rfl⟩ := tileAt_surj w
  rw [← set_p, ← emb_p]
  exact View.emb_mem_set _ _

section Arrays

variable (d : Dev nD)

theorem x_rows (f : S32x128x256.Idx → F .f32) :
    (xLoc d ↦{fullShare} f : sProp 𝕄) = bigSep Finset.univ fun w : Fin 32 => xRow d f w := by
  rw [← pointsTo_biUnion Finset.univ (ℓ := xLoc d) rowSet rows_disjoint, rows_cover]; try rfl
theorem p_rows (f : S32x128x256.Idx → F .f32) :
    (pLoc d ↦{fullShare} f : sProp 𝕄) = bigSep Finset.univ fun w : Fin 32 => pRow d f w := by
  rw [← pointsTo_biUnion Finset.univ (ℓ := pLoc d) rowSet rows_disjoint, rows_cover]; try rfl
theorem q_rows (f : S32x128x256.Idx → F .f32) :
    (qLoc d ↦{fullShare} f : sProp 𝕄) = bigSep Finset.univ fun w : Fin 32 => qRow d f w := by
  rw [← pointsTo_biUnion Finset.univ (ℓ := qLoc d) rowSet rows_disjoint, rows_cover]; try rfl

variable [FloatOps F] (X : S32x128x256.Idx → F .f32)

/-- The three arrays dealt to the tiles. -/
theorem deal (f g : S32x128x256.Idx → F .f32) :
    iprop((xLoc d ↦{fullShare} X) ∗ (pLoc d ↦{fullShare} f) ∗ (qLoc d ↦{fullShare} g))
      ⊢ (bigSep Finset.univ fun w : Fin 32 => tileIn d X w : sProp 𝕄) := by
  unfold tileIn
  rw [x_rows, p_rows, q_rows, bigSep_sep', bigSep_sep']
  iintro ⟨Hx, Hp, Hq⟩
  isplitl [Hx]; · iexact Hx
  isplitl [Hp]
  · iapply (show (bigSep Finset.univ fun w : Fin 32 => (pRow d f w : sProp 𝕄)) ⊢ bigSep Finset.univ fun w : Fin 32 => iprop(∃ f, pRow d f w) from
      BI.bigSep_mono fun w _ => exists_intro (Φ := fun f => pRow d f w) f) $$ Hp
  · iapply (show (bigSep Finset.univ fun w : Fin 32 => (qRow d g w : sProp 𝕄)) ⊢ bigSep Finset.univ fun w : Fin 32 => iprop(∃ f, qRow d f w) from
      BI.bigSep_mono fun w _ => exists_intro (Φ := fun f => qRow d f w) g) $$ Hq

/-- The first output out of what the tiles left in their rows. -/
theorem join_p :
    (bigSep Finset.univ fun w : Fin 32 => iprop(∃ f, ⌜Left1 X w.val f⌝ ∗ pRow d f w))
      ⊢ (iprop(∃ f, ⌜∀ w : Fin 32, Left1 X w.val f⌝ ∗ pLoc d ↦{fullShare} f) : sProp 𝕄) := by
  haveI : Nonempty (S32x128x256.Idx → F .f32) := ⟨X⟩
  iintro H
  ihave H := (bigSep_exists_pi Finset.univ fun (w : Fin 32) (f : S32x128x256.Idx → F .f32) => iprop(⌜Left1 X w.val f⌝ ∗ pRow d f w)) $$ H
  icases H with ⟨%fs, H⟩
  ihave H := (bigSep_pure_sep Finset.univ (fun w : Fin 32 => Left1 X w.val (fs w)) (fun w => pRow d (fs w) w)) $$ H
  icases H with ⟨%hl, H⟩
  ihave H := (pointsTo_biUnion_join Finset.univ (ℓ := pLoc d) rowSet fs (fs 0) rows_disjoint) $$ H
  icases H with ⟨%g, %hg, H⟩
  iexists g
  isplitr
  rotate_left
  · rw [rows_cover]; iexact H
  · ipureintro
    intro w e p he hp
    rw [hg w (Finset.mem_univ w) _ (gcell_mem w e p)]
    exact hl w (Finset.mem_univ w) e p he hp

/-- The second output. -/
theorem join_q :
    (bigSep Finset.univ fun w : Fin 32 => iprop(∃ f, ⌜Left2 X w.val f⌝ ∗ qRow d f w))
      ⊢ (iprop(∃ f, ⌜∀ w : Fin 32, Left2 X w.val f⌝ ∗ qLoc d ↦{fullShare} f) : sProp 𝕄) := by
  haveI : Nonempty (S32x128x256.Idx → F .f32) := ⟨X⟩
  iintro H
  ihave H := (bigSep_exists_pi Finset.univ fun (w : Fin 32) (f : S32x128x256.Idx → F .f32) => iprop(⌜Left2 X w.val f⌝ ∗ qRow d f w)) $$ H
  icases H with ⟨%fs, H⟩
  ihave H := (bigSep_pure_sep Finset.univ (fun w : Fin 32 => Left2 X w.val (fs w)) (fun w => qRow d (fs w) w)) $$ H
  icases H with ⟨%hl, H⟩
  ihave H := (pointsTo_biUnion_join Finset.univ (ℓ := qLoc d) rowSet fs (fs 0) rows_disjoint) $$ H
  icases H with ⟨%g, %hg, H⟩
  iexists g
  isplitr
  rotate_left
  · rw [rows_cover]; iexact H
  · ipureintro
    intro w e p he hp
    rw [hg w (Finset.mem_univ w) _ (gcell_mem w e p)]
    exact hl w (Finset.mem_univ w) e p he hp

/-- The three arrays out of what the tiles hand back. -/
theorem gather :
    (bigSep Finset.univ fun w : Fin 32 => tileOut d X w)
      ⊢ (iprop((xLoc d ↦{fullShare} X) ∗ (∃ f, ⌜∀ w : Fin 32, Left1 X w.val f⌝ ∗ pLoc d ↦{fullShare} f)
          ∗ (∃ f, ⌜∀ w : Fin 32, Left2 X w.val f⌝ ∗ qLoc d ↦{fullShare} f)) : sProp 𝕄) := by
  unfold tileOut
  rw [x_rows, bigSep_sep', bigSep_sep']
  iintro ⟨Hx, Hp, Hq⟩
  isplitl [Hx]; · iexact Hx
  isplitl [Hp]
  · iapply (join_p d X) $$ Hp
  · iapply (join_q d X) $$ Hq

end Arrays

/-! ## The call's payloads -/

section Call

variable [FloatOps F] (X : Dev nD → S32x128x256.Idx → F .f32)

instance tileIn_storable (d : Dev nD) (x : S32x128x256.Idx → F .f32) (w : Fin 32) :
    BI.Storable (upEmb : UEmb _ 𝕄) (tileIn d x w) := by unfold tileIn; infer_instance
instance tileOut_storable (d : Dev nD) (x : S32x128x256.Idx → F .f32) (w : Fin 32) :
    BI.Storable (upEmb : UEmb _ 𝕄) (tileOut d x w) := by unfold tileOut; infer_instance

def P : (K (F := F)).Pay (nD := nD) (Val := Elt F) (Name := ℕ) (U := UU) where
  st := fun q d c => match q with | 0 => bigSep Finset.univ fun s : Fin 16 => tileIn d (X d) (tileAt c s)
  dn := fun q d c => match q with | 0 => bigSep Finset.univ fun s : Fin 16 => tileOut d (X d) (tileAt c s)
  go := fun q d c s => match q with | 0 => tileIn d (X d) (tileAt c s)
  td := fun q d c s => match q with | 0 => tileOut d (X d) (tileAt c s)
  x := fun _ _ => iprop(emp)

instance P_storable : (P (F := F) X).IsStorable where
  st q d c := match q with | 0 => by unfold P; infer_instance
  dn q d c := match q with | 0 => by unfold P; infer_instance
  go q d c s := match q with | 0 => by unfold P; infer_instance
  td q d c s := match q with | 0 => by unfold P; infer_instance

theorem defs₀_vector (c : Fin τ.nSC) (s : Fin τ.nSub) :
    defs₀ (F := F) (.scVector c s) 0 () = SparseCore.onTile hcore0 hsub0 (fun c s => cc0__nms_body (coordsV c s)
      xArr (Memref.isWhole_whole _) pArr (Memref.isWhole_whole _) qArr (Memref.isWhole_whole _)
      bufA (Memref.isWhole_whole _) bufB (Memref.isWhole_whole _) bufH (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (coordsV ⟨_, hc.1⟩ ⟨_, hc.2⟩) d (X d) hF O W hO).trans (wp_mono frame _ _ fun _ => obl_post)

theorem vecSplit : (K (F := F)).VecSplit' (P X) 0 := by
  intro d c
  show iprop(bigSep Finset.univ fun s : Fin 16 => tileIn d (X d) (tileAt c s))
    ⊢ |={Set.univ}=> iprop((bigSep Finset.univ fun s : Fin 16 => tileIn d (X d) (tileAt c s))
        ∗ ((bigSep Finset.univ fun s : Fin 16 => tileOut d (X d) (tileAt c s)) -∗ bigSep Finset.univ fun s : Fin 16 => tileOut d (X d) (tileAt c s)))
  iintro H
  imodintro
  isplitl [H]; · iexact H
  iintro H
  iexact H

theorem st_all (d : Dev nD) : (bigSep Finset.univ fun c : Fin ((K (F := F)).nCore 0) => (P X).st 0 d c)
    = (bigSep Finset.univ fun w : Fin 32 => tileIn d (X d) w : sProp 𝕄) := all_tiles fun w => tileIn d (X d) w
theorem dn_all (d : Dev nD) : (bigSep Finset.univ fun c : Fin ((K (F := F)).nCore 0) => (P X).dn 0 d c)
    = (bigSep Finset.univ fun w : Fin 32 => tileOut d (X d) w : sProp 𝕄) := all_tiles fun w => tileOut d (X d) w

/-! ## What the launch starts from -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X).x q thr) := by
  unfold u₀
  iintro Hu
  ihave H := (ownU_pair _ _) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

end Call

end Cert.KernelIdeal.Hand
-- ==== Proof.Host.lean ====
/-
  The host's program around the call: the operations before it and after it as two lists, the call between them, and
  the run of the whole with what the two results hold.
-/
module

public import proofs.«01_k».proof.Proof.Launch
public import Idealize.ShloMosaic.Lib.StableHlo.Run

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr held_sub_split wp_seq seq after after_cons after_nil launchContents)
open Idealize.ShloMosaic.Tactic

variable {F : FTy → Type} [FloatOps F]

local notation "𝕄" => MT nD τ sig (HIx 1) (Elt F) ℕ UU ℕ

/-! ## The operations -/

abbrev opsIn : List (HloOp τ sig (Elt F)) :=
  [StableHlo.reshape main_arg0 main_v0 (rfl : (.f32 : EltTy) = .f32) shapeCasts_S4096x1x14x14_S4096x196,
   StableHlo.nullary main_c (constantI S_ 32 0#32),
   StableHlo.TRef.unary (.of main_c : StableHlo.TRef sig ⟨S_, .i32⟩) main_call0.v0 (sitofp .f32),
   StableHlo.TRef.binary (.of main_v0 : StableHlo.TRef sig ⟨S4096x196, .f32⟩) main_call0.v0 main_call0.v1
     (fun x v => pad S4096x256 ![0, 0] ![0, 60] ![0, 0] x v pads_S4096x196_S4096x256_000_0600 h_S_),
   StableHlo.reshape main_v1 main_v2 (rfl : (.f32 : EltTy) = .f32) shapeCasts_S4096x256_S32x128x256]

abbrev opsOut : List (HloOp τ sig (Elt F)) :=
  [StableHlo.reshape main_v3_0 main_v4 (rfl : (.f32 : EltTy) = .f32) shapeCasts_S32x128x256_S4096x256,
   StableHlo.unary main_v4 main_v5 ((extractStridedSlice S4096x196 ![0, 0] · slices_S4096x256_S4096x196_0_0) : (⟨S4096x256, .f32⟩ : BufTy).Contents (Elt F) → (⟨S4096x196, .f32⟩ : BufTy).Contents (Elt F)),
   StableHlo.reshape main_v5 main_v6 (rfl : (.f32 : EltTy) = .f32) shapeCasts_S4096x196_S4096x1x14x14,
   StableHlo.reshape main_v3_1 main_v7 (rfl : (.f32 : EltTy) = .f32) shapeCasts_S32x128x256_S4096x256,
   StableHlo.unary main_v7 main_v8 ((extractStridedSlice S4096x196 ![0, 0] · slices_S4096x256_S4096x196_0_0) : (⟨S4096x256, .f32⟩ : BufTy).Contents (Elt F) → (⟨S4096x196, .f32⟩ : BufTy).Contents (Elt F)),
   StableHlo.reshape main_v8 main_v9 (rfl : (.f32 : EltTy) = .f32) shapeCasts_S4096x196_S4096x1x14x14]

theorem main_parts (d : Dev nD) :
    (main (F := F) d) = (seq opsIn >>= fun _ => sc.run d 0 >>= fun _ => seq opsOut >>= fun _ => pure ⟨⟩) := by
  simp only [main, fn_pad.body, seq, bind_assoc, pure_bind]

/-! ## The host's buffers -/

abbrev aRef : DevRef τ sig := Proc.devRef .tc (main_arg0 : Ref sig .tc)
abbrev xRef : DevRef τ sig := Proc.devRef .tc (main_v2 : Ref sig .tc)
abbrev pRef : DevRef τ sig := Proc.devRef .tc (main_v3_0 : Ref sig .tc)
abbrev qRef : DevRef τ sig := Proc.devRef .tc (main_v3_1 : Ref sig .tc)
abbrev y1Ref : DevRef τ sig := Proc.devRef .tc (main_v6 : Ref sig .tc)
abbrev y2Ref : DevRef τ sig := Proc.devRef .tc (main_v9 : Ref sig .tc)

abbrev dref (r : Ref sig .tc) : DevRef τ sig := Proc.devRef .tc r

/-- All the host's buffers. -/
abbrev S14 : Finset (DevRef τ sig) :=
  {dref main_arg0, dref main_v0, dref main_c, dref main_call0_v0, dref main_v1, dref main_v2, dref main_v3_0, dref main_v3_1,
   dref main_v4, dref main_v5, dref main_v6, dref main_v7, dref main_v8, dref main_v9}
/-- The call's three arrays; the argument and the two results. -/
abbrev S3 : Finset (DevRef τ sig) := {xRef, pRef, qRef}
abbrev R3 : Finset (DevRef τ sig) := {aRef, y1Ref, y2Ref}

variable (m : (ℓ : Loc nD τ sig) → Buf (Elt F) ℓ) (ρ : Dev nD → PrngReg)

omit [FloatOps F] in
theorem unscoped_held (d : Dev nD) :
    (unscopedBufs d (fun b => m ((SparseCore.T d).loc b)) : sProp 𝕄) = held (SparseCore.T d) S14 (launchContents m d) := by
  unfold unscopedBufs held
  rw [show (Finset.univ.filter fun b : Ref sig .tc => ¬ b.isScoped)
      = {main_arg0, main_v0, main_c, main_call0_v0, main_v1, main_v2, main_v3_0, main_v3_1,
         main_v4, main_v5, main_v6, main_v7, main_v8, main_v9} by decide]
  iterate 13 rw [SparseCore.bigSep_insert' (by decide)]
  iterate 13 rw [SparseCore.bigSep_insert' (by decide)]
  rw [bigSep_singleton, bigSep_singleton]

omit [FloatOps F] in
theorem held_S3 (d : Dev nD) (W : Valuation τ sig (Elt F)) :
    (held (SparseCore.T d) S14 W : sProp 𝕄)
      = iprop(((xLoc d ↦{fullShare} W xRef) ∗ (pLoc d ↦{fullShare} W pRef) ∗ (qLoc d ↦{fullShare} W qRef)) ∗ held (SparseCore.T d) (S14 \ S3) W) := by
  rw [held_sub_split (SparseCore.T d) (T := S3) (by decide)]
  congr 1
  unfold held S3
  rw [SparseCore.bigSep_insert' (by decide), SparseCore.bigSep_insert' (by decide), bigSep_singleton]

abbrev aLoc (d : Dev nD) : Loc nD τ sig := (SparseCore.T d).loc main_arg0
abbrev y1Loc (d : Dev nD) : Loc nD τ sig := (SparseCore.T d).loc main_v6
abbrev y2Loc (d : Dev nD) : Loc nD τ sig := (SparseCore.T d).loc main_v9

omit [FloatOps F] in
theorem held_R3 (d : Dev nD) (W : Valuation τ sig (Elt F)) :
    (held (SparseCore.T d) S14 W : sProp 𝕄)
      = iprop(((aLoc d ↦{fullShare} W aRef) ∗ (y1Loc d ↦{fullShare} W y1Ref) ∗ (y2Loc d ↦{fullShare} W y2Ref)) ∗ held (SparseCore.T d) (S14 \ R3) W) := by
  rw [held_sub_split (SparseCore.T d) (T := R3) (by decide)]
  congr 1
  unfold held R3
  rw [SparseCore.bigSep_insert' (by decide), SparseCore.bigSep_insert' (by decide), bigSep_singleton]

/-! ## What the buffers hold -/

/-- Before the call; the call's input. -/
def VIn (d : Dev nD) : Valuation τ sig (Elt F) := after opsIn (launchContents m d)
def XIn (d : Dev nD) : S32x128x256.Idx → F .f32 := VIn m d xRef

/-- After the call, its two outputs at `f` and `g`. -/
def VMid (d : Dev nD) (f g : S32x128x256.Idx → F .f32) : Valuation τ sig (Elt F) :=
  Function.update (Function.update (VIn m d) pRef f) qRef g

theorem VMid_x (d : Dev nD) (f g : S32x128x256.Idx → F .f32) : VMid m d f g xRef = XIn m d := by
  unfold VMid XIn
  rw [Function.update_of_ne (show xRef ≠ qRef by decide), Function.update_of_ne (show xRef ≠ pRef by decide)]
theorem VMid_a (d : Dev nD) (f g : S32x128x256.Idx → F .f32) : VMid m d f g aRef = VIn m d aRef := by
  unfold VMid
  rw [Function.update_of_ne (show aRef ≠ qRef by decide), Function.update_of_ne (show aRef ≠ pRef by decide)]
theorem VMid_p (d : Dev nD) (f g : S32x128x256.Idx → F .f32) : VMid m d f g pRef = f := by
  unfold VMid
  rw [Function.update_of_ne (show pRef ≠ qRef by decide), Function.update_self]
theorem VMid_q (d : Dev nD) (f g : S32x128x256.Idx → F .f32) : VMid m d f g qRef = g := by
  unfold VMid
  rw [Function.update_self]

theorem VMid_rest (d : Dev nD) (f g : S32x128x256.Idx → F .f32) :
    (held (SparseCore.T d) (S14 \ S3) (VMid m d f g) : sProp 𝕄) = held (SparseCore.T d) (S14 \ S3) (VIn m d) := by
  refine held_congr _ fun b hb => ?_
  have h3 : b ∉ S3 := (Finset.mem_sdiff.mp hb).2
  unfold VMid
  rw [Function.update_of_ne fun e => h3 (by rw [e]; decide), Function.update_of_ne fun e => h3 (by rw [e]; decide)]

/-- At the end. -/
def VEnd (d : Dev nD) (f g : S32x128x256.Idx → F .f32) : Valuation τ sig (Elt F) := after opsOut (VMid m d f g)

theorem opsIn_sub : ∀ op ∈ (opsIn (F := F)), op.bufs ⊆ S14 := by
  refine List.forall_iff_forall_mem.1 ?_
  exact ⟨show ({dref main_arg0, dref main_v0} : Finset (DevRef τ sig)) ⊆ S14 by decide,
    show ({dref main_c} : Finset (DevRef τ sig)) ⊆ S14 by decide,
    show ({dref main_c, dref main_call0_v0} : Finset (DevRef τ sig)) ⊆ S14 by decide,
    show ({dref main_v0, dref main_call0_v0, dref main_v1} : Finset (DevRef τ sig)) ⊆ S14 by decide,
    show ({dref main_v1, dref main_v2} : Finset (DevRef τ sig)) ⊆ S14 by decide⟩

theorem opsOut_sub : ∀ op ∈ (opsOut (F := F)), op.bufs ⊆ S14 := by
  refine List.forall_iff_forall_mem.1 ?_
  exact ⟨show ({dref main_v3_0, dref main_v4} : Finset (DevRef τ sig)) ⊆ S14 by decide,
    show ({dref main_v4, dref main_v5} : Finset (DevRef τ sig)) ⊆ S14 by decide,
    show ({dref main_v5, dref main_v6} : Finset (DevRef τ sig)) ⊆ S14 by decide,
    show ({dref main_v3_1, dref main_v7} : Finset (DevRef τ sig)) ⊆ S14 by decide,
    show ({dref main_v7, dref main_v8} : Finset (DevRef τ sig)) ⊆ S14 by decide,
    show ({dref main_v8, dref main_v9} : Finset (DevRef τ sig)) ⊆ S14 by decide⟩

theorem opsIn_fresh : ∀ op ∈ (opsIn (F := F)), op.fresh = ∅ := by
  intro _ h; (repeat (cases h with | head => rfl | tail _ h => ?_)); exact nomatch h
theorem opsOut_fresh : ∀ op ∈ (opsOut (F := F)), op.fresh = ∅ := by
  intro _ h; (repeat (cases h with | head => rfl | tail _ h => ?_)); exact nomatch h

/-- What the host is left with: the outputs as the tiles left them, the argument and the two results. -/
def FIN (d : Dev nD) : sProp 𝕄 :=
  iprop(∃ f g, ⌜(∀ w : Fin 32, Left1 (XIn m d) w.val f) ∧ ∀ w : Fin 32, Left2 (XIn m d) w.val g⌝
    ∗ (aLoc d ↦{fullShare} VEnd m d f g aRef) ∗ (y1Loc d ↦{fullShare} VEnd m d f g y1Ref) ∗ (y2Loc d ↦{fullShare} VEnd m d f g y2Ref))

theorem hmain (κ : GSem nD τ sig → ℕ) (d : Dev nD) :
    iprop((K (F := F)).ctx EH (P (XIn m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_parts]
  iintro ⟨#Hctx, Hst, ⟨Hb, Hheld, Hts, -⟩, -⟩
  iapply (wp_seq 𝒱 none Set.univ d S14 _ opsIn opsIn_sub opsIn_fresh (launchContents m d)) $$ [Hb Hheld]
  · isplitl [Hb] <;> iassumption
  iintro ⟨Hb, Hheld⟩
  ihave Hh := (Entails.of_eq (show (held (SparseCore.T d) S14 (after opsIn (launchContents m d)) : sProp 𝕄) = _ from held_S3 (F := F) d (VIn m d))) $$ Hheld
  icases Hh with ⟨⟨Hx, Hp, Hq⟩, Hrest⟩
  rw [wp_bind]
  iapply ((K (F := F)).wp_run (D (F := F)) 𝒱 (EH := EH) (P := P (XIn m)) κ d 0) $$ [Hst Hx Hp Hq Hb Hrest Hts]
  isplitr; · iexact Hctx
  isplitl [Hst]; · iexact Hst
  isplitl [Hx Hp Hq]
  · rw [st_all]
    iapply (deal (F := F) d (XIn m d) (VIn m d pRef) (VIn m d qRef))
    isplitl [Hx]; · iexact Hx
    isplitl [Hp] <;> iassumption
  iintro ⟨Hst, Hdn⟩
  ihave Hdn := (Entails.of_eq (dn_all (XIn m) d)) $$ Hdn
  ihave Hdn := (gather (F := F) d (XIn m d)) $$ Hdn
  icases Hdn with ⟨Hx, ⟨%f, %hf, Hp⟩, %g, %hg, Hq⟩
  ihave Hheld := (Entails.of_eq (held_S3 (F := F) d (VMid m d f g)).symm) $$ [Hx Hp Hq Hrest]
  · rw [VMid_rest, VMid_x, VMid_p, VMid_q]
    isplitl [Hx Hp Hq]
    · isplitl [Hx]; · iexact Hx
      isplitl [Hp] <;> iassumption
    · iexact Hrest
  iapply (wp_seq 𝒱 none Set.univ d S14 _ opsOut opsOut_sub opsOut_fresh (VMid m d f g)) $$ [Hb Hheld]
  · isplitl [Hb] <;> iassumption
  iintro ⟨Hb, Hheld⟩
  ihave Hh := (Entails.of_eq (show (held (SparseCore.T d) S14 (after opsOut (VMid m d f g)) : sProp 𝕄) = _ from held_R3 (F := F) d (VEnd m d f g))) $$ Hheld
  icases Hh with ⟨Hr, -⟩
  rw [wp_pure]; imodintro
  isplitl [Hst]; · iexact Hst
  isplitl [Hr]
  · unfold FIN
    iexists f; iexists g
    isplitr
    · ipureintro; exact ⟨hf, hg⟩
    · iexact Hr
  isplitl [Hb] <;> iassumption

/-- What the memory holds at the end. -/
def fq (d : Dev nD) (s' : Phys nD τ sig (Elt F)) : Prop :=
  ∃ f g, ((∀ w : Fin 32, Left1 (XIn m d) w.val f) ∧ ∀ w : Fin 32, Left2 (XIn m d) w.val g)
    ∧ s'.mem.mem (aLoc d) = VEnd m d f g aRef ∧ s'.mem.mem (y1Loc d) = VEnd m d f g y1Ref ∧ s'.mem.mem (y2Loc d) = VEnd m d f g y2Ref

theorem hfin (d : Dev nD) (s' : Phys nD τ sig (Elt F)) : iprop(FIN m d ∗ SI s') ⊢ (⌜fq m d s'⌝ : sProp 𝕄) := by
  unfold FIN
  iintro ⟨⟨%f, %g, %hl, Ha, Hy, Hz⟩, HSI⟩
  ihave H := (persistent_entails_right (SI_pointsTo_agree (st := s') (ℓ := aLoc d) (I := Finset.univ) (q := fullShare) (f := VEnd m d f g aRef))) $$ [HSI Ha]
  · isplitl [HSI] <;> iassumption
  icases H with ⟨%h1, HSI, -⟩
  ihave H := (persistent_entails_right (SI_pointsTo_agree (st := s') (ℓ := y1Loc d) (I := Finset.univ) (q := fullShare) (f := VEnd m d f g y1Ref))) $$ [HSI Hy]
  · isplitl [HSI] <;> iassumption
  icases H with ⟨%h2, HSI, -⟩
  ihave H := (SI_pointsTo_agree (st := s') (ℓ := y2Loc d) (I := Finset.univ) (q := fullShare) (f := VEnd m d f g y2Ref)) $$ [HSI Hz]
  · isplitl [HSI] <;> iassumption
  icases H with %h3
  ipureintro
  exact ⟨f, g, hl, funext fun i => h1 i (Finset.mem_univ i), funext fun i => h2 i (Finset.mem_univ i), funext fun i => h3 i (Finset.mem_univ i)⟩

def QC : PUnit × MemSt nD τ sig (Elt F) → Prop := fun r => (∀ d : Dev nD, ∃ f g,
    ((∀ w : Fin 32, Left1 (XIn m d) w.val f) ∧ ∀ w : Fin 32, Left2 (XIn m d) w.val g)
      ∧ r.2.mem (aLoc d) = VEnd m d f g aRef ∧ r.2.mem (y1Loc d) = VEnd m d f g y1Ref ∧ r.2.mem (y2Loc d) = VEnd m d f g y2Ref)
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XIn m)) (A := ∅) facts v₀
    (fun q hq => match q with | 0 => nomatch hq)
    (fun q _ => match q with | 0 => tileObl (XIn m) facts)
    (fun q _ => match q with | 0 => SparseCore.Cfg.VecSplit.of_plain (vecSplit (XIn m)))
    m ρ main (fun _ => iprop(emp)) (FIN m) (u₀ (F := F)) (sep_elim_left.trans (hu₀ (XIn m))) (hmain m ρ) (fq m) (hfin m) (QC m) (fun _ h hz => ⟨h, hz⟩)

end Cert.KernelIdeal.Hand
-- ==== Proof.HostVal.lean ====
/-
  What the host's operations around the call do to the values: the argument's rows reach the call as its input's, and
  the two outputs' rows reach the two results.
-/
module

public import proofs.«01_k».proof.Proof.Host

@[expose] public section

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## Cells -/

/-- Row `b`, cell `p` of the argument and of the results. -/
def rcell (b p : ℕ) : S4096x1x14x14.Idx :=
  fun a => match a with
    | 0 => ⟨b % 4096, Nat.mod_lt _ (by decide)⟩
    | 1 => ⟨0, by decide⟩
    | 2 => ⟨p / 14 % 14, Nat.mod_lt _ (by decide)⟩
    | 3 => ⟨p % 14, Nat.mod_lt _ (by decide)⟩

/-- The same in the arrays with one row of cells per map. -/
def fcell (b p : ℕ) : S4096x196.Idx :=
  fun a => match a with
    | 0 => ⟨b % 4096, Nat.mod_lt _ (by decide)⟩
    | 1 => ⟨p % 196, Nat.mod_lt _ (by decide)⟩
def wcell (b p : ℕ) : S4096x256.Idx :=
  fun a => match a with
    | 0 => ⟨b % 4096, Nat.mod_lt _ (by decide)⟩
    | 1 => ⟨p % 256, Nat.mod_lt _ (by decide)⟩

theorem rcell_all (j : S4096x1x14x14.Idx) : j = rcell (j 0).val (14 * (j 2).val + (j 3).val) := by
  have h0 : (j 0).val < 4096 := (j 0).isLt
  have h1 : (j 1).val < 1 := (j 1).isLt
  have h2 : (j 2).val < 14 := (j 2).isLt
  have h3 : (j 3).val < 14 := (j 3).isLt
  funext a
  refine Fin.ext ?_
  match a with
  | 0 => show (j 0).val = (j 0).val % 4096; omega
  | 1 => show (j 1).val = 0; omega
  | 2 => show (j 2).val = (14 * (j 2).val + (j 3).val) / 14 % 14; omega
  | 3 => show (j 3).val = (14 * (j 2).val + (j 3).val) % 14; omega

theorem flat_place (h : S4096x196.numel = S4096x1x14x14.numel) {b p : ℕ} (hp : p < 196) :
    Shape.reshapeEquiv h (fcell b p) = rcell b p := by
  refine Shape.reshapeEquiv_eq_of_rowMajor _ ?_
  rw [Shape.rowMajor_val_four, Shape.rowMajor_val_two]
  show (((b % 4096) * 1 + 0) * 14 + p / 14 % 14) * 14 + p % 14 = (b % 4096) * 196 + p % 196
  omega
theorem unflat_place (h : S4096x1x14x14.numel = S4096x196.numel) {b p : ℕ} (hp : p < 196) :
    Shape.reshapeEquiv h (rcell b p) = fcell b p := by
  refine Shape.reshapeEquiv_eq_of_rowMajor _ ?_
  rw [Shape.rowMajor_val_four, Shape.rowMajor_val_two]
  show (b % 4096) * 196 + p % 196 = (((b % 4096) * 1 + 0) * 14 + p / 14 % 14) * 14 + p % 14
  omega
theorem tiled_place (h : S32x128x256.numel = S4096x256.numel) {b p : ℕ} (hb : b < 4096) (hp : p < 256) :
    Shape.reshapeEquiv h (gcell (b / 128) b p) = wcell b p := by
  refine Shape.reshapeEquiv_eq_of_rowMajor _ ?_
  rw [Shape.rowMajor_val_three, Shape.rowMajor_val_two]
  show (b % 4096) * 256 + p % 256 = (b / 128 % 32 * 128 + b % 128) * 256 + p % 256
  omega
theorem untiled_place (h : S4096x256.numel = S32x128x256.numel) {b p : ℕ} (hb : b < 4096) (hp : p < 256) :
    Shape.reshapeEquiv h (wcell b p) = gcell (b / 128) b p := by
  refine Shape.reshapeEquiv_eq_of_rowMajor _ ?_
  rw [Shape.rowMajor_val_three, Shape.rowMajor_val_two]
  show (b / 128 % 32 * 128 + b % 128) * 256 + p % 256 = (b % 4096) * 256 + p % 256
  omega

theorem slice_place {b p : ℕ} (hp : p < 196) (x : S4096x256.Idx → F .f32) :
    extractStridedSlice S4096x196 ![0, 0] x slices_S4096x256_S4096x196_0_0 (fcell b p) = x (wcell b p) := by
  refine congrArg x (funext fun a => Fin.ext ?_)
  match a with
  | 0 => show 0 + b % 4096 = b % 4096; omega
  | 1 => show 0 + p % 196 = p % 256; omega

theorem pad_place {b p : ℕ} (hp : p < 196) (x : S4096x196.Idx → F .f32) (v : S_.Idx → F .f32) :
    pad S4096x256 ![0, 0] ![0, 60] ![0, 0] x v pads_S4096x196_S4096x256_000_0600 h_S_ (wcell b p) = x (fcell b p) := by
  have hin : ∀ a : Fin S4096x196.rank, (![0, 0] : Fin 2 → ℕ) a ≤ (wcell b p (a.cast rfl)).val
      ∧ ((wcell b p (a.cast rfl)).val - (![0, 0] : Fin 2 → ℕ) a) % ((![0, 0] : Fin 2 → ℕ) a + 1) = 0
      ∧ ((wcell b p (a.cast rfl)).val - (![0, 0] : Fin 2 → ℕ) a) / ((![0, 0] : Fin 2 → ℕ) a + 1) < S4096x196.size a := by
    intro a
    match a with
    | 0 => show 0 ≤ b % 4096 ∧ (b % 4096 - 0) % (0 + 1) = 0 ∧ (b % 4096 - 0) / (0 + 1) < 4096; omega
    | 1 => show 0 ≤ p % 256 ∧ (p % 256 - 0) % (0 + 1) = 0 ∧ (p % 256 - 0) / (0 + 1) < 196; omega
  refine (dif_pos hin).trans (congrArg x (funext fun a => Fin.ext ?_))
  match a with
  | 0 => show (b % 4096 - 0) / (0 + 1) = b % 4096; omega
  | 1 => show (p % 256 - 0) / (0 + 1) = p % 196; omega

/-! ## The buffers -/

section After

variable (V : Valuation τ sig (Elt F))

theorem in_a : after opsIn V aRef = V aRef := by
  simp only [opsIn]
  after_results

theorem in_x : after opsIn V xRef = shapeCast S32x128x256 (pad S4096x256 ![0, 0] ![0, 60] ![0, 0]
    (shapeCast S4096x196 (V aRef : S4096x1x14x14.Idx → F .f32) shapeCasts_S4096x1x14x14_S4096x196) (sitofp .f32 (constantI S_ 32 0#32))
    pads_S4096x196_S4096x256_000_0600 h_S_) shapeCasts_S4096x256_S32x128x256 := by
  simp only [opsIn, TRef.unary, TRef.binary, TRef.toBuf, TRef.ofBuf, cast_eq]
  after_results
  rfl

theorem out_a : after opsOut V aRef = V aRef := by
  simp only [opsOut]
  after_results

theorem out_y1 : after opsOut V y1Ref = shapeCast S4096x1x14x14 (extractStridedSlice S4096x196 ![0, 0]
    (shapeCast S4096x256 (V pRef : S32x128x256.Idx → F .f32) shapeCasts_S32x128x256_S4096x256) slices_S4096x256_S4096x196_0_0)
    shapeCasts_S4096x196_S4096x1x14x14 := by
  simp only [opsOut]
  after_results
  rfl

theorem out_y2 : after opsOut V y2Ref = shapeCast S4096x1x14x14 (extractStridedSlice S4096x196 ![0, 0]
    (shapeCast S4096x256 (V qRef : S32x128x256.Idx → F .f32) shapeCasts_S32x128x256_S4096x256) slices_S4096x256_S4096x196_0_0)
    shapeCasts_S4096x196_S4096x1x14x14 := by
  simp only [opsOut]
  after_results
  rfl

end After

/-- A result's cell is the output's. -/
theorem result_place (f : S32x128x256.Idx → F .f32) {b p : ℕ} (hb : b < 4096) (hp : p < 196) :
    shapeCast S4096x1x14x14 (extractStridedSlice S4096x196 ![0, 0]
      (shapeCast S4096x256 f shapeCasts_S32x128x256_S4096x256) slices_S4096x256_S4096x196_0_0)
      shapeCasts_S4096x196_S4096x1x14x14 (rcell b p) = f (gcell (b / 128) b p) := by
  unfold shapeCast
  rw [unflat_place _ hp, slice_place hp, untiled_place _ hb (by omega)]

variable (m : (ℓ : Loc nD τ sig) → Buf (Elt F) ℓ) (d : Dev nD)

/-- The argument. -/
def argOf : S4096x1x14x14.Idx → F .f32 := m (aLoc d)

/-- The call's input holds the argument's rows. -/
theorem XIn_place {b p : ℕ} (hb : b < 4096) (hp : p < 196) : XIn m d (gcell (b / 128) b p) = argOf m d (rcell b p) := by
  unfold XIn VIn
  rw [in_x]
  unfold shapeCast
  rw [tiled_place _ hb (by omega), pad_place hp, flat_place _ hp]
  rfl

theorem VEnd_a (f g : S32x128x256.Idx → F .f32) : VEnd m d f g aRef = m (aLoc d) := by
  unfold VEnd
  rw [out_a, VMid_a]
  unfold VIn
  rw [in_a]

theorem gcell_mod (w e p : ℕ) : gcell w (e % 128) p = gcell w e p := by
  funext a
  match a with
  | 0 => rfl
  | 1 => exact Fin.ext (Nat.mod_mod e 128)
  | 2 => rfl

/-- A row of the argument, as the reference's mathematics reads it. -/
def rowOf (a : S4096x1x14x14.Idx → F .f32) (b : ℕ) (p : ℕ) : F .f32 := a (rcell b p)

/-- The two results, as functions of the argument. -/
def out1 (a : S4096x1x14x14.Idx → F .f32) : S4096x1x14x14.Idx → F .f32 :=
  fun j => map1 (rowOf a (j 0).val) (14 * (j 2).val + (j 3).val)
def out2 (a : S4096x1x14x14.Idx → F .f32) : S4096x1x14x14.Idx → F .f32 :=
  fun j => map2 (rowOf a (j 0).val) (14 * (j 2).val + (j 3).val)

theorem VEnd_y1 (f g : S32x128x256.Idx → F .f32) (hf : ∀ w : Fin 32, Left1 (XIn m d) w.val f) :
    VEnd m d f g y1Ref = out1 (argOf m d) := by
  unfold VEnd
  rw [out_y1, VMid_p]
  funext j
  have h0 : (j 0).val < 4096 := (j 0).isLt
  have h2 : (j 2).val < 14 := (j 2).isLt
  have h3 : (j 3).val < 14 := (j 3).isLt
  conv_lhs => rw [rcell_all j]
  rw [result_place f h0 (by omega), ← gcell_mod,
    hf ⟨(j 0).val / 128, by omega⟩ ((j 0).val % 128) _ (Nat.mod_lt _ (by decide)) (by omega)]
  refine map1_congr (fun p hp => ?_) _
  rw [gcell_mod]
  exact XIn_place m d h0 hp

theorem VEnd_y2 (f g : S32x128x256.Idx → F .f32) (hg : ∀ w : Fin 32, Left2 (XIn m d) w.val g) :
    VEnd m d f g y2Ref = out2 (argOf m d) := by
  unfold VEnd
  rw [out_y2, VMid_q]
  funext j
  have h0 : (j 0).val < 4096 := (j 0).isLt
  have h2 : (j 2).val < 14 := (j 2).isLt
  have h3 : (j 3).val < 14 := (j 3).isLt
  conv_lhs => rw [rcell_all j]
  rw [result_place g h0 (by omega), ← gcell_mod,
    hg ⟨(j 0).val / 128, by omega⟩ ((j 0).val % 128) _ (Nat.mod_lt _ (by decide)) (by omega)]
  refine map2_congr (fun p hp => ?_) _
  rw [gcell_mod]
  exact XIn_place m d h0 hp

/-- The whole program's run: the two results as functions of the argument, the argument unchanged. -/
theorem run_values [∀ e, Nonempty (Elt F e)] (ρ : Dev nD → PrngReg) :
    θ_run (Cert.KernelIdeal.defs (F := F)) (Cert.KernelIdeal.threads (F := F)) ⟨m, fun _ => 0, ρ⟩ fun r =>
      (∀ d : Dev nD, r.2.mem ((d.tc : Thread nD τ).loc main_v6) = out1 (argOf m d)
        ∧ r.2.mem ((d.tc : Thread nD τ).loc main_v9) = out2 (argOf m d)
        ∧ r.2.mem ((d.tc : Thread nD τ).loc main_arg0) = m ((d.tc : Thread nD τ).loc main_arg0))
      ∧ r.2.sem = fun _ => 0 :=
  (θ_run (Cert.KernelIdeal.defs (F := F)) _ _).mono (fun r h => ⟨fun d => by
      obtain ⟨f, g, ⟨hf, hg⟩, ha, h1, h2⟩ := h.1 d
      exact ⟨h1.trans (VEnd_y1 m d f g hf), h2.trans (VEnd_y2 m d f g hg), ha.trans (VEnd_a m d f g)⟩, h.2⟩) (run_main m ρ)

end Cert.KernelIdeal.Hand
-- ==== Proof.Frames.lean ====
/-
  The three programs' frames: each ends, the argument as it was, every counter at zero.
-/
module

public import proofs.«01_k».proof.Defs
public import proofs.«01_k».proof.Proof.HostVal
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

instance kernelFacts : Cert.Kernel.Facts := Cert.Kernel.Gen.facts
instance idealFacts : Cert.KernelIdeal.Facts := Cert.KernelIdeal.Gen.facts
instance refFacts : Cert.ReferenceIdeal.Facts := Cert.ReferenceIdeal.Gen.facts

theorem frame_ideal : Cert.quiescent_KernelIdeal := fun m ρ _ =>
  (θ_run Cert.KernelIdeal.defs _ _).mono (fun _ h => ⟨fun c => (h.1 c).2.2, h.2⟩)
    (Cert.KernelIdeal.Hand.run_values (F := Ideal) m ρ)

/-- The program read at bit patterns has the same text. -/
theorem frame_kernel : Cert.quiescent_Kernel := fun m ρ _ =>
  (θ_run Cert.KernelIdeal.defs _ _).mono (fun _ h => ⟨fun c => (h.1 c).2.2, h.2⟩)
    (Cert.KernelIdeal.Hand.run_values (F := Bits) m ρ)

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof
-- ==== Proof.Best.lean ====
/-
  Over the extended reals: the scan picks the first cell at which the thresholded row's maximum stands, and
  suppressing then thresholding is thresholding then suppressing.
-/
module

public import proofs.«01_k».proof.Proof.Spec
public import Idealize.ShloMosaic.PureOps.Ideal

@[expose] public section

noncomputable section

namespace Cert.KernelIdeal.Hand

open Cert.KernelIdeal Cert.KernelIdeal.Gen
open Idealize.ShloMosaic Idealize.SL.Sem

/-- The row's values as extended reals. -/
abbrev RowE := ℕ → Ideal .f32

abbrev thrE : EReal := thr1 (F := Ideal)

theorem thrE_pos : (0 : EReal) < thrE := by
  show (0 : EReal) < Ideal.ofBits .f32 0x3F19999A#32
  simp [Ideal.ofBits, Ideal.ieee, -EReal.coe_mul]

theorem zero1_eq : (zero1 (F := Ideal) : EReal) = 0 := by
  show Ideal.ofBits .f32 0x00000000#32 = 0
  simp [Ideal.ofBits, Ideal.ieee]

theorem one1_eq : (one1 (F := Ideal) : EReal) = 1 := by
  show Ideal.ofBits .f32 0x3F800000#32 = 1
  simp [Ideal.ofBits, Ideal.ieee, -EReal.coe_mul]
  norm_num

theorem ogt_iff (x y : EReal) : FloatOps.cmpf (F := Ideal) (φ := .f32) .ogt x y = 1 ↔ y < x := by
  show BitVec.ofBool (decide (y < x)) = 1 ↔ _
  by_cases h : y < x <;> simp [h]

theorem oeq_iff (x y : EReal) : FloatOps.cmpf (F := Ideal) (φ := .f32) .oeq x y = 1 ↔ x = y := by
  show BitVec.ofBool (decide (x = y)) = 1 ↔ _
  by_cases h : x = y <;> simp [h]

/-- The thresholded row. -/
def thS (r : RowE) (p : ℕ) : EReal := if thrE < r p then r p else 0

/-- Cell `i` is the first of the 196 at which the maximum of `g` stands. -/
def FirstMax (n : ℕ) {α : Type} [LinearOrder α] (g : ℕ → α) (i : ℕ) : Prop :=
  i < n ∧ (∀ p < n, g p ≤ g i) ∧ ∀ p < i, g p < g i

/-- What is held after the cells of `S`: the threshold, if none exceeds it; or their first maximum. -/
def Held (r : RowE) (S : ℕ → Prop) (st : EReal × ℕ) : Prop :=
  (st = (thrE, 0) ∧ ∀ p, S p → r p ≤ thrE)
    ∨ (S st.2 ∧ st.1 = r st.2 ∧ thrE < st.1 ∧ (∀ p, S p → r p ≤ st.1) ∧ ∀ p, S p → r p = st.1 → st.2 ≤ p)

theorem Held.congr {r : RowE} {S T : ℕ → Prop} {st : EReal × ℕ} (h : Held r S st) (e : ∀ p, S p ↔ T p) : Held r T st := by
  have : S = T := funext fun p => propext (e p)
  exact this ▸ h

theorem Held.step {r : RowE} {S : ℕ → Prop} {st : EReal × ℕ} (h : Held r S st) {q : ℕ} (hq : ∀ p, S p → p < q) :
    Held r (fun p => S p ∨ p = q) (stepS r st q) := by
  unfold stepS
  simp only [ogt_iff]
  split
  · next hc =>
    right
    have hall : ∀ p, S p → r p ≤ st.1 := by
      rcases h with ⟨e, h⟩ | ⟨-, -, -, h, -⟩
      · intro p hp; rw [e]; exact h p hp
      · exact h
    have hthr : thrE ≤ st.1 := by
      rcases h with ⟨e, -⟩ | ⟨-, -, h, -, -⟩
      · rw [e]
      · exact h.le
    refine ⟨Or.inr rfl, rfl, hthr.trans_lt hc, ?_, ?_⟩
    · rintro p (hp | rfl)
      · exact (hall p hp).trans hc.le
      · exact le_rfl
    · rintro p (hp | rfl) e
      · exact absurd (le_of_eq_of_le (Eq.symm e) (hall p hp)) (not_le.2 hc)
      · exact le_rfl
  · next hc =>
    rw [not_lt] at hc
    rcases h with ⟨e, h⟩ | ⟨h1, h2, h3, h4, h5⟩
    · left
      refine ⟨e, ?_⟩
      rintro p (hp | rfl)
      · exact h p hp
      · rw [e] at hc; exact hc
    · right
      refine ⟨Or.inl h1, h2, h3, ?_, ?_⟩
      · rintro p (hp | rfl)
        · exact h4 p hp
        · exact hc
      · rintro p (hp | rfl) e
        · exact h5 p hp e
        · exact (hq _ h1).le

theorem Held.better {r : RowE} {S T : ℕ → Prop} {a b : EReal × ℕ} (ha : Held r S a) (hb : Held r T b) :
    Held r (fun p => S p ∨ T p) (betterS (F := Ideal) a b) := by
  unfold betterS
  simp only [ogt_iff, oeq_iff]
  rcases ha with ⟨ea, ha⟩ | ⟨a1, a2, a3, a4, a5⟩ <;> rcases hb with ⟨eb, hb⟩ | ⟨b1, b2, b3, b4, b5⟩
  · rw [if_neg (by rw [ea, eb]; simp)]
    left
    exact ⟨ea, fun p hp => hp.elim (ha p) (hb p)⟩
  · rw [if_pos (Or.inl (by rw [ea]; exact b3))]
    right
    refine ⟨Or.inr b1, b2, b3, fun p hp => hp.elim (fun h => (ha p h).trans b3.le) (b4 p), ?_⟩
    rintro p (hp | hp) e
    · exact absurd (e ▸ ha p hp) (not_le.2 b3)
    · exact b5 p hp e
  · rw [if_neg (by
      rw [eb]
      rintro (h | ⟨h, -⟩)
      · exact absurd h a3.not_gt
      · exact absurd h a3.ne)]
    right
    refine ⟨Or.inl a1, a2, a3, fun p hp => hp.elim (a4 p) (fun h => (hb p h).trans a3.le), ?_⟩
    rintro p (hp | hp) e
    · exact a5 p hp e
    · exact absurd (e ▸ hb p hp) (not_le.2 a3)
  · right
    split
    · next hc =>
      have hle : a.1 ≤ b.1 := hc.elim le_of_lt fun h => h.1.symm.le
      refine ⟨Or.inr b1, b2, b3, fun p hp => hp.elim (fun h => (a4 p h).trans hle) (b4 p), ?_⟩
      rintro p (hp | hp) e
      · rcases hc with hc | ⟨hc, hi⟩
        · exact absurd (e ▸ a4 p hp) (not_le.2 hc)
        · exact hi.le.trans (a5 p hp (e.trans hc))
      · exact b5 p hp e
    · next hc =>
      rw [not_or, not_lt, not_and] at hc
      refine ⟨Or.inl a1, a2, a3, fun p hp => hp.elim (a4 p) (fun h => (b4 p h).trans hc.1), ?_⟩
      rintro p (hp | hp) e
      · exact a5 p hp e
      · have hba : b.1 = a.1 := le_antisymm hc.1 (e ▸ b4 p hp)
        exact (not_lt.1 (hc.2 hba)).trans (b5 p hp (e.trans hba.symm))

theorem colS_held (r : RowE) (j : ℕ) (hj : j < 14) (k : ℕ) : Held r (fun p => p % 14 = j ∧ p / 14 < k) (colS r j k) := by
  induction k with
  | zero => exact Or.inl ⟨rfl, fun p hp => absurd hp.2 (Nat.not_lt_zero _)⟩
  | succ k ih =>
    refine (ih.step (q := 14 * k + j) fun p hp => ?_).congr fun p => ?_
    · omega
    · omega

/-- The scan's state when it ends. -/
theorem best_held (r : RowE) : Held r (fun p => p < 196) (bestS fun j => colS r j.val 14) := by
  have c := fun j : Fin 14 => colS_held r j.val j.isLt 14
  refine ((((((c 0).better (c 1)).better ((c 2).better (c 3))).better (((c 4).better (c 5)).better ((c 6).better (c 7)))).better
    ((((c 8).better (c 9)).better ((c 10).better (c 11))).better ((c 12).better (c 13))))).congr fun p => ?_
  simp only [Fin.isValue, Fin.val_zero, Fin.val_one, Fin.reduceFinMk]
  constructor
  · intro h; omega
  · intro h
    have hd : p / 14 < 14 := by omega
    have hm : p % 14 < 14 := Nat.mod_lt _ (by decide)
    simp only [hd, and_true]
    generalize p % 14 = q at hm
    interval_cases q <;> decide

/-- The scan picks the thresholded row's first maximum. -/
theorem pickS_first (r : RowE) : FirstMax 196 (thS r) (pickS r) := by
  refine ⟨pickS_lt r, ?_⟩
  unfold pickS
  rcases best_held r with ⟨e, h⟩ | ⟨h1, h2, h3, h4, h5⟩
  · have h0 : ∀ p < 196, thS r p = 0 := fun p hp => if_neg (not_lt.2 (h p hp))
    rw [e]
    exact ⟨fun p hp => by rw [h0 p hp, h0 0 (by decide)], fun p hp => absurd hp (Nat.not_lt_zero _)⟩
  · generalize (bestS fun j : Fin 14 => colS r j.val 14) = st at *
    have hi : thS r st.2 = st.1 := by unfold thS; rw [if_pos (h2 ▸ h3), h2]
    have hle : ∀ p < 196, thS r p ≤ st.1 := fun p hp => by
      unfold thS
      split
      · exact h4 p hp
      · exact thrE_pos.le.trans h3.le
    rw [hi]
    refine ⟨hle, fun p hp => lt_of_le_of_ne (hle p (hp.trans h1)) fun e => ?_⟩
    unfold thS at e
    split at e
    · exact absurd (h5 p (hp.trans h1) e) (not_le.2 hp)
    · exact absurd e (thrE_pos.trans h3).ne

/-- Suppression commutes with the threshold. -/
theorem thS_sup (r : RowE) (m p : ℕ) : thS (supS r m) p = if Near 100 m p then 0 else thS r p := by
  unfold thS supS
  split
  · rw [zero1_eq, if_neg (not_lt.2 thrE_pos.le)]
  · rfl

/-- The window's count is no condition on a cell of the map. -/
theorem near_iff {m p : ℕ} (hm : m < 196) (hp : p < 196) :
    Near 100 m p ↔ m / 14 ≤ p / 14 + 5 ∧ p / 14 < m / 14 + 5 ∧ m % 14 ≤ p % 14 + 5 ∧ p % 14 < m % 14 + 5 := by
  unfold Near
  omega

/-! ## The farthest two -/

/-- The six pairs of points, in their order, each with its squared distance. -/
def pairAt (n : ℕ → ℕ) : ℕ → PairS
  | 0 => ⟨dist2 (px (n 0)) (py (n 0)) (px (n 1)) (py (n 1)), px (n 0), py (n 0), px (n 1), py (n 1)⟩
  | 1 => ⟨dist2 (px (n 0)) (py (n 0)) (px (n 2)) (py (n 2)), px (n 0), py (n 0), px (n 2), py (n 2)⟩
  | 2 => ⟨dist2 (px (n 0)) (py (n 0)) (px (n 3)) (py (n 3)), px (n 0), py (n 0), px (n 3), py (n 3)⟩
  | 3 => ⟨dist2 (px (n 1)) (py (n 1)) (px (n 2)) (py (n 2)), px (n 1), py (n 1), px (n 2), py (n 2)⟩
  | 4 => ⟨dist2 (px (n 1)) (py (n 1)) (px (n 3)) (py (n 3)), px (n 1), py (n 1), px (n 3), py (n 3)⟩
  | _ => ⟨dist2 (px (n 2)) (py (n 2)) (px (n 3)) (py (n 3)), px (n 2), py (n 2), px (n 3), py (n 3)⟩

/-- The farther of two, the first if they are equally far. -/
def farther (a b : PairS) : PairS := if a.d < b.d then b else a

theorem far_step {c : ℕ → PairS} {k : ℕ} {a : PairS} (h : ∃ i, FirstMax k (fun i => (c i).d) i ∧ a = c i) :
    ∃ i, FirstMax (k + 1) (fun i => (c i).d) i ∧ farther a (c k) = c i := by
  obtain ⟨i, ⟨h1, h2, h3⟩, rfl⟩ := h
  unfold farther
  split
  · next hc =>
    refine ⟨k, ⟨Nat.lt_succ_self k, fun p hp => ?_, fun p hp => (h2 p hp).trans_lt hc⟩, rfl⟩
    rcases Nat.lt_succ_iff_lt_or_eq.1 hp with h | rfl
    · exact (h2 p h).trans hc.le
    · exact le_rfl
  · next hc =>
    refine ⟨i, ⟨h1.trans (Nat.lt_succ_self k), fun p hp => ?_, h3⟩, rfl⟩
    rcases Nat.lt_succ_iff_lt_or_eq.1 hp with h | rfl
    · exact h2 p h
    · exact not_lt.1 hc

theorem dist2_nonneg (xa ya xb yb : ℤ) : 0 ≤ dist2 xa ya xb yb := by
  unfold dist2
  exact add_nonneg (mul_self_nonneg _) (mul_self_nonneg _)

/-- The two held at the end are those of the first pair at which the greatest distance stands. -/
theorem farS_first (n : ℕ → ℕ) :
    ∃ i, FirstMax 6 (fun i => (pairAt n i).d) i ∧ farS (n 0) (n 1) (n 2) (n 3) = pairAt n i := by
  have h1 : ∃ i, FirstMax 1 (fun i => (pairAt n i).d) i
      ∧ (PairS.mk (-1) (px (n 0)) (py (n 0)) (px (n 1)) (py (n 1))).try (px (n 0)) (py (n 0)) (px (n 1)) (py (n 1)) = pairAt n i := by
    refine ⟨0, ⟨Nat.zero_lt_one, fun p hp => ?_, fun p hp => absurd hp (Nat.not_lt_zero _)⟩, ?_⟩
    · rw [Nat.lt_one_iff.1 hp]
    · unfold PairS.try
      rw [if_pos (by have := dist2_nonneg (px (n 0)) (py (n 0)) (px (n 1)) (py (n 1)); show (-1 : ℤ) < _; omega)]
      rfl
  exact far_step (far_step (far_step (far_step (far_step h1))))

/-- Being nearer to the first point, as the squared distances compare. -/
theorem first_iff (q : PairS) (p : ℕ) : q.First p ↔ (px p - q.x1) * (px p - q.x1) + (py p - q.y1) * (py p - q.y1)
    < (px p - q.x2) * (px p - q.x2) + (py p - q.y2) * (py p - q.y2) := by
  unfold PairS.First PairS.ax PairS.ay PairS.kk
  constructor <;> intro h <;> nlinarith [h]

end Cert.KernelIdeal.Hand
-- ==== Proof.Ref.lean ====
/-
  The reference's vectors, read at one row: each of its steps as a function of vectors, and what it holds in the row's
  cells.
-/
module

public import proofs.«01_k».proof.Proof.Lanes
public import proofs.«01_k».proof.Proof.Best
public import proofs.«01_k».proof.Proof.HostVal
public import proofs.«01_k».proof.Proof.Gen.ReferenceIdeal
public import proofs.«01_k».proof.Proof.Gen.ReferenceIdeal.Run
public import Idealize.ShloMosaic.PureOps.Ideal.Laws
public import Idealize.ShloMosaic.Lib.Pipeline.Value

@[expose] public section

noncomputable section

namespace Cert.ReferenceIdeal.Hand

open Cert.ReferenceIdeal Cert.ReferenceIdeal.Gen Cert.ReferenceIdeal.Value Cert.KernelIdeal.Hand
open Idealize.ShloMosaic Idealize.SL.Sem

/-! ## Folds -/

/-- A fold whose value `a` absorbs the start and every other term. -/
theorem fold_absorb {α ι : Type} [DecidableEq ι] (f : α → α → α) [Std.Commutative f] [Std.Associative f] (s : Finset ι) (g : ι → α)
    {a init : α} {k0 : ι} (h0 : k0 ∈ s) (e : g k0 = a) (hi : f a init = a) (hg : ∀ k ∈ s, k ≠ k0 → f a (g k) = a) :
    s.fold f init g = a := by
  have h : ∀ t : Finset ι, (∀ k ∈ t, f a (g k) = a) → f a (t.fold f init g) = a := by
    intro t
    induction t using Finset.induction_on with
    | empty => intro _; exact hi
    | insert k t hk ih =>
      intro h
      rw [Finset.fold_insert hk, ← Std.Associative.assoc (op := f), h k (Finset.mem_insert_self k t),
        ih fun q hq => h q (Finset.mem_insert_of_mem hq)]
  rw [← Finset.insert_erase h0, Finset.fold_insert (Finset.notMem_erase k0 s), e]
  exact h _ fun k hk => hg k (Finset.mem_of_mem_erase hk) (Finset.ne_of_mem_erase hk)

/-! ## Words -/

theorem wI_nat (n : ℕ) : wI (n : ℤ) = wN n := BitVec.ofInt_natCast 32 n
theorem wI_sub (a b : ℤ) : wI a - wI b = wI (a - b) := by
  apply BitVec.eq_of_toInt_eq
  simp [BitVec.toInt_sub, BitVec.toInt_ofInt]
theorem wI_add (a b : ℤ) : wI a + wI b = wI (a + b) := (BitVec.ofInt_add a b).symm
theorem wI_mul (a b : ℤ) : wI a * wI b = wI (a * b) := (BitVec.ofInt_mul a b).symm

theorem minsi_wN {a b : ℕ} (h : a ≤ b) (hb : b < 2147483648) : IntOp.minsi (wN a) (wN b) = wN a := by
  unfold IntOp.minsi
  rw [slt_wN (by omega) hb]
  by_cases e : a < b
  · simp [e]
  · rw [show a = b by omega]; simp

theorem maxsi_wI {a b : ℤ} (h : b ≤ a) (ha : a < 2147483648) (hb : -2147483648 ≤ b) : IntOp.maxsi (wI a) (wI b) = wI a := by
  unfold IntOp.maxsi
  rw [slt_wI ⟨hb, by omega⟩ ⟨by omega, ha⟩]
  by_cases e : b < a
  · simp [e]
  · rw [show a = b by omega]; simp

theorem wI_inj {a b : ℤ} (ha : -2147483648 ≤ a ∧ a < 2147483648) (hb : -2147483648 ≤ b ∧ b < 2147483648) (h : wI a = wI b) : a = b := by
  have := congrArg BitVec.toInt h
  rwa [BitVec.toInt_ofInt_eq_self (by decide) (by norm_num; omega) (by norm_num; omega),
    BitVec.toInt_ofInt_eq_self (by decide) (by norm_num; omega) (by norm_num; omega)] at this

theorem wN_inj {a b : ℕ} (ha : a < 4294967296) (hb : b < 4294967296) (h : wN a = wN b) : a = b := by
  rw [← wN_toNat ha, ← wN_toNat hb, h]

theorem cmpi_eq_one {x y : BitVec 32} : IntOp.cmpi .eq x y = 1 ↔ x = y := by
  exact (ofBool_one _).trans beq_iff_eq

/-! ## Cells -/

def one (b : ℕ) : S4096.Idx := fun a => match a with | 0 => ⟨b % 4096, Nat.mod_lt _ (by decide)⟩
def pos (p : ℕ) : S196.Idx := fun a => match a with | 0 => ⟨p % 196, Nat.mod_lt _ (by decide)⟩
def num (k : ℕ) : S6.Idx := fun a => match a with | 0 => ⟨k % 6, Nat.mod_lt _ (by decide)⟩
def scell (b k : ℕ) : S4096x6.Idx :=
  fun a => match a with
    | 0 => ⟨b % 4096, Nat.mod_lt _ (by decide)⟩
    | 1 => ⟨k % 6, Nat.mod_lt _ (by decide)⟩

section Broadcasts

variable {α : Type}

/-- A vector over the rows, spread over a row's cells; one over the cells, spread over the rows. -/
def overCells (x : S4096.Idx → α) : S4096x196.Idx → α :=
  broadcastInDim S4096x196 ![0, 1] bcast_S4096x1_S4096x196_0_1 (broadcastInDim S4096x1 ![0] bcast_S4096_S4096x1_0 x)
def overRows (x : S1x196.Idx → α) : S4096x196.Idx → α := broadcastInDim S4096x196 ![0, 1] bcast_S1x196_S4096x196_0_1 x
def flat1 (x : S196.Idx → α) : S1x196.Idx → α := broadcastInDim S1x196 ![1] bcast_S196_S1x196_1 x
def overSix (x : S4096.Idx → α) : S4096x6.Idx → α :=
  broadcastInDim S4096x6 ![0, 1] bcast_S4096x1_S4096x6_0_1 (broadcastInDim S4096x1 ![0] bcast_S4096_S4096x1_0 x)
def sixOver (x : S6.Idx → α) : S4096x6.Idx → α :=
  broadcastInDim S4096x6 ![0, 1] bcast_S1x6_S4096x6_0_1 (broadcastInDim S1x6 ![1] bcast_S6_S1x6_1 x)

theorem overCells_ap (x : S4096.Idx → α) (b p : ℕ) : overCells x (fcell b p) = x (one b) :=
  congrArg x (funext fun a => match a with | 0 => rfl)
theorem overRows_ap (x : S196.Idx → α) (b p : ℕ) : overRows (flat1 x) (fcell b p) = x (pos p) :=
  congrArg x (funext fun a => match a with | 0 => rfl)
theorem overSix_ap (x : S4096.Idx → α) (b k : ℕ) : overSix x (scell b k) = x (one b) :=
  congrArg x (funext fun a => match a with | 0 => rfl)
theorem sixOver_ap (x : S6.Idx → α) (b k : ℕ) : sixOver x (scell b k) = x (num k) :=
  congrArg x (funext fun a => match a with | 0 => rfl)

end Broadcasts

/-! ## The two coordinates -/

section Coordinates

variable (s : Shape) (h : S_.BroadcastsInDim s (![] : Fin 0 → Fin s.rank))

def k14 : IVec S_ 32 := id (constantI S_ 32 14#32)

/-- The floor of a fourteenth, as it prints. -/
def divV (x : IVec s 32) : IVec s 32 :=
  select (andi (cmpi .ne (signi x) (broadcastInDim s ![] h (signi k14))) (cmpi .ne (Host.remsi x (broadcastInDim s ![] h k14)) (broadcastInDim s ![] h (constantI S_ 32 0#32)))) (subi (Host.divsi x (broadcastInDim s ![] h k14)) (broadcastInDim s ![] h (constantI S_ 32 1#32))) (Host.divsi x (broadcastInDim s ![] h k14))

def d14 : IVec S_ 32 := select (cmpi .eq k14 (constantI S_ 32 0#32)) (constantI S_ 32 1#32) k14

/-- The remainder, as it prints. -/
def modV (x : IVec s 32) : IVec s 32 :=
  select (andi (cmpi .ne (cmpi .slt (Host.remsi x (broadcastInDim s ![] h d14)) (broadcastInDim s ![] h (constantI S_ 32 0#32))) (broadcastInDim s ![] h (cmpi .slt d14 (constantI S_ 32 0#32)))) (cmpi .ne (Host.remsi x (broadcastInDim s ![] h d14)) (broadcastInDim s ![] h (constantI S_ 32 0#32)))) (addi (Host.remsi x (broadcastInDim s ![] h d14)) (broadcastInDim s ![] h d14)) (Host.remsi x (broadcastInDim s ![] h d14))

theorem scalar_bcast : S_.BroadcastsInDim S_ (![] : Fin 0 → Fin S_.rank) := by decide

theorem divV_word : ∀ n : Fin 196, divV S_ scalar_bcast (fun _ => wN n.val) (Shape.Idx.first h_S_) = wN (n.val / 14) := by decide +kernel
theorem modV_word : ∀ n : Fin 196, modV S_ scalar_bcast (fun _ => wN n.val) (Shape.Idx.first h_S_) = wN (n.val % 14) := by decide +kernel

theorem divV_ap {x : IVec s 32} {j : s.Idx} {n : ℕ} (hn : n < 196) (hx : x j = wN n) : divV s h x j = wN (n / 14) := by
  rw [← divV_word ⟨n, hn⟩]
  show divV s h x j = divV S_ scalar_bcast (fun _ => wN n) (Shape.Idx.first h_S_)
  rw [← hx]
  rfl
theorem modV_ap {x : IVec s 32} {j : s.Idx} {n : ℕ} (hn : n < 196) (hx : x j = wN n) : modV s h x j = wN (n % 14) := by
  rw [← modV_word ⟨n, hn⟩]
  show modV s h x j = modV S_ scalar_bcast (fun _ => wN n) (Shape.Idx.first h_S_)
  rw [← hx]
  rfl

end Coordinates

/-! ## The first maximum -/

def iotaC : IVec S196 32 := iotaInDim S196 32 0
theorem iotaC_ap {p : ℕ} (hp : p < 196) : iotaC (pos p) = wN p := by
  show BitVec.ofNat 32 (p % 196) = _
  rw [Nat.mod_eq_of_lt hp]

theorem red196 : S4096x196.Reduces [1] S4096 := by decide
theorem red6 : S4096x6.Reduces [1] S4096 := by decide

theorem lift196 (b : ℕ) (k : Fin 196) : red196.lift (one b) k = fcell b k.val := by
  funext a
  match a with
  | 0 => rfl
  | 1 => exact Fin.ext (Nat.mod_eq_of_lt k.isLt).symm
theorem lift6 (b : ℕ) (k : Fin 6) : red6.lift (one b) k = scell b k.val := by
  funext a
  match a with
  | 0 => rfl
  | 1 => exact Fin.ext (Nat.mod_eq_of_lt k.isLt).symm

/-- A reduction of a row's cells that absorbs into the value of one of them. -/
theorem reduce196 {α : Type} (f : α → α → α) [Std.Commutative f] [Std.Associative f] (x : S4096x196.Idx → α) (init : S_.Idx → α)
    (b : ℕ) {a : α} {i : ℕ} (hi : i < 196) (e : x (fcell b i) = a) (h0 : f a (init (Shape.Idx.first h_S_)) = a)
    (hx : ∀ p < 196, p ≠ i → f a (x (fcell b p)) = a) :
    Host.reduce f x init reducesTo_S4096x196_S4096_d1 h_S_ (one b) = a := by
  rw [Host.reduce_eq_fold_single f x init _ red196]
  refine fold_absorb f _ _ (k0 := (⟨i, hi⟩ : Fin 196)) (Finset.mem_univ _) ?_ h0 fun k _ hk => ?_
  · exact (congrArg x (lift196 b ⟨i, hi⟩)).trans e
  · exact (congrArg (fun j => f a (x j)) (lift196 b k)).trans (hx _ k.isLt fun h => hk (Fin.ext h))

theorem reduce6 {α : Type} (f : α → α → α) [Std.Commutative f] [Std.Associative f] (x : S4096x6.Idx → α) (init : S_.Idx → α)
    (b : ℕ) {a : α} {i : ℕ} (hi : i < 6) (e : x (scell b i) = a) (h0 : f a (init (Shape.Idx.first h_S_)) = a)
    (hx : ∀ p < 6, p ≠ i → f a (x (scell b p)) = a) :
    Host.reduce f x init reducesTo_S4096x6_S4096_d1 h_S_ (one b) = a := by
  rw [Host.reduce_eq_fold_single f x init _ red6]
  refine fold_absorb f _ _ (k0 := (⟨i, hi⟩ : Fin 6)) (Finset.mem_univ _) ?_ h0 fun k _ hk => ?_
  · exact (congrArg x (lift6 b ⟨i, hi⟩)).trans e
  · exact (congrArg (fun j => f a (x j)) (lift6 b k)).trans (hx _ k.isLt fun h => hk (Fin.ext h))

/-- The first cell of each row at which the row's maximum stands, as it prints. -/
def firstV (x : FVec Ideal S4096x196 .f32) : IVec S4096 32 :=
  Host.reduce IntOp.minsi (select (cmpf .oeq x (overCells (Host.reduce FloatOps.maximumf x (constant S_ .f32 0xFF800000#32) reducesTo_S4096x196_S4096_d1 h_S_))) (overRows (flat1 iotaC)) (broadcastInDim S4096x196 ![] bcast_S_S4096x196 (id (constantI S_ 32 196#32)))) (constantI S_ 32 2147483647#32) reducesTo_S4096x196_S4096_d1 h_S_

theorem neg_inf : (constant (F := Ideal) S_ .f32 0xFF800000#32 (Shape.Idx.first h_S_) : EReal) = ⊥ := by
  show Ideal.ofBits .f32 0xFF800000#32 = ⊥
  simp [Ideal.ofBits, Ideal.ieee]

theorem firstV_ap {x : FVec Ideal S4096x196 .f32} {b i : ℕ} (h : FirstMax 196 (α := EReal) (fun p => x (fcell b p)) i) :
    firstV x (one b) = wN i := by
  obtain ⟨hi, hmax, hfirst⟩ := h
  have top : Host.reduce FloatOps.maximumf x (constant S_ .f32 0xFF800000#32) reducesTo_S4096x196_S4096_d1 h_S_ (one b) = x (fcell b i) := by
    refine reduce196 _ x _ b hi rfl ?_ fun p hp _ => ?_
    · rw [neg_inf]
      exact max_eq_left bot_le
    · exact max_eq_left (hmax p hp)
  have word : ∀ p < 196, select (cmpf .oeq x (overCells (Host.reduce FloatOps.maximumf x (constant S_ .f32 0xFF800000#32) reducesTo_S4096x196_S4096_d1 h_S_))) (overRows (flat1 iotaC)) (broadcastInDim S4096x196 ![] bcast_S_S4096x196 (id (constantI S_ 32 196#32))) (fcell b p)
      = if (x (fcell b p) : EReal) = x (fcell b i) then wN p else wN 196 := by
    intro p hp
    show (if FloatOps.cmpf (F := Ideal) (φ := .f32) .oeq (x (fcell b p)) (overCells _ (fcell b p)) = 1 then overRows (flat1 iotaC) (fcell b p) else wN 196) = _
    rw [overCells_ap, top, overRows_ap, iotaC_ap hp]
    simp only [oeq_iff]
  refine reduce196 _ _ _ b hi (by rw [word i hi, if_pos rfl]) (minsi_wN (b := 2147483647) (by omega) (by decide)) fun p hp hne => ?_
  rw [word p hp]
  split
  · next e =>
    refine minsi_wN ?_ (by omega)
    by_contra hlt
    exact absurd e (hfirst p (by omega)).ne
  · exact minsi_wN (by omega) (by decide)

/-! ## The suppression -/

/-- The window around each row's pick set to zero, as it prints. -/
def supV (u v : IVec S1x196 32) (x y : IVec S4096 32) (heat : FVec Ideal S4096x196 .f32) : FVec Ideal S4096x196 .f32 :=
  select (andi (andi (andi (cmpi .sge (overRows u) (overCells (maxsi (subi x (broadcastInDim S4096 ![] bcast_S_S4096 (constantI S_ 32 5#32))) (broadcastInDim S4096 ![] bcast_S_S4096 (constantI S_ 32 0#32)))))
    (cmpi .slt (overRows u) (overCells (minsi (addi x (broadcastInDim S4096 ![] bcast_S_S4096 (constantI S_ 32 5#32))) (broadcastInDim S4096 ![] bcast_S_S4096 (constantI S_ 32 15#32))))))
    (cmpi .sge (overRows v) (overCells (maxsi (subi y (broadcastInDim S4096 ![] bcast_S_S4096 (constantI S_ 32 5#32))) (broadcastInDim S4096 ![] bcast_S_S4096 (constantI S_ 32 0#32))))))
    (cmpi .slt (overRows v) (overCells (minsi (addi y (broadcastInDim S4096 ![] bcast_S_S4096 (constantI S_ 32 5#32))) (broadcastInDim S4096 ![] bcast_S_S4096 (constantI S_ 32 15#32))))))
    (broadcastInDim S4096x196 ![] bcast_S_S4096x196 (constant S_ .f32 0x00000000#32)) heat

theorem low_word : ∀ u x : Fin 14, IntOp.cmpi .sge (wN u.val) (IntOp.maxsi (IntOp.subi (wN x.val) 5#32) 0#32)
    = BitVec.ofBool (decide (x.val ≤ u.val + 5)) := by decide +kernel
theorem high_word : ∀ u x : Fin 14, IntOp.cmpi .slt (wN u.val) (IntOp.minsi (IntOp.addi (wN x.val) 5#32) 15#32)
    = BitVec.ofBool (decide (u.val < x.val + 5)) := by decide +kernel

theorem and_ofBool (a b : Bool) : IntOp.andi (BitVec.ofBool a) (BitVec.ofBool b) = BitVec.ofBool (a && b) := by
  cases a <;> cases b <;> decide

theorem supV_ap {u v : IVec S196 32} {x y : IVec S4096 32} {heat : FVec Ideal S4096x196 .f32} {b m p : ℕ} (hm : m < 196) (hp : p < 196)
    (hu : u (pos p) = wN (p / 14)) (hv : v (pos p) = wN (p % 14)) (hx : x (one b) = wN (m / 14)) (hy : y (one b) = wN (m % 14)) :
    (supV (flat1 u) (flat1 v) x y heat (fcell b p) : EReal) = if Near 100 m p then 0 else heat (fcell b p) := by
  have e : supV (flat1 u) (flat1 v) x y heat (fcell b p) = if IntOp.andi (IntOp.andi (IntOp.andi
      (IntOp.cmpi .sge (overRows (flat1 u) (fcell b p)) (overCells (maxsi (subi x (broadcastInDim S4096 ![] bcast_S_S4096 (constantI S_ 32 5#32))) (broadcastInDim S4096 ![] bcast_S_S4096 (constantI S_ 32 0#32))) (fcell b p)))
      (IntOp.cmpi .slt (overRows (flat1 u) (fcell b p)) (overCells (minsi (addi x (broadcastInDim S4096 ![] bcast_S_S4096 (constantI S_ 32 5#32))) (broadcastInDim S4096 ![] bcast_S_S4096 (constantI S_ 32 15#32))) (fcell b p))))
      (IntOp.cmpi .sge (overRows (flat1 v) (fcell b p)) (overCells (maxsi (subi y (broadcastInDim S4096 ![] bcast_S_S4096 (constantI S_ 32 5#32))) (broadcastInDim S4096 ![] bcast_S_S4096 (constantI S_ 32 0#32))) (fcell b p))))
      (IntOp.cmpi .slt (overRows (flat1 v) (fcell b p)) (overCells (minsi (addi y (broadcastInDim S4096 ![] bcast_S_S4096 (constantI S_ 32 5#32))) (broadcastInDim S4096 ![] bcast_S_S4096 (constantI S_ 32 15#32))) (fcell b p)))
      = 1 then zero1 (F := Ideal) else heat (fcell b p) := rfl
  have low : ∀ {n k : ℕ} {z : IVec S4096 32} (hn : n < 14) (hk : k < 14) (hz : z (one b) = wN k),
      IntOp.cmpi .sge (wN n) (maxsi (subi z (broadcastInDim S4096 ![] bcast_S_S4096 (constantI S_ 32 5#32))) (broadcastInDim S4096 ![] bcast_S_S4096 (constantI S_ 32 0#32)) (one b))
        = BitVec.ofBool (decide (k ≤ n + 5)) := by
    intro n k z hn hk hz
    rw [← low_word ⟨n, hn⟩ ⟨k, hk⟩]
    show IntOp.cmpi .sge (wN n) (IntOp.maxsi (IntOp.subi (z (one b)) 5#32) 0#32) = _
    rw [hz]
  have high : ∀ {n k : ℕ} {z : IVec S4096 32} (hn : n < 14) (hk : k < 14) (hz : z (one b) = wN k),
      IntOp.cmpi .slt (wN n) (minsi (addi z (broadcastInDim S4096 ![] bcast_S_S4096 (constantI S_ 32 5#32))) (broadcastInDim S4096 ![] bcast_S_S4096 (constantI S_ 32 15#32)) (one b))
        = BitVec.ofBool (decide (n < k + 5)) := by
    intro n k z hn hk hz
    rw [← high_word ⟨n, hn⟩ ⟨k, hk⟩]
    show IntOp.cmpi .slt (wN n) (IntOp.minsi (IntOp.addi (z (one b)) 5#32) 15#32) = _
    rw [hz]
  rw [e]
  simp only [overRows_ap, overCells_ap]
  have h1 : p / 14 < 14 := by omega
  have h2 : p % 14 < 14 := Nat.mod_lt _ (by decide)
  have h3 : m / 14 < 14 := by omega
  have h4 : m % 14 < 14 := Nat.mod_lt _ (by decide)
  rw [hu, hv, low h1 h3 hx, high h1 h3 hx, low h2 h4 hy, high h2 h4 hy, and_ofBool, and_ofBool, and_ofBool]
  have hc : (BitVec.ofBool (((decide (m / 14 ≤ p / 14 + 5) && decide (p / 14 < m / 14 + 5)) && decide (m % 14 ≤ p % 14 + 5)) && decide (p % 14 < m % 14 + 5)) = 1)
      ↔ Near 100 m p := by
    rw [near_iff hm hp]
    refine (ofBool_one _).trans ?_
    simp only [Bool.and_eq_true, decide_eq_true_eq, and_assoc]
  by_cases hn : Near 100 m p
  · rw [if_pos (hc.2 hn), if_pos hn, zero1_eq]
  · rw [if_neg fun h => hn (hc.1 h), if_neg hn]

/-! ## The pairs -/

/-- Six vectors over the rows, side by side, as they print. -/
def sixV (c : Fin 6 → IVec S4096 32) : IVec S4096x6 32 :=
  concatenate S4096x6 1 (List.ofFn fun n : Fin 6 => (⟨S4096x1, broadcastInDim S4096x1 ![0] bcast_S4096_S4096x1_0 (c n)⟩ : (s : Shape) × (s.Idx → BitVec 32)))
    concatenates_S4096x1_S4096x1_S4096x1_S4096x1_S4096x1_S4096x1_S4096x6_d1

def ccell (b : ℕ) : S4096x1.Idx :=
  fun a => match a with
    | 0 => ⟨b % 4096, Nat.mod_lt _ (by decide)⟩
    | 1 => ⟨0, by decide⟩

theorem sixV_ap (c : Fin 6 → IVec S4096 32) (b : ℕ) (k : Fin 6) : sixV c (scell b k.val) = c k (one b) := by
  unfold sixV
  refine (concatenate_ofFn_unit_apply (1 : Fin S4096x6.rank) (fun n : Fin 6 => broadcastInDim S4096x1 ![0] bcast_S4096_S4096x1_0 (c n)) _ rfl rfl
    (scell b k.val) k (Nat.mod_eq_of_lt k.isLt) (ccell b) ?_).trans ?_
  · intro a ha
    match a with
    | 0 => rfl
    | 1 => exact absurd rfl ha
  · exact congrArg (c k) (funext fun a => match a with | 0 => rfl)

def iotaP : IVec S6 32 := iotaInDim S6 32 0
theorem iotaP_ap {p : ℕ} (hp : p < 6) : iotaP (num p) = wN p := by
  show BitVec.ofNat 32 (p % 6) = _
  rw [Nat.mod_eq_of_lt hp]

/-- The first of the six at which their maximum stands; and that place marked, as they print. -/
def firstP (x : IVec S4096x6 32) : IVec S4096 32 :=
  Host.reduce IntOp.minsi (select (cmpi .eq x (overSix (Host.reduce IntOp.maxsi x (constantI S_ 32 2147483648#32) reducesTo_S4096x6_S4096_d1 h_S_))) (sixOver iotaP) (broadcastInDim S4096x6 ![] bcast_S_S4096x6 (id (constantI S_ 32 6#32)))) (constantI S_ 32 2147483647#32) reducesTo_S4096x6_S4096_d1 h_S_
def markP (x : IVec S4096x6 32) : IVec S4096x6 1 := cmpi .eq (overSix (firstP x)) (sixOver iotaP)
def takeP (c : IVec S4096x6 1) (x : IVec S4096x6 32) : IVec S4096 32 :=
  Host.reduce IntOp.addi (select c x (broadcastInDim S4096x6 ![] bcast_S_S4096x6 (id (constantI S_ 32 0#32)))) (constantI S_ 32 0#32) reducesTo_S4096x6_S4096_d1 h_S_

theorem select_ap (c : IVec S4096x6 1) (x : IVec S4096x6 32) (w : BitVec 32) (j : S4096x6.Idx) :
    select c x (broadcastInDim S4096x6 ![] bcast_S_S4096x6 (id (constantI S_ 32 w))) j = if c j = 1 then x j else w := rfl
theorem cmpi_ap (x y : IVec S4096x6 32) (j : S4096x6.Idx) : cmpi .eq x y j = IntOp.cmpi .eq (x j) (y j) := rfl

theorem least_word : 2147483648#32 = wI (-2147483648) := by decide

theorem firstP_ap {x : IVec S4096x6 32} {b i : ℕ} {d : ℕ → ℤ} (hd : ∀ k < 6, x (scell b k) = wI (d k)) (hb : ∀ k < 6, 0 ≤ d k ∧ d k ≤ 338)
    (h : FirstMax 6 d i) : firstP x (one b) = wN i := by
  obtain ⟨hi, hmax, hfirst⟩ := h
  have top : Host.reduce IntOp.maxsi x (constantI S_ 32 2147483648#32) reducesTo_S4096x6_S4096_d1 h_S_ (one b) = wI (d i) := by
    refine reduce6 _ x _ b hi (hd i hi) ?_ fun p hp _ => ?_
    · rw [show constantI S_ 32 2147483648#32 (Shape.Idx.first h_S_) = wI (-2147483648) from least_word]
      exact maxsi_wI (by have := hb i hi; omega) (by have := hb i hi; omega) (by omega)
    · rw [hd p hp]
      exact maxsi_wI (hmax p hp) (by have := hb i hi; omega) (by have := hb p hp; omega)
  have word : ∀ p < 6, select (cmpi .eq x (overSix (Host.reduce IntOp.maxsi x (constantI S_ 32 2147483648#32) reducesTo_S4096x6_S4096_d1 h_S_))) (sixOver iotaP) (broadcastInDim S4096x6 ![] bcast_S_S4096x6 (id (constantI S_ 32 6#32))) (scell b p)
      = if d p = d i then wN p else wN 6 := by
    intro p hp
    rw [select_ap, cmpi_ap, overSix_ap, top, sixOver_ap, iotaP_ap hp, hd p hp]
    have hq := hb p hp
    have hq' := hb i hi
    by_cases e : d p = d i
    · rw [if_pos e, if_pos (cmpi_eq_one.2 (by rw [e]))]
    · rw [if_neg e, if_neg fun h => e (wI_inj (by omega) (by omega) (cmpi_eq_one.1 h))]
  refine reduce6 _ _ _ b hi (by rw [word i hi, if_pos rfl]) (minsi_wN (b := 2147483647) (by omega) (by decide)) fun p hp hne => ?_
  rw [word p hp]
  split
  · next e =>
    refine minsi_wN ?_ (by omega)
    by_contra hlt
    exact absurd e (hfirst p (by omega)).ne
  · exact minsi_wN (by omega) (by decide)

theorem takeP_ap {c x : IVec S4096x6 32} {b i : ℕ} (hi : i < 6) (h : firstP c (one b) = wN i) : takeP (markP c) x (one b) = x (scell b i) := by
  have word : ∀ p < 6, select (markP c) x (broadcastInDim S4096x6 ![] bcast_S_S4096x6 (id (constantI S_ 32 0#32))) (scell b p)
      = if p = i then x (scell b p) else 0#32 := by
    intro p hp
    rw [markP, select_ap, cmpi_ap, overSix_ap, sixOver_ap, iotaP_ap hp, h]
    by_cases e : p = i
    · rw [if_pos e, if_pos (cmpi_eq_one.2 (by rw [e]))]
    · rw [if_neg e, if_neg fun h => e (wN_inj (by omega) (by omega) (cmpi_eq_one.1 h)).symm]
  refine reduce6 _ _ _ b hi (by rw [word i hi, if_pos rfl]) (BitVec.add_zero _) fun p hp hne => ?_
  rw [word p hp, if_neg hne]
  exact BitVec.add_zero _

end Cert.ReferenceIdeal.Hand
-- ==== Proof.Alg.lean ====
/-
  The reference's results are the two maps of the row's four picks: its rounds, its pairs and its last comparison, one
  after another, and the two programs' results equal.
-/
module

public import proofs.«01_k».proof.Proof.Ref

@[expose] public section

noncomputable section

namespace Cert.ReferenceIdeal.Hand

open Cert.ReferenceIdeal Cert.ReferenceIdeal.Gen Cert.ReferenceIdeal.Value Cert.KernelIdeal.Hand
open Idealize.ShloMosaic Idealize.ShloMosaic.TcCoe Idealize.SL.Sem Idealize.ShloMosaic.StableHlo

/-! ## Terms at a cell -/

theorem bit_zero {c : BitVec 1} (h : ¬c = 1) : c = 0 := by
  revert c; decide

/-- A sum of two squares; whether one such sum is less than another; whether a value is under nine tenths. -/
theorem squares_ap (x y : IVec S4096x6 32) (j : S4096x6.Idx) : addi (muli x x) (muli y y) j = x j * x j + y j * y j := rfl
theorem diff_ap (x y : IVec S4096x6 32) (j : S4096x6.Idx) : subi x y j = x j - y j := rfl
def nearV (x y u v : IVec S4096x196 32) : FVec Ideal S4096x196 .f32 :=
  uitofp .f32 (cmpi .slt (addi (muli x x) (muli y y)) (addi (muli u u) (muli v v)))
theorem nearV_ap (x y u v : IVec S4096x196 32) (j : S4096x196.Idx) : (nearV x y u v j : EReal)
    = (((BitVec.ofBool ((x j * x j + y j * y j).slt (u j * u j + v j * v j))).toNat : ℝ) : EReal) := rfl
def underV (y : FVec Ideal S4096x196 .f32) : FVec Ideal S4096x196 .f32 :=
  uitofp .f32 (cmpf .olt y (broadcastInDim S4096x196 ![] bcast_S_S4096x196 (constant S_ .f32 0x3F666666#32)))
theorem underV_ap (y : FVec Ideal S4096x196 .f32) (j : S4096x196.Idx) : (underV y j : EReal)
    = (((BitVec.ofBool (decide ((y j : EReal) < Ideal.ofBits .f32 0x3F666666#32))).toNat : ℝ) : EReal) := rfl
def overV (x : FVec Ideal S4096x196 .f32) : FVec Ideal S4096x196 .f32 :=
  mulf x (uitofp .f32 (cmpf .ogt x (broadcastInDim S4096x196 ![] bcast_S_S4096x196 (constant S_ .f32 0x3F19999A#32))))
theorem overV_ap (x : FVec Ideal S4096x196 .f32) (j : S4096x196.Idx) : (overV x j : EReal)
    = (x j : EReal) * (((FloatOps.cmpf (F := Ideal) (φ := .f32) .ogt (x j) thr1).toNat : ℝ) : EReal) := rfl

/-- The rows' cells laid out flat, and back. -/
theorem flat_ap (x : S4096x1x14x14.Idx → Ideal .f32) (h : S4096x1x14x14.ShapeCasts S4096x196) (b : ℕ) {p : ℕ} (hp : p < 196) :
    shapeCast S4096x196 x h (fcell b p) = x (rcell b p) := congrArg x (flat_place h hp)
theorem unflat_ap (x : S4096x196.Idx → Ideal .f32) (h : S4096x196.ShapeCasts S4096x1x14x14) (b : ℕ) {p : ℕ} (hp : p < 196) :
    shapeCast S4096x1x14x14 x h (rcell b p) = x (fcell b p) := congrArg x (unflat_place h hp)

theorem subi_ap (x y : IVec S4096x196 32) (j : S4096x196.Idx) : subi x y j = x j - y j := rfl

/-! ## The printed terms, named -/

section Named

variable (V : Valuation τ sig (Elt Ideal))

theorem v4_eq : res_main_v4 V = overV (res_main_v0 V) := rfl
theorem v7_eq : res_main_v7 V = flat1 (divV S196 bcast_S_S196 iotaC) := rfl
theorem v9_eq : res_main_v9 V = flat1 (modV S196 bcast_S_S196 iotaC) := rfl
theorem v17_eq : res_main_v17 V = firstV (res_main_v4 V) := rfl
theorem v18_eq : res_main_v18 V = divV S4096 bcast_S_S4096 (res_main_v17 V) := rfl
theorem v19_eq : res_main_v19 V = modV S4096 bcast_S_S4096 (res_main_v17 V) := rfl
theorem v56_eq : res_main_v56 V = supV (res_main_v7 V) (res_main_v9 V) (res_main_v18 V) (res_main_v19 V) (res_main_v4 V) := rfl
theorem v64_eq : res_main_v64 V = firstV (res_main_v56 V) := rfl
theorem v65_eq : res_main_v65 V = divV S4096 bcast_S_S4096 (res_main_v64 V) := rfl
theorem v66_eq : res_main_v66 V = modV S4096 bcast_S_S4096 (res_main_v64 V) := rfl
theorem v103_eq : res_main_v103 V = supV (res_main_v7 V) (res_main_v9 V) (res_main_v65 V) (res_main_v66 V) (res_main_v56 V) := rfl
theorem v111_eq : res_main_v111 V = firstV (res_main_v103 V) := rfl
theorem v112_eq : res_main_v112 V = divV S4096 bcast_S_S4096 (res_main_v111 V) := rfl
theorem v113_eq : res_main_v113 V = modV S4096 bcast_S_S4096 (res_main_v111 V) := rfl
theorem v150_eq : res_main_v150 V = supV (res_main_v7 V) (res_main_v9 V) (res_main_v112 V) (res_main_v113 V) (res_main_v103 V) := rfl
theorem v158_eq : res_main_v158 V = firstV (res_main_v150 V) := rfl
theorem v159_eq : res_main_v159 V = divV S4096 bcast_S_S4096 (res_main_v158 V) := rfl
theorem v160_eq : res_main_v160 V = modV S4096 bcast_S_S4096 (res_main_v158 V) := rfl
theorem v167_eq : res_main_v167 V = sixV ![res_main_v18 V, res_main_v18 V, res_main_v18 V, res_main_v65 V, res_main_v65 V, res_main_v112 V] := rfl
theorem v174_eq : res_main_v174 V = sixV ![res_main_v19 V, res_main_v19 V, res_main_v19 V, res_main_v66 V, res_main_v66 V, res_main_v113 V] := rfl
theorem v181_eq : res_main_v181 V = sixV ![res_main_v65 V, res_main_v112 V, res_main_v159 V, res_main_v112 V, res_main_v159 V, res_main_v159 V] := rfl
theorem v188_eq : res_main_v188 V = sixV ![res_main_v66 V, res_main_v113 V, res_main_v160 V, res_main_v113 V, res_main_v160 V, res_main_v160 V] := rfl
theorem v193_eq : res_main_v193 V = addi (muli (subi (res_main_v181 V) (res_main_v167 V)) (subi (res_main_v181 V) (res_main_v167 V)))
    (muli (subi (res_main_v188 V) (res_main_v174 V)) (subi (res_main_v188 V) (res_main_v174 V))) := rfl
theorem v207_eq : res_main_v207 V = markP (res_main_v193 V) := rfl
theorem v213_eq : res_main_v213 V = subi (overRows (res_main_v7 V)) (overCells (takeP (res_main_v207 V) (res_main_v167 V))) := rfl
theorem v220_eq : res_main_v220 V = subi (overRows (res_main_v9 V)) (overCells (takeP (res_main_v207 V) (res_main_v174 V))) := rfl
theorem v228_eq : res_main_v228 V = subi (overRows (res_main_v7 V)) (overCells (takeP (res_main_v207 V) (res_main_v181 V))) := rfl
theorem v235_eq : res_main_v235 V = subi (overRows (res_main_v9 V)) (overCells (takeP (res_main_v207 V) (res_main_v188 V))) := rfl
theorem v239_eq : res_main_v239 V = nearV (res_main_v213 V) (res_main_v220 V) (res_main_v228 V) (res_main_v235 V) := rfl

end Named

/-! ## The rounds -/

/-- Row `b` of `x` is the thresholded row `ρ`. -/
def Heat (x : FVec Ideal S4096x196 .f32) (b : ℕ) (ρ : RowE) : Prop := ∀ p < 196, (x (fcell b p) : EReal) = thS ρ p

theorem Heat.pick {x : FVec Ideal S4096x196 .f32} {b : ℕ} {ρ : RowE} (h : Heat x b ρ) : firstV x (one b) = wN (pickS ρ) := by
  obtain ⟨hi, hmax, hfirst⟩ := pickS_first ρ
  refine firstV_ap ⟨hi, fun p hp => ?_, fun p hp => ?_⟩
  · show (x (fcell b p) : EReal) ≤ x (fcell b (pickS ρ))
    rw [h p hp, h _ hi]
    exact hmax p hp
  · show (x (fcell b p) : EReal) < x (fcell b (pickS ρ))
    rw [h p (by omega), h _ hi]
    exact hfirst p hp

theorem Heat.sup {x : FVec Ideal S4096x196 .f32} {b : ℕ} {ρ : RowE} (h : Heat x b ρ) {n : IVec S4096 32} (hn : n (one b) = wN (pickS ρ)) :
    Heat (supV (flat1 (divV S196 bcast_S_S196 iotaC)) (flat1 (modV S196 bcast_S_S196 iotaC)) (divV S4096 bcast_S_S4096 n)
      (modV S4096 bcast_S_S4096 n) x) b (supS ρ (pickS ρ)) := by
  intro p hp
  have hm : pickS ρ < 196 := pickS_lt ρ
  rw [supV_ap hm hp (divV_ap _ _ hp (iotaC_ap hp)) (modV_ap _ _ hp (iotaC_ap hp)) (divV_ap _ _ hm hn) (modV_ap _ _ hm hn), thS_sup,
    h p hp]

section Row

variable {V : Valuation τ sig (Elt Ideal)} {a : S4096x1x14x14.Idx → Ideal .f32}
  (hV : V (Proc.devRef .tc main_arg0) = a)

include hV

theorem v0_ap (b : ℕ) {p : ℕ} (hp : p < 196) : res_main_v0 V (fcell b p) = rowOf a b p := by
  subst hV
  exact flat_ap (V (Proc.devRef .tc main_arg0)) _ b hp

theorem heat0 (b : ℕ) : Heat (res_main_v4 V) b (rowS (rowOf a b) 0) := by
  intro p hp
  have e : (res_main_v4 V (fcell b p) : EReal) = (rowOf a b p : EReal)
      * (((FloatOps.cmpf (F := Ideal) (φ := .f32) .ogt (rowOf a b p) thr1).toNat : ℝ) : EReal) := by
    rw [← v0_ap hV b hp, v4_eq]
    exact overV_ap _ _
  rw [e]
  show _ = if thrE < rowOf a b p then rowOf a b p else 0
  by_cases h : thrE < rowOf a b p
  · rw [if_pos h, (ogt_iff _ _).2 h]
    simp
  · rw [if_neg h, bit_zero fun e => h ((ogt_iff _ _).1 e)]
    simp

theorem pick0 (b : ℕ) : res_main_v17 V (one b) = wN (pickN (rowOf a b) 0) := by
  rw [v17_eq]
  exact (heat0 hV b).pick
theorem heat1 (b : ℕ) : Heat (res_main_v56 V) b (rowS (rowOf a b) 1) := by
  rw [v56_eq, v7_eq, v9_eq, v18_eq, v19_eq]
  exact (heat0 hV b).sup (pick0 hV b)
theorem pick1 (b : ℕ) : res_main_v64 V (one b) = wN (pickN (rowOf a b) 1) := by
  rw [v64_eq]
  exact (heat1 hV b).pick
theorem heat2 (b : ℕ) : Heat (res_main_v103 V) b (rowS (rowOf a b) 2) := by
  rw [v103_eq, v7_eq, v9_eq, v65_eq, v66_eq]
  exact (heat1 hV b).sup (pick1 hV b)
theorem pick2 (b : ℕ) : res_main_v111 V (one b) = wN (pickN (rowOf a b) 2) := by
  rw [v111_eq]
  exact (heat2 hV b).pick
theorem heat3 (b : ℕ) : Heat (res_main_v150 V) b (rowS (rowOf a b) 3) := by
  rw [v150_eq, v7_eq, v9_eq, v112_eq, v113_eq]
  exact (heat2 hV b).sup (pick2 hV b)
theorem pick3 (b : ℕ) : res_main_v158 V (one b) = wN (pickN (rowOf a b) 3) := by
  rw [v158_eq]
  exact (heat3 hV b).pick

end Row

/-! ## The pairs -/

theorem point {n : IVec S4096 32} {b k : ℕ} (hk : k < 196) (h : n (one b) = wN k) :
    divV S4096 bcast_S_S4096 n (one b) = wI (px k) ∧ modV S4096 bcast_S_S4096 n (one b) = wI (py k) :=
  ⟨(divV_ap _ _ hk h).trans (wI_nat _).symm, (modV_ap _ _ hk h).trans (wI_nat _).symm⟩

/-- Six vectors side by side at a row. -/
theorem six_of (c : ℕ → ℤ) {v0 v1 v2 v3 v4 v5 : IVec S4096 32} {b : ℕ} (h0 : v0 (one b) = wI (c 0)) (h1 : v1 (one b) = wI (c 1))
    (h2 : v2 (one b) = wI (c 2)) (h3 : v3 (one b) = wI (c 3)) (h4 : v4 (one b) = wI (c 4)) (h5 : v5 (one b) = wI (c 5)) (k : Fin 6) :
    sixV ![v0, v1, v2, v3, v4, v5] (scell b k.val) = wI (c k.val) := by
  rw [sixV_ap]
  match k with
  | 0 => exact h0
  | 1 => exact h1
  | 2 => exact h2
  | 3 => exact h3
  | 4 => exact h4
  | 5 => exact h5

theorem pairAt_d (n : ℕ → ℕ) (k : ℕ) : ((pairAt n k).x2 - (pairAt n k).x1) * ((pairAt n k).x2 - (pairAt n k).x1)
    + ((pairAt n k).y2 - (pairAt n k).y1) * ((pairAt n k).y2 - (pairAt n k).y1) = (pairAt n k).d := by
  unfold pairAt
  split <;> rfl

theorem pairAt_bd {n : ℕ → ℕ} (h : ∀ i, n i < 196) (k : ℕ) : 0 ≤ (pairAt n k).d ∧ (pairAt n k).d ≤ 338 := by
  unfold pairAt
  split <;> exact dist2_bd (px_bd (h _)) (py_bd _) (px_bd (h _)) (py_bd _)

section Pairs

variable {V : Valuation τ sig (Elt Ideal)} {a : S4096x1x14x14.Idx → Ideal .f32}
  (hV : V (Proc.devRef .tc main_arg0) = a)

include hV

theorem x0_ap (b : ℕ) : res_main_v18 V (one b) = wI (px (pickN (rowOf a b) 0)) := by rw [v18_eq]; exact (point (pickN_lt _ _) (pick0 hV b)).1
theorem y0_ap (b : ℕ) : res_main_v19 V (one b) = wI (py (pickN (rowOf a b) 0)) := by rw [v19_eq]; exact (point (pickN_lt _ _) (pick0 hV b)).2
theorem x1_ap (b : ℕ) : res_main_v65 V (one b) = wI (px (pickN (rowOf a b) 1)) := by rw [v65_eq]; exact (point (pickN_lt _ _) (pick1 hV b)).1
theorem y1_ap (b : ℕ) : res_main_v66 V (one b) = wI (py (pickN (rowOf a b) 1)) := by rw [v66_eq]; exact (point (pickN_lt _ _) (pick1 hV b)).2
theorem x2_ap (b : ℕ) : res_main_v112 V (one b) = wI (px (pickN (rowOf a b) 2)) := by rw [v112_eq]; exact (point (pickN_lt _ _) (pick2 hV b)).1
theorem y2_ap (b : ℕ) : res_main_v113 V (one b) = wI (py (pickN (rowOf a b) 2)) := by rw [v113_eq]; exact (point (pickN_lt _ _) (pick2 hV b)).2
theorem x3_ap (b : ℕ) : res_main_v159 V (one b) = wI (px (pickN (rowOf a b) 3)) := by rw [v159_eq]; exact (point (pickN_lt _ _) (pick3 hV b)).1
theorem y3_ap (b : ℕ) : res_main_v160 V (one b) = wI (py (pickN (rowOf a b) 3)) := by rw [v160_eq]; exact (point (pickN_lt _ _) (pick3 hV b)).2

/-- The points' coordinates in the six places. -/
theorem ax_ap (b : ℕ) (k : Fin 6) : res_main_v167 V (scell b k.val) = wI (pairAt (pickN (rowOf a b)) k.val).x1 := by
  rw [v167_eq]
  exact six_of (fun k => (pairAt (pickN (rowOf a b)) k).x1) (x0_ap hV b) (x0_ap hV b) (x0_ap hV b) (x1_ap hV b) (x1_ap hV b) (x2_ap hV b) k
theorem ay_ap (b : ℕ) (k : Fin 6) : res_main_v174 V (scell b k.val) = wI (pairAt (pickN (rowOf a b)) k.val).y1 := by
  rw [v174_eq]
  exact six_of (fun k => (pairAt (pickN (rowOf a b)) k).y1) (y0_ap hV b) (y0_ap hV b) (y0_ap hV b) (y1_ap hV b) (y1_ap hV b) (y2_ap hV b) k
theorem bx_ap (b : ℕ) (k : Fin 6) : res_main_v181 V (scell b k.val) = wI (pairAt (pickN (rowOf a b)) k.val).x2 := by
  rw [v181_eq]
  exact six_of (fun k => (pairAt (pickN (rowOf a b)) k).x2) (x1_ap hV b) (x2_ap hV b) (x3_ap hV b) (x2_ap hV b) (x3_ap hV b) (x3_ap hV b) k
theorem by_ap (b : ℕ) (k : Fin 6) : res_main_v188 V (scell b k.val) = wI (pairAt (pickN (rowOf a b)) k.val).y2 := by
  rw [v188_eq]
  exact six_of (fun k => (pairAt (pickN (rowOf a b)) k).y2) (y1_ap hV b) (y2_ap hV b) (y3_ap hV b) (y2_ap hV b) (y3_ap hV b) (y3_ap hV b) k

theorem dist_ap (b : ℕ) (k : Fin 6) : res_main_v193 V (scell b k.val) = wI (pairAt (pickN (rowOf a b)) k.val).d := by
  rw [v193_eq, squares_ap, diff_ap, diff_ap, ax_ap hV, ay_ap hV, bx_ap hV, by_ap hV]
  simp only [wI_sub, wI_mul, wI_add]
  rw [pairAt_d]

/-- The coordinates taken are those of the row's farthest pair. -/
theorem far_ap (b : ℕ) : takeP (res_main_v207 V) (res_main_v167 V) (one b) = wI (pairS (rowOf a b)).x1
    ∧ takeP (res_main_v207 V) (res_main_v174 V) (one b) = wI (pairS (rowOf a b)).y1
    ∧ takeP (res_main_v207 V) (res_main_v181 V) (one b) = wI (pairS (rowOf a b)).x2
    ∧ takeP (res_main_v207 V) (res_main_v188 V) (one b) = wI (pairS (rowOf a b)).y2 := by
  obtain ⟨i, hi, e⟩ := farS_first (pickN (rowOf a b))
  have h : firstP (res_main_v193 V) (one b) = wN i :=
    firstP_ap (fun k hk => dist_ap hV b ⟨k, hk⟩) (fun k _ => pairAt_bd (fun i => pickN_lt _ i) k) hi
  have e' : pairS (rowOf a b) = pairAt (pickN (rowOf a b)) i := e
  rw [v207_eq, takeP_ap hi.1 h, takeP_ap hi.1 h, takeP_ap hi.1 h, takeP_ap hi.1 h, e']
  exact ⟨ax_ap hV b ⟨i, hi.1⟩, ay_ap hV b ⟨i, hi.1⟩, bx_ap hV b ⟨i, hi.1⟩, by_ap hV b ⟨i, hi.1⟩⟩

/-! ## The maps -/

theorem v239_ap (b : ℕ) {p : ℕ} (hp : p < 196) : res_main_v239 V (fcell b p) = map1 (rowOf a b) p := by
  have hx : divV S196 bcast_S_S196 iotaC (pos p) = wI (px p) := (divV_ap _ _ hp (iotaC_ap hp)).trans (wI_nat _).symm
  have hy : modV S196 bcast_S_S196 iotaC (pos p) = wI (py p) := (modV_ap _ _ hp (iotaC_ap hp)).trans (wI_nat _).symm
  obtain ⟨f1, f2, f3, f4⟩ := far_ap hV b
  have g1 : res_main_v213 V (fcell b p) = wI (px p - (pairS (rowOf a b)).x1) := by
    rw [v213_eq, v7_eq, subi_ap, overRows_ap, overCells_ap, hx, f1, wI_sub]
  have g2 : res_main_v220 V (fcell b p) = wI (py p - (pairS (rowOf a b)).y1) := by
    rw [v220_eq, v9_eq, subi_ap, overRows_ap, overCells_ap, hy, f2, wI_sub]
  have g3 : res_main_v228 V (fcell b p) = wI (px p - (pairS (rowOf a b)).x2) := by
    rw [v228_eq, v7_eq, subi_ap, overRows_ap, overCells_ap, hx, f3, wI_sub]
  have g4 : res_main_v235 V (fcell b p) = wI (py p - (pairS (rowOf a b)).y2) := by
    rw [v235_eq, v9_eq, subi_ap, overRows_ap, overCells_ap, hy, f4, wI_sub]
  have on := pairS_onMap (rowOf a b)
  have cx := px_bd hp
  have cy := py_bd p
  have d1 := dist2_bd on.x1 on.y1 cx cy
  have d2 := dist2_bd on.x2 on.y2 cx cy
  unfold dist2 at d1 d2
  rw [v239_eq]
  refine (nearV_ap _ _ _ _ _).trans ?_
  rw [g1, g2, g3, g4]
  simp only [wI_mul, wI_add]
  rw [slt_wI (by omega) (by omega)]
  unfold map1
  by_cases h : (pairS (rowOf a b)).First p
  · rw [if_pos h, decide_eq_true ((first_iff _ _).1 h)]
    refine Eq.trans ?_ one1_eq.symm
    simp
  · rw [if_neg h, decide_eq_false fun q => h ((first_iff _ _).2 q)]
    refine Eq.trans ?_ zero1_eq.symm
    simp

end Pairs

/-- Nine tenths, as it prints, lies between zero and one. -/
theorem tenths : (0 : EReal) < Ideal.ofBits .f32 0x3F666666#32 ∧ Ideal.ofBits .f32 0x3F666666#32 < (1 : EReal) := by
  constructor
  · simp [Ideal.ofBits, Ideal.ieee, -EReal.coe_mul]
  · simp [Ideal.ofBits, Ideal.ieee, -EReal.coe_mul]
    rw [← EReal.coe_one, EReal.coe_lt_coe_iff]
    norm_num

theorem second_ap {y : FVec Ideal S4096x196 .f32} {b p : ℕ} {r : RowE} (h : y (fcell b p) = map1 r p) : underV y (fcell b p) = map2 r p := by
  refine (underV_ap y _).trans ?_
  rw [h]
  show _ = (one1 (F := Ideal) : EReal) - map1 r p
  unfold map1
  split
  · rw [one1_eq, decide_eq_false (not_lt.2 tenths.2.le), ← EReal.coe_one, ← EReal.coe_sub]
    simp
  · rw [one1_eq, zero1_eq, decide_eq_true tenths.1]
    simp

theorem place (j : S4096x1x14x14.Idx) : ∃ b p, p < 196 ∧ j = rcell b p ∧ b = (j 0).val ∧ p = 14 * (j 2).val + (j 3).val := by
  have h2 : (j 2).val < 14 := (j 2).isLt
  have h3 : (j 3).val < 14 := (j 3).isLt
  exact ⟨_, _, by omega, rcell_all j, rfl, rfl⟩

/-- A map read row by row. -/
theorem by_rows {x : FVec Ideal S4096x196 .f32} {g : RowE → ℕ → Ideal .f32} {a : S4096x1x14x14.Idx → Ideal .f32} (h : S4096x196.ShapeCasts S4096x1x14x14)
    (hx : ∀ b p, p < 196 → x (fcell b p) = g (rowOf a b) p) :
    shapeCast S4096x1x14x14 x h = fun j => g (rowOf a (j 0).val) (14 * (j 2).val + (j 3).val) := by
  funext j
  obtain ⟨b, p, hp, hj, hb, hq⟩ := place j
  show _ = g (rowOf a (j 0).val) (14 * (j 2).val + (j 3).val)
  rw [← hb, ← hq, hj, unflat_ap x h b hp, hx b p hp]

section Results

variable {V : Valuation τ sig (Elt Ideal)} {a : S4096x1x14x14.Idx → Ideal .f32}
  (hV : V (Proc.devRef .tc main_arg0) = a)

include hV

theorem ref1 (h : S4096x196.ShapeCasts S4096x1x14x14) : shapeCast S4096x1x14x14 (res_main_v239 V) h = out1 a :=
  by_rows (g := map1) h fun b _ hp => v239_ap hV b hp

theorem ref2 (h : S4096x196.ShapeCasts S4096x1x14x14) : shapeCast S4096x1x14x14 (underV (res_main_v239 V)) h = out2 a :=
  by_rows (g := map2) h fun b _ hp => second_ap (v239_ap hV b hp)

end Results

/-- The reference's run: its results are the same functions of its argument as the kernel's. -/
theorem ref_values (m : (ℓ : Loc nD τ sig) → Buf (Elt Ideal) ℓ) (ρ : Dev nD → PrngReg) (a : Dev nD → S4096x1x14x14.Idx → Ideal .f32)
    (ha : ∀ c : Dev nD, m ((c.tc : Thread nD τ).loc main_arg0) = a c) :
    θ_run (defs (F := Ideal)) (onTc (τ := τ) (main (F := Ideal))) ⟨m, fun _ => 0, ρ⟩ fun r => ∀ c : Dev nD,
      r.2.mem ((c.tc : Thread nD τ).loc main_v243) = out1 (a c)
      ∧ r.2.mem ((c.tc : Thread nD τ).loc main_v244) = out2 (a c)
      ∧ r.2.mem ((c.tc : Thread nD τ).loc main_arg0) = m ((c.tc : Thread nD τ).loc main_arg0) :=
  (θ_run defs _ _).mono (fun r h c => ⟨(h c).1.trans (ref1 (V := launchContents m c) (ha c) _),
      (h c).2.1.trans (ref2 (V := launchContents m c) (ha c) _), (h c).2.2⟩) (Value.run (F := Ideal) m ρ)

end Cert.ReferenceIdeal.Hand
-- ==== Proof.Equal.lean ====
/-
  The two programs' results are equal, read over the extended reals.
-/
module

public import proofs.«01_k».proof.Proof.Frames
public import proofs.«01_k».proof.Proof.Alg

@[expose] public section

noncomputable section

namespace Cert.Proof

open Idealize.ShloMosaic Idealize.SL.Sem Cert.KernelIdeal.Hand

theorem equal_results : Cert.algebraic_KernelIdeal_ReferenceIdeal := fun m g m' g' _ hm =>
  ⟨fun c => out1 (argOf m c), fun c => out2 (argOf m c),
    (θ_run Cert.KernelIdeal.defs _ _).mono (fun _ h => h.1) (run_values (F := Ideal) m g),
    Cert.ReferenceIdeal.Hand.ref_values m' g' (fun c => argOf m c) hm⟩

end Cert.Proof
-- ==== Proof.lean ====
module

public import proofs.«01_k».proof.Defs
public import proofs.«01_k».proof.Proof.Frames
public import proofs.«01_k».proof.Proof.Equal

@[expose] public section

noncomputable section

namespace Cert.Proof

theorem claim : Cert.Claim := ⟨Cert.Kernel.Gen.facts, Cert.KernelIdeal.Gen.facts, Cert.ReferenceIdeal.Gen.facts,
  frame_kernel, frame_ideal, frame_ref, trivial, equal_results⟩

end Cert.Proof

end
